-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v16_0)) (v1 : (c : Dev Cert.Kernel2Ideal.nD) → Buf (Elt Ideal) ((c.tc : Thread Cert.Kernel2Ideal.nD Cert.Kernel2Ideal.τ).loc Cert.Kernel2Ideal.main_v16_1)) (v2 : (c : Dev Cert.Kernel2Ideal.nD) → Buf (Elt Ideal) ((c.tc : Thread Cert.Kernel2Ideal.nD Cert.Kernel2Ideal.τ).loc Cert.Kernel2Ideal.main_v16_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v16_0) = v0 c
          ∧ r.2.mem ((c.tc : Thread Cert.Kernel2Ideal.nD Cert.Kernel2Ideal.τ).loc Cert.Kernel2Ideal.main_v16_1) = v1 c
          ∧ r.2.mem ((c.tc : Thread Cert.Kernel2Ideal.nD Cert.Kernel2Ideal.τ).loc Cert.Kernel2Ideal.main_v16_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v76) = v0 c
          ∧ r.2.mem ((c.tc : Thread Cert.Reference2Ideal.nD Cert.Reference2Ideal.τ).loc Cert.Reference2Ideal.main_v77) = v1 c
          ∧ r.2.mem ((c.tc : Thread Cert.Reference2Ideal.nD Cert.Reference2Ideal.τ).loc Cert.Reference2Ideal.main_v74) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v8)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v8) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v38) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v30_0)) (v1 : (c : Dev Cert.Kernel4Ideal.nD) → Buf (Elt Ideal) ((c.tc : Thread Cert.Kernel4Ideal.nD Cert.Kernel4Ideal.τ).loc Cert.Kernel4Ideal.main_v30_1)) (v2 : (c : Dev Cert.Kernel4Ideal.nD) → Buf (Elt Ideal) ((c.tc : Thread Cert.Kernel4Ideal.nD Cert.Kernel4Ideal.τ).loc Cert.Kernel4Ideal.main_v30_2)) (v3 : (c : Dev Cert.Kernel4Ideal.nD) → Buf (Elt Ideal) ((c.tc : Thread Cert.Kernel4Ideal.nD Cert.Kernel4Ideal.τ).loc Cert.Kernel4Ideal.main_v30_3)) (v4 : (c : Dev Cert.Kernel4Ideal.nD) → Buf (Elt Ideal) ((c.tc : Thread Cert.Kernel4Ideal.nD Cert.Kernel4Ideal.τ).loc Cert.Kernel4Ideal.main_v30_4)) (v5 : (c : Dev Cert.Kernel4Ideal.nD) → Buf (Elt Ideal) ((c.tc : Thread Cert.Kernel4Ideal.nD Cert.Kernel4Ideal.τ).loc Cert.Kernel4Ideal.main_v30_5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v30_0) = v0 c
          ∧ r.2.mem ((c.tc : Thread Cert.Kernel4Ideal.nD Cert.Kernel4Ideal.τ).loc Cert.Kernel4Ideal.main_v30_1) = v1 c
          ∧ r.2.mem ((c.tc : Thread Cert.Kernel4Ideal.nD Cert.Kernel4Ideal.τ).loc Cert.Kernel4Ideal.main_v30_2) = v2 c
          ∧ r.2.mem ((c.tc : Thread Cert.Kernel4Ideal.nD Cert.Kernel4Ideal.τ).loc Cert.Kernel4Ideal.main_v30_3) = v3 c
          ∧ r.2.mem ((c.tc : Thread Cert.Kernel4Ideal.nD Cert.Kernel4Ideal.τ).loc Cert.Kernel4Ideal.main_v30_4) = v4 c
          ∧ r.2.mem ((c.tc : Thread Cert.Kernel4Ideal.nD Cert.Kernel4Ideal.τ).loc Cert.Kernel4Ideal.main_v30_5) = v5 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v67) = v0 c
          ∧ r.2.mem ((c.tc : Thread Cert.Reference4Ideal.nD Cert.Reference4Ideal.τ).loc Cert.Reference4Ideal.main_v89) = v1 c
          ∧ r.2.mem ((c.tc : Thread Cert.Reference4Ideal.nD Cert.Reference4Ideal.τ).loc Cert.Reference4Ideal.main_v92) = v2 c
          ∧ r.2.mem ((c.tc : Thread Cert.Reference4Ideal.nD Cert.Reference4Ideal.τ).loc Cert.Reference4Ideal.main_v93) = v3 c
          ∧ r.2.mem ((c.tc : Thread Cert.Reference4Ideal.nD Cert.Reference4Ideal.τ).loc Cert.Reference4Ideal.main_v94) = v4 c
          ∧ r.2.mem ((c.tc : Thread Cert.Reference4Ideal.nD Cert.Reference4Ideal.τ).loc Cert.Reference4Ideal.main_v95) = v5 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Kernel.lean ====
abbrev S8x4352x2048 : Shape := ⟨3, ![8, 4352, 2048]⟩
abbrev S8x4096x3072 : Shape := ⟨3, ![8, 4096, 3072]⟩
abbrev S8x4096x2048 : Shape := ⟨3, ![8, 4096, 2048]⟩
abbrev S8x4096x1024 : Shape := ⟨3, ![8, 4096, 1024]⟩
abbrev S2x16x3072 : Shape := ⟨3, ![2, 16, 3072]⟩
abbrev S2x1024 : Shape := ⟨2, ![2, 1024]⟩
abbrev S1x2048x1024 : Shape := ⟨3, ![1, 2048, 1024]⟩
abbrev S1x32 : Shape := ⟨2, ![1, 32]⟩
abbrev S1x2048 : Shape := ⟨2, ![1, 2048]⟩
abbrev S1x16x3072 : Shape := ⟨3, ![1, 16, 3072]⟩
abbrev S16x3072 : Shape := ⟨2, ![16, 3072]⟩
abbrev S16x1x3072 : Shape := ⟨3, ![16, 1, 3072]⟩
abbrev S32 : Shape := ⟨1, ![32]⟩
abbrev S32x64 : Shape := ⟨2, ![32, 64]⟩
abbrev S2048 : Shape := ⟨1, ![2048]⟩
abbrev S2048x1024 : Shape := ⟨2, ![2048, 1024]⟩
abbrev S1x1024 : Shape := ⟨2, ![1, 1024]⟩
abbrev S1024 : Shape := ⟨1, ![1024]⟩
abbrev S1x512x2048 : Shape := ⟨3, ![1, 512, 2048]⟩
abbrev S1x512x1024 : Shape := ⟨3, ![1, 512, 1024]⟩
abbrev S1x1x3072 : Shape := ⟨3, ![1, 1, 3072]⟩
abbrev S1x1x1024 : Shape := ⟨3, ![1, 1, 1024]⟩
abbrev S1x256x512 : Shape := ⟨3, ![1, 256, 512]⟩
abbrev S256x512 : Shape := ⟨2, ![256, 512]⟩
abbrev S1x512 : Shape := ⟨2, ![1, 512]⟩
abbrev S256 : Shape := ⟨1, ![256]⟩
abbrev S256x1 : Shape := ⟨2, ![256, 1]⟩
abbrev S512x1024 : Shape := ⟨2, ![512, 1024]⟩
abbrev S256x1024 : Shape := ⟨2, ![256, 1024]⟩
abbrev S1x256x1024 : Shape := ⟨3, ![1, 256, 1024]⟩

abbrev nBuf : Space → Nat
  | .hbm => 25
  | .vmem => 18
  | .smem => 0
  | _ => 0

abbrev bufTy : (tb : Table) → Fin (tcTables nBuf tb) → BufTy
  | .hbm, ⟨0, _⟩ => ⟨S8x4352x2048, .bf16⟩
  | .hbm, ⟨1, _⟩ => ⟨S8x4352x2048, .bf16⟩
  | .hbm, ⟨2, _⟩ => ⟨S8x4096x3072, .bf16⟩
  | .hbm, ⟨3, _⟩ => ⟨S8x4096x2048, .bf16⟩
  | .hbm, ⟨4, _⟩ => ⟨S8x4096x1024, .f32⟩
  | .hbm, ⟨5, _⟩ => ⟨S2x16x3072, .f32⟩
  | .hbm, ⟨6, _⟩ => ⟨S2x1024, .f32⟩
  | .hbm, ⟨7, _⟩ => ⟨S1x2048x1024, .f32⟩
  | .hbm, ⟨8, _⟩ => ⟨S1x32, .f32⟩
  | .hbm, ⟨9, _⟩ => ⟨S1x2048, .f32⟩
  | .hbm, ⟨10, _⟩ => ⟨S1x16x3072, .f32⟩
  | .hbm, ⟨11, _⟩ => ⟨S16x3072, .f32⟩
  | .hbm, ⟨12, _⟩ => ⟨S16x1x3072, .f32⟩
  | .hbm, ⟨13, _⟩ => ⟨S32, .f32⟩
  | .hbm, ⟨14, _⟩ => ⟨S32x64, .f32⟩
  | .hbm, ⟨15, _⟩ => ⟨S2048, .f32⟩
  | .hbm, ⟨16, _⟩ => ⟨S1x2048, .f32⟩
  | .hbm, ⟨17, _⟩ => ⟨S2048, .f32⟩
  | .hbm, ⟨18, _⟩ => ⟨S1x2048, .f32⟩
  | .hbm, ⟨19, _⟩ => ⟨S2048x1024, .f32⟩
  | .hbm, ⟨20, _⟩ => ⟨S2048x1024, .bf16⟩
  | .hbm, ⟨21, _⟩ => ⟨S1x1024, .f32⟩
  | .hbm, ⟨22, _⟩ => ⟨S1024, .f32⟩
  | .hbm, ⟨23, _⟩ => ⟨S1x1024, .f32⟩
  | .hbm, ⟨24, _⟩ => ⟨S8x4096x1024, .f32⟩
  | .local _ .vmem, ⟨0, _⟩ => ⟨S1x512x2048, .bf16⟩
  | .local _ .vmem, ⟨1, _⟩ => ⟨S1x512x2048, .bf16⟩
  | .local _ .vmem, ⟨2, _⟩ => ⟨S1x512x2048, .bf16⟩
  | .local _ .vmem, ⟨3, _⟩ => ⟨S1x512x2048, .bf16⟩
  | .local _ .vmem, ⟨4, _⟩ => ⟨S1x512x2048, .bf16⟩
  | .local _ .vmem, ⟨5, _⟩ => ⟨S1x512x2048, .bf16⟩
  | .local _ .vmem, ⟨6, _⟩ => ⟨S1x512x2048, .bf16⟩
  | .local _ .vmem, ⟨7, _⟩ => ⟨S1x512x2048, .bf16⟩
  | .local _ .vmem, ⟨8, _⟩ => ⟨S1x512x1024, .f32⟩
  | .local _ .vmem, ⟨9, _⟩ => ⟨S1x512x1024, .f32⟩
  | .local _ .vmem, ⟨10, _⟩ => ⟨S1x1x3072, .f32⟩
  | .local _ .vmem, ⟨11, _⟩ => ⟨S1x1x3072, .f32⟩
  | .local _ .vmem, ⟨12, _⟩ => ⟨S1x2048, .f32⟩
  | .local _ .vmem, ⟨13, _⟩ => ⟨S1x2048, .f32⟩
  | .local _ .vmem, ⟨14, _⟩ => ⟨S2048x1024, .bf16⟩
  | .local _ .vmem, ⟨15, _⟩ => ⟨S1x1024, .f32⟩
  | .local _ .vmem, ⟨16, _⟩ => ⟨S1x512x1024, .f32⟩
  | .local _ .vmem, ⟨17, _⟩ => ⟨S1x512x1024, .f32⟩
  | _, _ => ⟨S8x4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let c256_i32 : BitVec 32 := 256#32
  let arg0 : BitVec 32 := BitVec.ofNat 32 (i 0).val
  let c512_i32 : BitVec 32 := 512#32
  let v0 : BitVec 32 := Scalar.muli arg0 c512_i32
  let v1 : BitVec 32 := Scalar.addi c256_i32 v0
  v1
def k0_mult2 (i : grid0.Coords) : BitVec 32 :=
  let c256_i32 : BitVec 32 := 256#32
  let arg0 : BitVec 32 := BitVec.ofNat 32 (i 0).val
  let c512_i32 : BitVec 32 := 512#32
  let v0 : BitVec 32 := Scalar.muli arg0 c512_i32
  let v1 : BitVec 32 := Scalar.addi c256_i32 v0
  v1
def cc0_transform_0 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c256_i32 : BitVec 32 := 256#32
  let v1 : BitVec 32 := Scalar.addi c256_i32 v0
  let v2 : BitVec 32 := v1
  let c0_i32 : BitVec 32 := 0#32
  let c0_i32_0 : BitVec 32 := 0#32
  ![arg1.toNat, v2.toNat, c0_i32.toNat]

def cc0_transform_1 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c256_i32 : BitVec 32 := 256#32
  let v1 : BitVec 32 := Scalar.addi c256_i32 v0
  let v2 : BitVec 32 := v1
  let c0_i32 : BitVec 32 := 0#32
  let c0_i32_0 : BitVec 32 := 0#32
  ![arg1.toNat, v2.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x3072 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S2048x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ReferenceIdeal.lean ====
abbrev S8x4352x2048 : Shape := ⟨3, ![8, 4352, 2048]⟩
abbrev S8x4096x3072 : Shape := ⟨3, ![8, 4096, 3072]⟩
abbrev S8x4096x2048 : Shape := ⟨3, ![8, 4096, 2048]⟩
abbrev S8x4096x1024 : Shape := ⟨3, ![8, 4096, 1024]⟩
abbrev S2x16x3072 : Shape := ⟨3, ![2, 16, 3072]⟩
abbrev S2x1024 : Shape := ⟨2, ![2, 1024]⟩
abbrev S1x2048x1024 : Shape := ⟨3, ![1, 2048, 1024]⟩
abbrev S1x32 : Shape := ⟨2, ![1, 32]⟩
abbrev S1x2048 : Shape := ⟨2, ![1, 2048]⟩
abbrev S1x8x3072 : Shape := ⟨3, ![1, 8, 3072]⟩
abbrev S8x3072 : Shape := ⟨2, ![8, 3072]⟩
abbrev S8x1024 : Shape := ⟨2, ![8, 1024]⟩
abbrev S8x4096x32x64 : Shape := ⟨4, ![8, 4096, 32, 64]⟩
abbrev S32 : Shape := ⟨1, ![32]⟩
abbrev S32x1 : Shape := ⟨2, ![32, 1]⟩
abbrev S1x1x32x1 : Shape := ⟨4, ![1, 1, 32, 1]⟩
abbrev S8x4096x4x512 : Shape := ⟨4, ![8, 4096, 4, 512]⟩
abbrev S2048 : Shape := ⟨1, ![2048]⟩
abbrev S4x512 : Shape := ⟨2, ![4, 512]⟩
abbrev S_ : Shape := ⟨0, ![]⟩
abbrev S8x4096x4 : Shape := ⟨3, ![8, 4096, 4]⟩
abbrev S8x4096x4x1 : Shape := ⟨4, ![8, 4096, 4, 1]⟩
abbrev S1x1x4x512 : Shape := ⟨4, ![1, 1, 4, 512]⟩
abbrev S2048x1024 : Shape := ⟨2, ![2048, 1024]⟩
abbrev S8x1x1024 : Shape := ⟨3, ![8, 1, 1024]⟩
abbrev S1x1024 : Shape := ⟨2, ![1, 1024]⟩
abbrev S1024 : Shape := ⟨1, ![1024]⟩
abbrev S8x4096 : Shape := ⟨2, ![8, 4096]⟩
abbrev S8x4096x1 : Shape := ⟨3, ![8, 4096, 1]⟩
abbrev S1x1x1024 : Shape := ⟨3, ![1, 1, 1024]⟩

abbrev nBuf : Space → Nat
  | .hbm => 78
  | .vmem => 0
  | .smem => 0
  | _ => 0

abbrev bufTy : (tb : Table) → Fin (tcTables nBuf tb) → BufTy
  | .hbm, ⟨0, _⟩ => ⟨S8x4352x2048, .bf16⟩
  | .hbm, ⟨1, _⟩ => ⟨S8x4352x2048, .bf16⟩
  | .hbm, ⟨2, _⟩ => ⟨S8x4096x3072, .bf16⟩
  | .hbm, ⟨3, _⟩ => ⟨S8x4096x2048, .bf16⟩
  | .hbm, ⟨4, _⟩ => ⟨S8x4096x1024, .f32⟩
  | .hbm, ⟨5, _⟩ => ⟨S2x16x3072, .f32⟩
  | .hbm, ⟨6, _⟩ => ⟨S2x1024, .f32⟩
  | .hbm, ⟨7, _⟩ => ⟨S1x2048x1024, .f32⟩
  | .hbm, ⟨8, _⟩ => ⟨S1x32, .f32⟩
  | .hbm, ⟨9, _⟩ => ⟨S1x2048, .f32⟩
  | .hbm, ⟨10, _⟩ => ⟨S1x8x3072, .f32⟩
  | .hbm, ⟨11, _⟩ => ⟨S8x3072, .f32⟩
  | .hbm, ⟨12, _⟩ => ⟨S8x1024, .f32⟩
  | .hbm, ⟨13, _⟩ => ⟨S8x1024, .f32⟩
  | .hbm, ⟨14, _⟩ => ⟨S8x1024, .f32⟩
  | .hbm, ⟨15, _⟩ => ⟨S8x4096x2048, .bf16⟩
  | .hbm, ⟨16, _⟩ => ⟨S8x4096x2048, .f32⟩
  | .hbm, ⟨17, _⟩ => ⟨S8x4096x32x64, .f32⟩
  | .hbm, ⟨18, _⟩ => ⟨S8x4096x2048, .bf16⟩
  | .hbm, ⟨19, _⟩ => ⟨S8x4096x2048, .f32⟩
  | .hbm, ⟨20, _⟩ => ⟨S8x4096x32x64, .f32⟩
  | .hbm, ⟨21, _⟩ => ⟨S8x4096x2048, .bf16⟩
  | .hbm, ⟨22, _⟩ => ⟨S8x4096x2048, .f32⟩
  | .hbm, ⟨23, _⟩ => ⟨S8x4096x32x64, .f32⟩
  | .hbm, ⟨24, _⟩ => ⟨S8x4096x32x64, .f32⟩
  | .hbm, ⟨25, _⟩ => ⟨S32, .f32⟩
  | .hbm, ⟨26, _⟩ => ⟨S32x1, .f32⟩
  | .hbm, ⟨27, _⟩ => ⟨S1x1x32x1, .f32⟩
  | .hbm, ⟨28, _⟩ => ⟨S8x4096x32x64, .f32⟩
  | .hbm, ⟨29, _⟩ => ⟨S8x4096x32x64, .f32⟩
  | .hbm, ⟨30, _⟩ => ⟨S8x4096x32x64, .f32⟩
  | .hbm, ⟨31, _⟩ => ⟨S8x4096x2048, .f32⟩
  | .hbm, ⟨32, _⟩ => ⟨S8x4096x2048, .f32⟩
  | .hbm, ⟨33, _⟩ => ⟨S8x4096x2048, .f32⟩
  | .hbm, ⟨34, _⟩ => ⟨S8x4096x4x512, .f32⟩
  | .hbm, ⟨35, _⟩ => ⟨S2048, .f32⟩
  | .hbm, ⟨36, _⟩ => ⟨S4x512, .f32⟩
  | .hbm, ⟨37, _⟩ => ⟨S8x4096x4x512, .f32⟩
  | .hbm, ⟨38, _⟩ => ⟨S_, .f32⟩
  | .hbm, ⟨39, _⟩ => ⟨S8x4096x4, .f32⟩
  | .hbm, ⟨40, _⟩ => ⟨S8x4096x4x1, .f32⟩
  | .hbm, ⟨41, _⟩ => ⟨S_, .f32⟩
  | .hbm, ⟨42, _⟩ => ⟨S8x4096x4x1, .f32⟩
  | .hbm, ⟨43, _⟩ => ⟨S8x4096x4x1, .f32⟩
  | .hbm, ⟨44, _⟩ => ⟨S_, .f32⟩
  | .hbm, ⟨45, _⟩ => ⟨S8x4096x4x1, .f32⟩
  | .hbm, ⟨46, _⟩ => ⟨S8x4096x4x1, .f32⟩
  | .hbm, ⟨47, _⟩ => ⟨S8x4096x4x1, .f32⟩
  | .hbm, ⟨48, _⟩ => ⟨S8x4096x4x512, .f32⟩
  | .hbm, ⟨49, _⟩ => ⟨S8x4096x4x512, .f32⟩
  | .hbm, ⟨50, _⟩ => ⟨S1x1x4x512, .f32⟩
  | .hbm, ⟨51, _⟩ => ⟨S8x4096x4x512, .f32⟩
  | .hbm, ⟨52, _⟩ => ⟨S8x4096x4x512, .f32⟩
  | .hbm, ⟨53, _⟩ => ⟨S8x4096x2048, .f32⟩
  | .hbm, ⟨54, _⟩ => ⟨S2048x1024, .f32⟩
  | .hbm, ⟨55, _⟩ => ⟨S8x4096x1024, .f32⟩
  | .hbm, ⟨56, _⟩ => ⟨S8x1x1024, .f32⟩
  | .hbm, ⟨57, _⟩ => ⟨S1x1024, .f32⟩
  | .hbm, ⟨58, _⟩ => ⟨S1024, .f32⟩
  | .hbm, ⟨59, _⟩ => ⟨S8x4096x1024, .f32⟩
  | .hbm, ⟨60, _⟩ => ⟨S_, .f32⟩
  | .hbm, ⟨61, _⟩ => ⟨S8x4096, .f32⟩
  | .hbm, ⟨62, _⟩ => ⟨S8x4096x1, .f32⟩
  | .hbm, ⟨63, _⟩ => ⟨S_, .f32⟩
  | .hbm, ⟨64, _⟩ => ⟨S8x4096x1, .f32⟩
  | .hbm, ⟨65, _⟩ => ⟨S8x4096x1, .f32⟩
  | .hbm, ⟨66, _⟩ => ⟨S_, .f32⟩
  | .hbm, ⟨67, _⟩ => ⟨S8x4096x1, .f32⟩
  | .hbm, ⟨68, _⟩ => ⟨S8x4096x1, .f32⟩
  | .hbm, ⟨69, _⟩ => ⟨S8x4096x1, .f32⟩
  | .hbm, ⟨70, _⟩ => ⟨S8x4096x1024, .f32⟩
  | .hbm, ⟨71, _⟩ => ⟨S8x4096x1024, .f32⟩
  | .hbm, ⟨72, _⟩ => ⟨S1x1x1024, .f32⟩
  | .hbm, ⟨73, _⟩ => ⟨S8x4096x1024, .f32⟩
  | .hbm, ⟨74, _⟩ => ⟨S8x4096x1024, .f32⟩
  | .hbm, ⟨75, _⟩ => ⟨S8x4096x1024, .f32⟩
  | .hbm, ⟨76, _⟩ => ⟨S8x4096x1024, .f32⟩
  | .hbm, ⟨77, _⟩ => ⟨S8x4096x1024, .f32⟩
  | _, _ => ⟨S8x4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst : Ref sig .tc := ⟨.hbm, 38, rfl⟩
abbrev main_v28 : Ref sig .tc := ⟨.hbm, 39, rfl⟩
abbrev main_v29 : Ref sig .tc := ⟨.hbm, 40, rfl⟩
abbrev main_cst_0 : Ref sig .tc := ⟨.hbm, 41, rfl⟩
abbrev main_v30 : Ref sig .tc := ⟨.hbm, 42, rfl⟩
abbrev main_v31 : Ref sig .tc := ⟨.hbm, 43, rfl⟩
abbrev main_cst_1 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_cst_2 : Ref sig .tc := ⟨.hbm, 60, rfl⟩
abbrev main_v47 : Ref sig .tc := ⟨.hbm, 61, rfl⟩
abbrev main_v48 : Ref sig .tc := ⟨.hbm, 62, rfl⟩
abbrev main_cst_3 : Ref sig .tc := ⟨.hbm, 63, rfl⟩
abbrev main_v49 : Ref sig .tc := ⟨.hbm, 64, rfl⟩
abbrev main_v50 : Ref sig .tc := ⟨.hbm, 65, rfl⟩
abbrev main_cst_4 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩

abbrev nD : Nat := 1
abbrev τ : Topo := Topo.v7x

variable {F : FTy → Type} [FloatOps F]
-- ==== Kernel2.lean ====
abbrev S8x4096x1024 : Shape := ⟨3, ![8, 4096, 1024]⟩
abbrev S2x16x3072 : Shape := ⟨3, ![2, 16, 3072]⟩
abbrev S2x1024 : Shape := ⟨2, ![2, 1024]⟩
abbrev S1x1024x5184 : Shape := ⟨3, ![1, 1024, 5184]⟩
abbrev S1x4x3072 : Shape := ⟨3, ![1, 4, 3072]⟩
abbrev S1x3072 : Shape := ⟨2, ![1, 3072]⟩
abbrev S1x2x32 : Shape := ⟨3, ![1, 2, 32]⟩
abbrev S1x16x3072 : Shape := ⟨3, ![1, 16, 3072]⟩
abbrev S16x3072 : Shape := ⟨2, ![16, 3072]⟩
abbrev S16x1x3072 : Shape := ⟨3, ![16, 1, 3072]⟩
abbrev S1024x5184 : Shape := ⟨2, ![1024, 5184]⟩
abbrev S1024x64 : Shape := ⟨2, ![1024, 64]⟩
abbrev S_ : Shape := ⟨0, ![]⟩
abbrev S1024x128 : Shape := ⟨2, ![1024, 128]⟩
abbrev S2x32 : Shape := ⟨2, ![2, 32]⟩
abbrev S1x64 : Shape := ⟨2, ![1, 64]⟩
abbrev S1x128 : Shape := ⟨2, ![1, 128]⟩
abbrev S1x1024 : Shape := ⟨2, ![1, 1024]⟩
abbrev S1024 : Shape := ⟨1, ![1024]⟩
abbrev S4x3072 : Shape := ⟨2, ![4, 3072]⟩
abbrev S3072 : Shape := ⟨1, ![3072]⟩
abbrev S8x4096x2048 : Shape := ⟨3, ![8, 4096, 2048]⟩
abbrev S8x4096x3072 : Shape := ⟨3, ![8, 4096, 3072]⟩
abbrev S8x4096x128 : Shape := ⟨3, ![8, 4096, 128]⟩
abbrev S1x512x1024 : Shape := ⟨3, ![1, 512, 1024]⟩
abbrev S1x8x1024 : Shape := ⟨3, ![1, 8, 1024]⟩
abbrev S1x1x3072 : Shape := ⟨3, ![1, 1, 3072]⟩
abbrev S1024x2048 : Shape := ⟨2, ![1024, 2048]⟩
abbrev S1024x3072 : Shape := ⟨2, ![1024, 3072]⟩
abbrev S1x512x2048 : Shape := ⟨3, ![1, 512, 2048]⟩
abbrev S1x512x3072 : Shape := ⟨3, ![1, 512, 3072]⟩
abbrev S1x512x128 : Shape := ⟨3, ![1, 512, 128]⟩
abbrev S24x528x128 : Shape := ⟨3, ![24, 528, 128]⟩
abbrev S8x1024 : Shape := ⟨2, ![8, 1024]⟩
abbrev S512x1024 : Shape := ⟨2, ![512, 1024]⟩
abbrev S528x1024 : Shape := ⟨2, ![528, 1024]⟩
abbrev S1x1x1024 : Shape := ⟨3, ![1, 1, 1024]⟩
abbrev S528 : Shape := ⟨1, ![528]⟩
abbrev S528x1 : Shape := ⟨2, ![528, 1]⟩
abbrev S1024x512 : Shape := ⟨2, ![1024, 512]⟩
abbrev S528x512 : Shape := ⟨2, ![528, 512]⟩
abbrev S8x128 : Shape := ⟨2, ![8, 128]⟩
abbrev S528x128 : Shape := ⟨2, ![528, 128]⟩
abbrev S1x8x128 : Shape := ⟨3, ![1, 8, 128]⟩
abbrev S512x128 : Shape := ⟨2, ![512, 128]⟩
abbrev S512x512 : Shape := ⟨2, ![512, 512]⟩
abbrev S1x512x512 : Shape := ⟨3, ![1, 512, 512]⟩

abbrev nBuf : Space → Nat
  | .hbm => 30
  | .vmem => 22
  | .smem => 0
  | _ => 0

abbrev bufTy : (tb : Table) → Fin (tcTables nBuf tb) → BufTy
  | .hbm, ⟨0, _⟩ => ⟨S8x4096x1024, .f32⟩
  | .hbm, ⟨1, _⟩ => ⟨S2x16x3072, .f32⟩
  | .hbm, ⟨2, _⟩ => ⟨S2x1024, .f32⟩
  | .hbm, ⟨3, _⟩ => ⟨S1x1024x5184, .f32⟩
  | .hbm, ⟨4, _⟩ => ⟨S1x4x3072, .f32⟩
  | .hbm, ⟨5, _⟩ => ⟨S1x3072, .f32⟩
  | .hbm, ⟨6, _⟩ => ⟨S1x2x32, .f32⟩
  | .hbm, ⟨7, _⟩ => ⟨S1x16x3072, .f32⟩
  | .hbm, ⟨8, _⟩ => ⟨S16x3072, .f32⟩
  | .hbm, ⟨9, _⟩ => ⟨S16x1x3072, .f32⟩
  | .hbm, ⟨10, _⟩ => ⟨S1024x5184, .f32⟩
  | .hbm, ⟨11, _⟩ => ⟨S1024x5184, .bf16⟩
  | .hbm, ⟨12, _⟩ => ⟨S1024x64, .bf16⟩
  | .hbm, ⟨13, _⟩ => ⟨S_, .i32⟩
  | .hbm, ⟨14, _⟩ => ⟨S_, .bf16⟩
  | .hbm, ⟨15, _⟩ => ⟨S1024x128, .bf16⟩
  | .hbm, ⟨16, _⟩ => ⟨S2x32, .f32⟩
  | .hbm, ⟨17, _⟩ => ⟨S1x64, .f32⟩
  | .hbm, ⟨18, _⟩ => ⟨S_, .i32⟩
  | .hbm, ⟨19, _⟩ => ⟨S_, .f32⟩
  | .hbm, ⟨20, _⟩ => ⟨S1x128, .f32⟩
  | .hbm, ⟨21, _⟩ => ⟨S1x1024, .f32⟩
  | .hbm, ⟨22, _⟩ => ⟨S1024, .f32⟩
  | .hbm, ⟨23, _⟩ => ⟨S4x3072, .f32⟩
  | .hbm, ⟨24, _⟩ => ⟨S3072, .f32⟩
  | .hbm, ⟨25, _⟩ => ⟨S1x1024, .f32⟩
  | .hbm, ⟨26, _⟩ => ⟨S1x3072, .f32⟩
  | .hbm, ⟨27, _⟩ => ⟨S8x4096x2048, .bf16⟩
  | .hbm, ⟨28, _⟩ => ⟨S8x4096x3072, .bf16⟩
  | .hbm, ⟨29, _⟩ => ⟨S8x4096x128, .f32⟩
  | .local _ .vmem, ⟨0, _⟩ => ⟨S1x512x1024, .f32⟩
  | .local _ .vmem, ⟨1, _⟩ => ⟨S1x512x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x1x3072, .f32⟩
  | .local _ .vmem, ⟨7, _⟩ => ⟨S1x1x3072, .f32⟩
  | .local _ .vmem, ⟨8, _⟩ => ⟨S1x1024, .f32⟩
  | .local _ .vmem, ⟨9, _⟩ => ⟨S1024x2048, .bf16⟩
  | .local _ .vmem, ⟨10, _⟩ => ⟨S1024x3072, .bf16⟩
  | .local _ .vmem, ⟨11, _⟩ => ⟨S1024x128, .bf16⟩
  | .local _ .vmem, ⟨12, _⟩ => ⟨S4x3072, .f32⟩
  | .local _ .vmem, ⟨13, _⟩ => ⟨S1x3072, .f32⟩
  | .local _ .vmem, ⟨14, _⟩ => ⟨S1x128, .f32⟩
  | .local _ .vmem, ⟨15, _⟩ => ⟨S1x512x2048, .bf16⟩
  | .local _ .vmem, ⟨16, _⟩ => ⟨S1x512x2048, .bf16⟩
  | .local _ .vmem, ⟨17, _⟩ => ⟨S1x512x3072, .bf16⟩
  | .local _ .vmem, ⟨18, _⟩ => ⟨S1x512x3072, .bf16⟩
  | .local _ .vmem, ⟨19, _⟩ => ⟨S1x512x128, .f32⟩
  | .local _ .vmem, ⟨20, _⟩ => ⟨S1x512x128, .f32⟩
  | .local _ .vmem, ⟨21, _⟩ => ⟨S24x528x128, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_call0_v0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c_0 : Ref sig .tc := ⟨.hbm, 18, rfl⟩
abbrev main_call1_v0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16_0 : Ref sig .tc := ⟨.hbm, 27, rfl⟩
abbrev main_v16_1 : Ref sig .tc := ⟨.hbm, 28, rfl⟩
abbrev main_v16_2 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg1.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  let c0_i32_0 : BitVec 32 := 0#32
  ![arg1.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c2048_i32 : BitVec 32 := 2048#32
  let c0_i32_0 : BitVec 32 := 0#32
  ![c0_i32.toNat, c2048_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x3072 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S4x3072 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x3072 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x512x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x3072 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Reference2Ideal.lean ====
abbrev S8x4096x1024 : Shape := ⟨3, ![8, 4096, 1024]⟩
abbrev S2x16x3072 : Shape := ⟨3, ![2, 16, 3072]⟩
abbrev S2x1024 : Shape := ⟨2, ![2, 1024]⟩
abbrev S1x1024x5184 : Shape := ⟨3, ![1, 1024, 5184]⟩
abbrev S1x4x3072 : Shape := ⟨3, ![1, 4, 3072]⟩
abbrev S1x3072 : Shape := ⟨2, ![1, 3072]⟩
abbrev S1x2x32 : Shape := ⟨3, ![1, 2, 32]⟩
abbrev S1x8x3072 : Shape := ⟨3, ![1, 8, 3072]⟩
abbrev S8x3072 : Shape := ⟨2, ![8, 3072]⟩
abbrev S8x1024 : Shape := ⟨2, ![8, 1024]⟩
abbrev S1x1024 : Shape := ⟨2, ![1, 1024]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x1x1024 : Shape := ⟨3, ![8, 1, 1024]⟩
abbrev S1024x5184 : Shape := ⟨2, ![1024, 5184]⟩
abbrev S8x4096x5184 : Shape := ⟨3, ![8, 4096, 5184]⟩
abbrev S8x4096x2048 : Shape := ⟨3, ![8, 4096, 2048]⟩
abbrev S8x4096x3072 : Shape := ⟨3, ![8, 4096, 3072]⟩
abbrev S8x4096x64 : Shape := ⟨3, ![8, 4096, 64]⟩
abbrev S4x3072 : Shape := ⟨2, ![4, 3072]⟩
abbrev S3072 : Shape := ⟨1, ![3072]⟩
abbrev S8x4099x3072 : Shape := ⟨3, ![8, 4099, 3072]⟩
abbrev S1x1x3072 : Shape := ⟨3, ![1, 1, 3072]⟩
abbrev S8x4096x2x32 : Shape := ⟨4, ![8, 4096, 2, 32]⟩
abbrev S2x32 : Shape := ⟨2, ![2, 32]⟩
abbrev S1x1x2x32 : Shape := ⟨4, ![1, 1, 2, 32]⟩
abbrev S8x4096x128 : Shape := ⟨3, ![8, 4096, 128]⟩

abbrev nBuf : Space → Nat
  | .hbm => 122
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S2x16x3072, .f32⟩
  | .hbm, ⟨2, _⟩ => ⟨S2x1024, .f32⟩
  | .hbm, ⟨3, _⟩ => ⟨S1x1024x5184, .f32⟩
  | .hbm, ⟨4, _⟩ => ⟨S1x4x3072, .f32⟩
  | .hbm, ⟨5, _⟩ => ⟨S1x3072, .f32⟩
  | .hbm, ⟨6, _⟩ => ⟨S1x2x32, .f32⟩
  | .hbm, ⟨7, _⟩ => ⟨S1x8x3072, .f32⟩
  | .hbm, ⟨8, _⟩ => ⟨S8x3072, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S1x1024, .f32⟩
  | .hbm, ⟨13, _⟩ => ⟨S1024, .f32⟩
  | .hbm, ⟨14, _⟩ => ⟨S8x4096x1024, .f32⟩
  | .hbm, ⟨15, _⟩ => ⟨S_, .f32⟩
  | .hbm, ⟨16, _⟩ => ⟨S8x4096, .f32⟩
  | .hbm, ⟨17, _⟩ => ⟨S8x4096x1, .f32⟩
  | .hbm, ⟨18, _⟩ => ⟨S_, .f32⟩
  | .hbm, ⟨19, _⟩ => ⟨S8x4096x1, .f32⟩
  | .hbm, ⟨20, _⟩ => ⟨S8x4096x1, .f32⟩
  | .hbm, ⟨21, _⟩ => ⟨S_, .f32⟩
  | .hbm, ⟨22, _⟩ => ⟨S8x4096x1, .f32⟩
  | .hbm, ⟨23, _⟩ => ⟨S8x4096x1, .f32⟩
  | .hbm, ⟨24, _⟩ => ⟨S8x4096x1, .f32⟩
  | .hbm, ⟨25, _⟩ => ⟨S8x4096x1024, .f32⟩
  | .hbm, ⟨26, _⟩ => ⟨S8x4096x1024, .f32⟩
  | .hbm, ⟨27, _⟩ => ⟨S1x1x1024, .f32⟩
  | .hbm, ⟨28, _⟩ => ⟨S8x4096x1024, .f32⟩
  | .hbm, ⟨29, _⟩ => ⟨S8x4096x1024, .f32⟩
  | .hbm, ⟨30, _⟩ => ⟨S8x1x1024, .f32⟩
  | .hbm, ⟨31, _⟩ => ⟨S_, .f32⟩
  | .hbm, ⟨32, _⟩ => ⟨S8x1x1024, .f32⟩
  | .hbm, ⟨33, _⟩ => ⟨S8x1x1024, .f32⟩
  | .hbm, ⟨34, _⟩ => ⟨S8x4096x1024, .f32⟩
  | .hbm, ⟨35, _⟩ => ⟨S8x4096x1024, .f32⟩
  | .hbm, ⟨36, _⟩ => ⟨S8x1x1024, .f32⟩
  | .hbm, ⟨37, _⟩ => ⟨S8x4096x1024, .f32⟩
  | .hbm, ⟨38, _⟩ => ⟨S8x4096x1024, .f32⟩
  | .hbm, ⟨39, _⟩ => ⟨S1024x5184, .f32⟩
  | .hbm, ⟨40, _⟩ => ⟨S8x4096x5184, .f32⟩
  | .hbm, ⟨41, _⟩ => ⟨S8x4096x2048, .f32⟩
  | .hbm, ⟨42, _⟩ => ⟨S8x4096x3072, .f32⟩
  | .hbm, ⟨43, _⟩ => ⟨S8x4096x64, .f32⟩
  | .hbm, ⟨44, _⟩ => ⟨S4x3072, .f32⟩
  | .hbm, ⟨45, _⟩ => ⟨S3072, .f32⟩
  | .hbm, ⟨46, _⟩ => ⟨S_, .i32⟩
  | .hbm, ⟨47, _⟩ => ⟨S_, .f32⟩
  | .hbm, ⟨48, _⟩ => ⟨S8x4099x3072, .f32⟩
  | .hbm, ⟨49, _⟩ => ⟨S8x4096x3072, .f32⟩
  | .hbm, ⟨50, _⟩ => ⟨S1x3072, .f32⟩
  | .hbm, ⟨51, _⟩ => ⟨S3072, .f32⟩
  | .hbm, ⟨52, _⟩ => ⟨S1x1x3072, .f32⟩
  | .hbm, ⟨53, _⟩ => ⟨S8x4096x3072, .f32⟩
  | .hbm, ⟨54, _⟩ => ⟨S8x4096x3072, .f32⟩
  | .hbm, ⟨55, _⟩ => ⟨S8x4096x3072, .f32⟩
  | .hbm, ⟨56, _⟩ => ⟨S1x3072, .f32⟩
  | .hbm, ⟨57, _⟩ => ⟨S3072, .f32⟩
  | .hbm, ⟨58, _⟩ => ⟨S1x1x3072, .f32⟩
  | .hbm, ⟨59, _⟩ => ⟨S8x4096x3072, .f32⟩
  | .hbm, ⟨60, _⟩ => ⟨S8x4096x3072, .f32⟩
  | .hbm, ⟨61, _⟩ => ⟨S8x4096x3072, .f32⟩
  | .hbm, ⟨62, _⟩ => ⟨S8x4096x3072, .f32⟩
  | .hbm, ⟨63, _⟩ => ⟨S1x3072, .f32⟩
  | .hbm, ⟨64, _⟩ => ⟨S3072, .f32⟩
  | .hbm, ⟨65, _⟩ => ⟨S1x1x3072, .f32⟩
  | .hbm, ⟨66, _⟩ => ⟨S8x4096x3072, .f32⟩
  | .hbm, ⟨67, _⟩ => ⟨S8x4096x3072, .f32⟩
  | .hbm, ⟨68, _⟩ => ⟨S8x4096x3072, .f32⟩
  | .hbm, ⟨69, _⟩ => ⟨S8x4096x3072, .f32⟩
  | .hbm, ⟨70, _⟩ => ⟨S1x3072, .f32⟩
  | .hbm, ⟨71, _⟩ => ⟨S3072, .f32⟩
  | .hbm, ⟨72, _⟩ => ⟨S1x1x3072, .f32⟩
  | .hbm, ⟨73, _⟩ => ⟨S8x4096x3072, .f32⟩
  | .hbm, ⟨74, _⟩ => ⟨S8x4096x3072, .f32⟩
  | .hbm, ⟨75, _⟩ => ⟨S8x4096x3072, .f32⟩
  | .hbm, ⟨76, _⟩ => ⟨S1x1x3072, .f32⟩
  | .hbm, ⟨77, _⟩ => ⟨S8x4096x3072, .f32⟩
  | .hbm, ⟨78, _⟩ => ⟨S8x4096x3072, .f32⟩
  | .hbm, ⟨79, _⟩ => ⟨S8x4096x3072, .f32⟩
  | .hbm, ⟨80, _⟩ => ⟨S8x4096x3072, .f32⟩
  | .hbm, ⟨81, _⟩ => ⟨S_, .f32⟩
  | .hbm, ⟨82, _⟩ => ⟨S8x4096x3072, .f32⟩
  | .hbm, ⟨83, _⟩ => ⟨S8x4096x3072, .f32⟩
  | .hbm, ⟨84, _⟩ => ⟨S_, .f32⟩
  | .hbm, ⟨85, _⟩ => ⟨S8x4096x3072, .f32⟩
  | .hbm, ⟨86, _⟩ => ⟨S8x4096x3072, .f32⟩
  | .hbm, ⟨87, _⟩ => ⟨S8x4096x3072, .f32⟩
  | .hbm, ⟨88, _⟩ => ⟨S8x4096x2x32, .f32⟩
  | .hbm, ⟨89, _⟩ => ⟨S2x32, .f32⟩
  | .hbm, ⟨90, _⟩ => ⟨S1x1x2x32, .f32⟩
  | .hbm, ⟨91, _⟩ => ⟨S8x4096x2x32, .f32⟩
  | .hbm, ⟨92, _⟩ => ⟨S8x4096x2x32, .f32⟩
  | .hbm, ⟨93, _⟩ => ⟨S8x4096x64, .f32⟩
  | .hbm, ⟨94, _⟩ => ⟨S_, .i32⟩
  | .hbm, ⟨95, _⟩ => ⟨S_, .f32⟩
  | .hbm, ⟨96, _⟩ => ⟨S8x4096x128, .f32⟩
  | .hbm, ⟨97, _⟩ => ⟨S_, .f32⟩
  | .hbm, ⟨98, _⟩ => ⟨S8x4096x128, .f32⟩
  | .hbm, ⟨99, _⟩ => ⟨S8x4096x128, .f32⟩
  | .hbm, ⟨100, _⟩ => ⟨S8x4096x128, .f32⟩
  | .hbm, ⟨101, _⟩ => ⟨S8x4096x128, .f32⟩
  | .hbm, ⟨102, _⟩ => ⟨S8x4096x128, .i1⟩
  | .hbm, ⟨103, _⟩ => ⟨S8x4096x128, .f32⟩
  | .hbm, ⟨104, _⟩ => ⟨S8x4096x128, .f32⟩
  | .hbm, ⟨105, _⟩ => ⟨S8x4096x128, .f32⟩
  | .hbm, ⟨106, _⟩ => ⟨S8x4096x128, .f32⟩
  | .hbm, ⟨107, _⟩ => ⟨S8x4096x128, .f32⟩
  | .hbm, ⟨108, _⟩ => ⟨S8x4096x128, .f32⟩
  | .hbm, ⟨109, _⟩ => ⟨S8x4096x128, .f32⟩
  | .hbm, ⟨110, _⟩ => ⟨S8x4096x128, .f32⟩
  | .hbm, ⟨111, _⟩ => ⟨S8x4096x2048, .f32⟩
  | .hbm, ⟨112, _⟩ => ⟨S8x4096x2048, .f32⟩
  | .hbm, ⟨113, _⟩ => ⟨S_, .f32⟩
  | .hbm, ⟨114, _⟩ => ⟨S8x4096x2048, .f32⟩
  | .hbm, ⟨115, _⟩ => ⟨S8x4096x2048, .f32⟩
  | .hbm, ⟨116, _⟩ => ⟨S_, .f32⟩
  | .hbm, ⟨117, _⟩ => ⟨S8x4096x2048, .f32⟩
  | .hbm, ⟨118, _⟩ => ⟨S8x4096x2048, .f32⟩
  | .hbm, ⟨119, _⟩ => ⟨S8x4096x2048, .f32⟩
  | .hbm, ⟨120, _⟩ => ⟨S8x4096x2048, .bf16⟩
  | .hbm, ⟨121, _⟩ => ⟨S8x4096x3072, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_c : Ref sig .tc := ⟨.hbm, 46, rfl⟩
abbrev main_call0_v0 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_call1_v0 : Ref sig .tc := ⟨.hbm, 79, rfl⟩
abbrev main_call1_v1 : Ref sig .tc := ⟨.hbm, 80, rfl⟩
abbrev main_call1_cst : Ref sig .tc := ⟨.hbm, 81, rfl⟩
abbrev main_call1_v2 : Ref sig .tc := ⟨.hbm, 82, rfl⟩
abbrev main_call1_v3 : Ref sig .tc := ⟨.hbm, 83, rfl⟩
abbrev main_call1_cst_0 : Ref sig .tc := ⟨.hbm, 84, rfl⟩
abbrev main_call1_v4 : Ref sig .tc := ⟨.hbm, 85, rfl⟩
abbrev main_call1_v5 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_c_3 : Ref sig .tc := ⟨.hbm, 94, rfl⟩
abbrev main_call2_v0 : Ref sig .tc := ⟨.hbm, 95, rfl⟩
abbrev main_v73 : Ref sig .tc := ⟨.hbm, 96, rfl⟩
abbrev main_call3_cst : Ref sig .tc := ⟨.hbm, 97, rfl⟩
abbrev main_call3_v0 : Ref sig .tc := ⟨.hbm, 98, rfl⟩
abbrev main_call3_v1 : Ref sig .tc := ⟨.hbm, 99, rfl⟩
abbrev main_call3_v2 : Ref sig .tc := ⟨.hbm, 100, rfl⟩
abbrev main_call3_v3 : Ref sig .tc := ⟨.hbm, 101, rfl⟩
abbrev main_call3_v4 : Ref sig .tc := ⟨.hbm, 102, rfl⟩
abbrev main_call3_v5 : Ref sig .tc := ⟨.hbm, 103, rfl⟩
abbrev main_call3_v6 : Ref sig .tc := ⟨.hbm, 104, rfl⟩
abbrev main_call3_v7 : Ref sig .tc := ⟨.hbm, 105, rfl⟩
abbrev main_call3_v8 : Ref sig .tc := ⟨.hbm, 106, rfl⟩
abbrev main_call3_v9 : Ref sig .tc := ⟨.hbm, 107, rfl⟩
abbrev main_call3_v10 : Ref sig .tc := ⟨.hbm, 108, rfl⟩
abbrev main_call3_v11 : Ref sig .tc := ⟨.hbm, 109, rfl⟩
abbrev main_v74 : Ref sig .tc := ⟨.hbm, 110, rfl⟩
abbrev main_call4_v0 : Ref sig .tc := ⟨.hbm, 111, rfl⟩
abbrev main_call4_v1 : Ref sig .tc := ⟨.hbm, 112, rfl⟩
abbrev main_call4_cst : Ref sig .tc := ⟨.hbm, 113, rfl⟩
abbrev main_call4_v2 : Ref sig .tc := ⟨.hbm, 114, rfl⟩
abbrev main_call4_v3 : Ref sig .tc := ⟨.hbm, 115, rfl⟩
abbrev main_call4_cst_0 : Ref sig .tc := ⟨.hbm, 116, rfl⟩
abbrev main_call4_v4 : Ref sig .tc := ⟨.hbm, 117, rfl⟩
abbrev main_call4_v5 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩

abbrev nD : Nat := 1
abbrev τ : Topo := Topo.v7x

variable {F : FTy → Type} [FloatOps F]
-- ==== Kernel3.lean ====
abbrev S8x4352x512 : Shape := ⟨3, ![8, 4352, 512]⟩
abbrev S8x4096x512 : Shape := ⟨3, ![8, 4096, 512]⟩
abbrev S8x4096x1024 : Shape := ⟨3, ![8, 4096, 1024]⟩
abbrev S2x16x3072 : Shape := ⟨3, ![2, 16, 3072]⟩
abbrev S2x1024 : Shape := ⟨2, ![2, 1024]⟩
abbrev S1x1024x1024 : Shape := ⟨3, ![1, 1024, 1024]⟩
abbrev S1x16x3072 : Shape := ⟨3, ![1, 16, 3072]⟩
abbrev S16x3072 : Shape := ⟨2, ![16, 3072]⟩
abbrev S16x1x3072 : Shape := ⟨3, ![16, 1, 3072]⟩
abbrev S1x1024 : Shape := ⟨2, ![1, 1024]⟩
abbrev S1024 : Shape := ⟨1, ![1024]⟩
abbrev S1024x1024 : Shape := ⟨2, ![1024, 1024]⟩
abbrev S1x512x512 : Shape := ⟨3, ![1, 512, 512]⟩
abbrev S1x512x1024 : Shape := ⟨3, ![1, 512, 1024]⟩
abbrev S1x1x3072 : Shape := ⟨3, ![1, 1, 3072]⟩
abbrev S1x1x1024 : Shape := ⟨3, ![1, 1, 1024]⟩
abbrev S1x256x256 : Shape := ⟨3, ![1, 256, 256]⟩
abbrev S256x256 : Shape := ⟨2, ![256, 256]⟩
abbrev S256x1024 : Shape := ⟨2, ![256, 1024]⟩
abbrev S1x256x1024 : Shape := ⟨3, ![1, 256, 1024]⟩
abbrev S256 : Shape := ⟨1, ![256]⟩
abbrev S256x1 : Shape := ⟨2, ![256, 1]⟩

abbrev nBuf : Space → Nat
  | .hbm => 18
  | .vmem => 18
  | .smem => 0
  | _ => 0

abbrev bufTy : (tb : Table) → Fin (tcTables nBuf tb) → BufTy
  | .hbm, ⟨0, _⟩ => ⟨S8x4352x512, .bf16⟩
  | .hbm, ⟨1, _⟩ => ⟨S8x4352x512, .bf16⟩
  | .hbm, ⟨2, _⟩ => ⟨S8x4096x512, .bf16⟩
  | .hbm, ⟨3, _⟩ => ⟨S8x4096x512, .bf16⟩
  | .hbm, ⟨4, _⟩ => ⟨S8x4096x512, .bf16⟩
  | .hbm, ⟨5, _⟩ => ⟨S8x4096x1024, .f32⟩
  | .hbm, ⟨6, _⟩ => ⟨S2x16x3072, .f32⟩
  | .hbm, ⟨7, _⟩ => ⟨S2x1024, .f32⟩
  | .hbm, ⟨8, _⟩ => ⟨S1x1024x1024, .f32⟩
  | .hbm, ⟨9, _⟩ => ⟨S1x16x3072, .f32⟩
  | .hbm, ⟨10, _⟩ => ⟨S16x3072, .f32⟩
  | .hbm, ⟨11, _⟩ => ⟨S16x1x3072, .f32⟩
  | .hbm, ⟨12, _⟩ => ⟨S1x1024, .f32⟩
  | .hbm, ⟨13, _⟩ => ⟨S1024, .f32⟩
  | .hbm, ⟨14, _⟩ => ⟨S1024x1024, .f32⟩
  | .hbm, ⟨15, _⟩ => ⟨S1024x1024, .bf16⟩
  | .hbm, ⟨16, _⟩ => ⟨S1x1024, .f32⟩
  | .hbm, ⟨17, _⟩ => ⟨S8x4096x1024, .f32⟩
  | .local _ .vmem, ⟨0, _⟩ => ⟨S1x512x512, .bf16⟩
  | .local _ .vmem, ⟨1, _⟩ => ⟨S1x512x512, .bf16⟩
  | .local _ .vmem, ⟨2, _⟩ => ⟨S1x512x512, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S1x512x512, .bf16⟩
  | .local _ .vmem, ⟨7, _⟩ => ⟨S1x512x512, .bf16⟩
  | .local _ .vmem, ⟨8, _⟩ => ⟨S1x512x512, .bf16⟩
  | .local _ .vmem, ⟨9, _⟩ => ⟨S1x512x512, .bf16⟩
  | .local _ .vmem, ⟨10, _⟩ => ⟨S1x512x1024, .f32⟩
  | .local _ .vmem, ⟨11, _⟩ => ⟨S1x512x1024, .f32⟩
  | .local _ .vmem, ⟨12, _⟩ => ⟨S1x1x3072, .f32⟩
  | .local _ .vmem, ⟨13, _⟩ => ⟨S1x1x3072, .f32⟩
  | .local _ .vmem, ⟨14, _⟩ => ⟨S1x1024, .f32⟩
  | .local _ .vmem, ⟨15, _⟩ => ⟨S1024x1024, .bf16⟩
  | .local _ .vmem, ⟨16, _⟩ => ⟨S1x512x1024, .f32⟩
  | .local _ .vmem, ⟨17, _⟩ => ⟨S1x512x1024, .f32⟩
  | _, _ => ⟨S8x4352x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let c256_i32 : BitVec 32 := 256#32
  let arg0 : BitVec 32 := BitVec.ofNat 32 (i 0).val
  let c512_i32 : BitVec 32 := 512#32
  let v0 : BitVec 32 := Scalar.muli arg0 c512_i32
  let v1 : BitVec 32 := Scalar.addi c256_i32 v0
  v1
def k0_mult2 (i : grid0.Coords) : BitVec 32 :=
  let c256_i32 : BitVec 32 := 256#32
  let arg0 : BitVec 32 := BitVec.ofNat 32 (i 0).val
  let c512_i32 : BitVec 32 := 512#32
  let v0 : BitVec 32 := Scalar.muli arg0 c512_i32
  let v1 : BitVec 32 := Scalar.addi c256_i32 v0
  v1
def cc0_transform_0 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c256_i32 : BitVec 32 := 256#32
  let v1 : BitVec 32 := Scalar.addi c256_i32 v0
  let v2 : BitVec 32 := v1
  let c0_i32 : BitVec 32 := 0#32
  let c0_i32_0 : BitVec 32 := 0#32
  ![arg1.toNat, v2.toNat, c0_i32.toNat]

def cc0_transform_1 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c256_i32 : BitVec 32 := 256#32
  let v1 : BitVec 32 := Scalar.addi c256_i32 v0
  let v2 : BitVec 32 := v1
  let c0_i32 : BitVec 32 := 0#32
  let c0_i32_0 : BitVec 32 := 0#32
  ![arg1.toNat, v2.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x3072 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference3Ideal.lean ====
abbrev S8x4352x512 : Shape := ⟨3, ![8, 4352, 512]⟩
abbrev S8x4096x512 : Shape := ⟨3, ![8, 4096, 512]⟩
abbrev S8x4096x1024 : Shape := ⟨3, ![8, 4096, 1024]⟩
abbrev S2x16x3072 : Shape := ⟨3, ![2, 16, 3072]⟩
abbrev S2x1024 : Shape := ⟨2, ![2, 1024]⟩
abbrev S1x1024x1024 : Shape := ⟨3, ![1, 1024, 1024]⟩
abbrev S1x8x3072 : Shape := ⟨3, ![1, 8, 3072]⟩
abbrev S8x3072 : Shape := ⟨2, ![8, 3072]⟩
abbrev S8x1024 : Shape := ⟨2, ![8, 1024]⟩
abbrev S_ : Shape := ⟨0, ![]⟩
abbrev S1024x1024 : Shape := ⟨2, ![1024, 1024]⟩
abbrev S8x1x1024 : Shape := ⟨3, ![8, 1, 1024]⟩
abbrev S1x1024 : Shape := ⟨2, ![1, 1024]⟩
abbrev S1024 : Shape := ⟨1, ![1024]⟩
abbrev S8x4096 : Shape := ⟨2, ![8, 4096]⟩
abbrev S8x4096x1 : Shape := ⟨3, ![8, 4096, 1]⟩
abbrev S1x1x1024 : Shape := ⟨3, ![1, 1, 1024]⟩

abbrev nBuf : Space → Nat
  | .hbm => 67
  | .vmem => 0
  | .smem => 0
  | _ => 0

abbrev bufTy : (tb : Table) → Fin (tcTables nBuf tb) → BufTy
  | .hbm, ⟨0, _⟩ => ⟨S8x4352x512, .bf16⟩
  | .hbm, ⟨1, _⟩ => ⟨S8x4352x512, .bf16⟩
  | .hbm, ⟨2, _⟩ => ⟨S8x4096x512, .bf16⟩
  | .hbm, ⟨3, _⟩ => ⟨S8x4096x512, .bf16⟩
  | .hbm, ⟨4, _⟩ => ⟨S8x4096x512, .bf16⟩
  | .hbm, ⟨5, _⟩ => ⟨S8x4096x1024, .f32⟩
  | .hbm, ⟨6, _⟩ => ⟨S2x16x3072, .f32⟩
  | .hbm, ⟨7, _⟩ => ⟨S2x1024, .f32⟩
  | .hbm, ⟨8, _⟩ => ⟨S1x1024x1024, .f32⟩
  | .hbm, ⟨9, _⟩ => ⟨S1x8x3072, .f32⟩
  | .hbm, ⟨10, _⟩ => ⟨S8x3072, .f32⟩
  | .hbm, ⟨11, _⟩ => ⟨S8x1024, .f32⟩
  | .hbm, ⟨12, _⟩ => ⟨S8x1024, .f32⟩
  | .hbm, ⟨13, _⟩ => ⟨S8x1024, .f32⟩
  | .hbm, ⟨14, _⟩ => ⟨S8x4096x512, .bf16⟩
  | .hbm, ⟨15, _⟩ => ⟨S8x4096x512, .f32⟩
  | .hbm, ⟨16, _⟩ => ⟨S8x4096x512, .bf16⟩
  | .hbm, ⟨17, _⟩ => ⟨S8x4096x512, .f32⟩
  | .hbm, ⟨18, _⟩ => ⟨S8x4096x512, .f32⟩
  | .hbm, ⟨19, _⟩ => ⟨S8x4096x512, .f32⟩
  | .hbm, ⟨20, _⟩ => ⟨S8x4096x512, .f32⟩
  | .hbm, ⟨21, _⟩ => ⟨S8x4096x512, .f32⟩
  | .hbm, ⟨22, _⟩ => ⟨S_, .f32⟩
  | .hbm, ⟨23, _⟩ => ⟨S8x4096x512, .f32⟩
  | .hbm, ⟨24, _⟩ => ⟨S8x4096x512, .f32⟩
  | .hbm, ⟨25, _⟩ => ⟨S_, .f32⟩
  | .hbm, ⟨26, _⟩ => ⟨S8x4096x512, .f32⟩
  | .hbm, ⟨27, _⟩ => ⟨S8x4096x512, .f32⟩
  | .hbm, ⟨28, _⟩ => ⟨S8x4096x512, .f32⟩
  | .hbm, ⟨29, _⟩ => ⟨S8x4096x512, .f32⟩
  | .hbm, ⟨30, _⟩ => ⟨S8x4096x512, .f32⟩
  | .hbm, ⟨31, _⟩ => ⟨S8x4096x512, .f32⟩
  | .hbm, ⟨32, _⟩ => ⟨S8x4096x512, .f32⟩
  | .hbm, ⟨33, _⟩ => ⟨S8x4096x512, .f32⟩
  | .hbm, ⟨34, _⟩ => ⟨S_, .f32⟩
  | .hbm, ⟨35, _⟩ => ⟨S8x4096x512, .f32⟩
  | .hbm, ⟨36, _⟩ => ⟨S8x4096x512, .f32⟩
  | .hbm, ⟨37, _⟩ => ⟨S_, .f32⟩
  | .hbm, ⟨38, _⟩ => ⟨S8x4096x512, .f32⟩
  | .hbm, ⟨39, _⟩ => ⟨S8x4096x512, .f32⟩
  | .hbm, ⟨40, _⟩ => ⟨S8x4096x512, .f32⟩
  | .hbm, ⟨41, _⟩ => ⟨S8x4096x512, .f32⟩
  | .hbm, ⟨42, _⟩ => ⟨S8x4096x1024, .f32⟩
  | .hbm, ⟨43, _⟩ => ⟨S1024x1024, .f32⟩
  | .hbm, ⟨44, _⟩ => ⟨S8x4096x1024, .f32⟩
  | .hbm, ⟨45, _⟩ => ⟨S8x1x1024, .f32⟩
  | .hbm, ⟨46, _⟩ => ⟨S1x1024, .f32⟩
  | .hbm, ⟨47, _⟩ => ⟨S1024, .f32⟩
  | .hbm, ⟨48, _⟩ => ⟨S8x4096x1024, .f32⟩
  | .hbm, ⟨49, _⟩ => ⟨S_, .f32⟩
  | .hbm, ⟨50, _⟩ => ⟨S8x4096, .f32⟩
  | .hbm, ⟨51, _⟩ => ⟨S8x4096x1, .f32⟩
  | .hbm, ⟨52, _⟩ => ⟨S_, .f32⟩
  | .hbm, ⟨53, _⟩ => ⟨S8x4096x1, .f32⟩
  | .hbm, ⟨54, _⟩ => ⟨S8x4096x1, .f32⟩
  | .hbm, ⟨55, _⟩ => ⟨S_, .f32⟩
  | .hbm, ⟨56, _⟩ => ⟨S8x4096x1, .f32⟩
  | .hbm, ⟨57, _⟩ => ⟨S8x4096x1, .f32⟩
  | .hbm, ⟨58, _⟩ => ⟨S8x4096x1, .f32⟩
  | .hbm, ⟨59, _⟩ => ⟨S8x4096x1024, .f32⟩
  | .hbm, ⟨60, _⟩ => ⟨S8x4096x1024, .f32⟩
  | .hbm, ⟨61, _⟩ => ⟨S1x1x1024, .f32⟩
  | .hbm, ⟨62, _⟩ => ⟨S8x4096x1024, .f32⟩
  | .hbm, ⟨63, _⟩ => ⟨S8x4096x1024, .f32⟩
  | .hbm, ⟨64, _⟩ => ⟨S8x4096x1024, .f32⟩
  | .hbm, ⟨65, _⟩ => ⟨S8x4096x1024, .f32⟩
  | .hbm, ⟨66, _⟩ => ⟨S8x4096x1024, .f32⟩
  | _, _ => ⟨S8x4352x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_call0_v0 : Ref sig .tc := ⟨.hbm, 20, rfl⟩
abbrev main_call0_v1 : Ref sig .tc := ⟨.hbm, 21, rfl⟩
abbrev main_call0_cst : Ref sig .tc := ⟨.hbm, 22, rfl⟩
abbrev main_call0_v2 : Ref sig .tc := ⟨.hbm, 23, rfl⟩
abbrev main_call0_v3 : Ref sig .tc := ⟨.hbm, 24, rfl⟩
abbrev main_call0_cst_0 : Ref sig .tc := ⟨.hbm, 25, rfl⟩
abbrev main_call0_v4 : Ref sig .tc := ⟨.hbm, 26, rfl⟩
abbrev main_call0_v5 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_call1_v0 : Ref sig .tc := ⟨.hbm, 32, rfl⟩
abbrev main_call1_v1 : Ref sig .tc := ⟨.hbm, 33, rfl⟩
abbrev main_call1_cst : Ref sig .tc := ⟨.hbm, 34, rfl⟩
abbrev main_call1_v2 : Ref sig .tc := ⟨.hbm, 35, rfl⟩
abbrev main_call1_v3 : Ref sig .tc := ⟨.hbm, 36, rfl⟩
abbrev main_call1_cst_0 : Ref sig .tc := ⟨.hbm, 37, rfl⟩
abbrev main_call1_v4 : Ref sig .tc := ⟨.hbm, 38, rfl⟩
abbrev main_call1_v5 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_cst : Ref sig .tc := ⟨.hbm, 49, rfl⟩
abbrev main_v24 : Ref sig .tc := ⟨.hbm, 50, rfl⟩
abbrev main_v25 : Ref sig .tc := ⟨.hbm, 51, rfl⟩
abbrev main_cst_0 : Ref sig .tc := ⟨.hbm, 52, rfl⟩
abbrev main_v26 : Ref sig .tc := ⟨.hbm, 53, rfl⟩
abbrev main_v27 : Ref sig .tc := ⟨.hbm, 54, rfl⟩
abbrev main_cst_1 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩

abbrev nD : Nat := 1
abbrev τ : Topo := Topo.v7x

variable {F : FTy → Type} [FloatOps F]
-- ==== Kernel4.lean ====
abbrev S8x4096x1024 : Shape := ⟨3, ![8, 4096, 1024]⟩
abbrev S2x16x3072 : Shape := ⟨3, ![2, 16, 3072]⟩
abbrev S2x1024 : Shape := ⟨2, ![2, 1024]⟩
abbrev S1x1024x3072 : Shape := ⟨3, ![1, 1024, 3072]⟩
abbrev S1x4x512 : Shape := ⟨3, ![1, 4, 512]⟩
abbrev S1x512 : Shape := ⟨2, ![1, 512]⟩
abbrev S4096x32 : Shape := ⟨2, ![4096, 32]⟩
abbrev S1x16x3072 : Shape := ⟨3, ![1, 16, 3072]⟩
abbrev S16x3072 : Shape := ⟨2, ![16, 3072]⟩
abbrev S16x1x3072 : Shape := ⟨3, ![16, 1, 3072]⟩
abbrev S1x1024 : Shape := ⟨2, ![1, 1024]⟩
abbrev S1024 : Shape := ⟨1, ![1024]⟩
abbrev S1024x3072 : Shape := ⟨2, ![1024, 3072]⟩
abbrev S4x512 : Shape := ⟨2, ![4, 512]⟩
abbrev S512 : Shape := ⟨1, ![512]⟩
abbrev S4096x16 : Shape := ⟨2, ![4096, 16]⟩
abbrev S_ : Shape := ⟨0, ![]⟩
abbrev S4096x64 : Shape := ⟨2, ![4096, 64]⟩
abbrev S1x4096x1x64 : Shape := ⟨4, ![1, 4096, 1, 64]⟩
abbrev S1x4096x2x64 : Shape := ⟨4, ![1, 4096, 2, 64]⟩
abbrev S4096x128 : Shape := ⟨2, ![4096, 128]⟩
abbrev S8x4096x512 : Shape := ⟨3, ![8, 4096, 512]⟩
abbrev S1x512x1024 : Shape := ⟨3, ![1, 512, 1024]⟩
abbrev S1x8x1024 : Shape := ⟨3, ![1, 8, 1024]⟩
abbrev S1x1x3072 : Shape := ⟨3, ![1, 1, 3072]⟩
abbrev S512x128 : Shape := ⟨2, ![512, 128]⟩
abbrev S1x512x512 : Shape := ⟨3, ![1, 512, 512]⟩
abbrev S4x528x128 : Shape := ⟨3, ![4, 528, 128]⟩
abbrev S8x1024 : Shape := ⟨2, ![8, 1024]⟩
abbrev S512x1024 : Shape := ⟨2, ![512, 1024]⟩
abbrev S528x1024 : Shape := ⟨2, ![528, 1024]⟩
abbrev S1x1x1024 : Shape := ⟨3, ![1, 1, 1024]⟩
abbrev S528 : Shape := ⟨1, ![528]⟩
abbrev S528x1 : Shape := ⟨2, ![528, 1]⟩
abbrev S1024x512 : Shape := ⟨2, ![1024, 512]⟩
abbrev S528x512 : Shape := ⟨2, ![528, 512]⟩
abbrev S8x128 : Shape := ⟨2, ![8, 128]⟩
abbrev S528x128 : Shape := ⟨2, ![528, 128]⟩
abbrev S1x8x128 : Shape := ⟨3, ![1, 8, 128]⟩
abbrev S1x512x128 : Shape := ⟨3, ![1, 512, 128]⟩
abbrev S1x128 : Shape := ⟨2, ![1, 128]⟩
abbrev S512x512 : Shape := ⟨2, ![512, 512]⟩

abbrev nBuf : Space → Nat
  | .hbm => 45
  | .vmem => 31
  | .smem => 0
  | _ => 0

abbrev bufTy : (tb : Table) → Fin (tcTables nBuf tb) → BufTy
  | .hbm, ⟨0, _⟩ => ⟨S8x4096x1024, .f32⟩
  | .hbm, ⟨1, _⟩ => ⟨S2x16x3072, .f32⟩
  | .hbm, ⟨2, _⟩ => ⟨S2x1024, .f32⟩
  | .hbm, ⟨3, _⟩ => ⟨S1x1024x3072, .f32⟩
  | .hbm, ⟨4, _⟩ => ⟨S1x4x512, .f32⟩
  | .hbm, ⟨5, _⟩ => ⟨S1x512, .f32⟩
  | .hbm, ⟨6, _⟩ => ⟨S4096x32, .f32⟩
  | .hbm, ⟨7, _⟩ => ⟨S4096x32, .f32⟩
  | .hbm, ⟨8, _⟩ => ⟨S1x16x3072, .f32⟩
  | .hbm, ⟨9, _⟩ => ⟨S16x3072, .f32⟩
  | .hbm, ⟨10, _⟩ => ⟨S16x1x3072, .f32⟩
  | .hbm, ⟨11, _⟩ => ⟨S1x1024, .f32⟩
  | .hbm, ⟨12, _⟩ => ⟨S1024, .f32⟩
  | .hbm, ⟨13, _⟩ => ⟨S1024x3072, .f32⟩
  | .hbm, ⟨14, _⟩ => ⟨S1024x3072, .bf16⟩
  | .hbm, ⟨15, _⟩ => ⟨S4x512, .f32⟩
  | .hbm, ⟨16, _⟩ => ⟨S512, .f32⟩
  | .hbm, ⟨17, _⟩ => ⟨S4096x16, .f32⟩
  | .hbm, ⟨18, _⟩ => ⟨S4096x16, .f32⟩
  | .hbm, ⟨19, _⟩ => ⟨S4096x16, .f32⟩
  | .hbm, ⟨20, _⟩ => ⟨S4096x16, .f32⟩
  | .hbm, ⟨21, _⟩ => ⟨S_, .f32⟩
  | .hbm, ⟨22, _⟩ => ⟨S4096x16, .f32⟩
  | .hbm, ⟨23, _⟩ => ⟨S4096x64, .f32⟩
  | .hbm, ⟨24, _⟩ => ⟨S4096x16, .f32⟩
  | .hbm, ⟨25, _⟩ => ⟨S4096x16, .f32⟩
  | .hbm, ⟨26, _⟩ => ⟨S4096x64, .f32⟩
  | .hbm, ⟨27, _⟩ => ⟨S4096x64, .f32⟩
  | .hbm, ⟨28, _⟩ => ⟨S1x4096x1x64, .f32⟩
  | .hbm, ⟨29, _⟩ => ⟨S1x4096x2x64, .f32⟩
  | .hbm, ⟨30, _⟩ => ⟨S4096x128, .f32⟩
  | .hbm, ⟨31, _⟩ => ⟨S1x4096x1x64, .f32⟩
  | .hbm, ⟨32, _⟩ => ⟨S1x4096x2x64, .f32⟩
  | .hbm, ⟨33, _⟩ => ⟨S4096x128, .f32⟩
  | .hbm, ⟨34, _⟩ => ⟨S1x4096x1x64, .f32⟩
  | .hbm, ⟨35, _⟩ => ⟨S1x4096x2x64, .f32⟩
  | .hbm, ⟨36, _⟩ => ⟨S4096x128, .f32⟩
  | .hbm, ⟨37, _⟩ => ⟨S1x1024, .f32⟩
  | .hbm, ⟨38, _⟩ => ⟨S1x512, .f32⟩
  | .hbm, ⟨39, _⟩ => ⟨S8x4096x512, .f32⟩
  | .hbm, ⟨40, _⟩ => ⟨S8x4096x512, .bf16⟩
  | .hbm, ⟨41, _⟩ => ⟨S8x4096x512, .bf16⟩
  | .hbm, ⟨42, _⟩ => ⟨S8x4096x512, .bf16⟩
  | .hbm, ⟨43, _⟩ => ⟨S8x4096x512, .bf16⟩
  | .hbm, ⟨44, _⟩ => ⟨S8x4096x512, .bf16⟩
  | .local _ .vmem, ⟨0, _⟩ => ⟨S1x512x1024, .f32⟩
  | .local _ .vmem, ⟨1, _⟩ => ⟨S1x512x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x1x3072, .f32⟩
  | .local _ .vmem, ⟨7, _⟩ => ⟨S1x1x3072, .f32⟩
  | .local _ .vmem, ⟨8, _⟩ => ⟨S1x1024, .f32⟩
  | .local _ .vmem, ⟨9, _⟩ => ⟨S1024x3072, .bf16⟩
  | .local _ .vmem, ⟨10, _⟩ => ⟨S4x512, .f32⟩
  | .local _ .vmem, ⟨11, _⟩ => ⟨S1x512, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | .local _ .vmem, ⟨18, _⟩ => ⟨S1x512x512, .f32⟩
  | .local _ .vmem, ⟨19, _⟩ => ⟨S1x512x512, .f32⟩
  | .local _ .vmem, ⟨20, _⟩ => ⟨S1x512x512, .bf16⟩
  | .local _ .vmem, ⟨21, _⟩ => ⟨S1x512x512, .bf16⟩
  | .local _ .vmem, ⟨22, _⟩ => ⟨S1x512x512, .bf16⟩
  | .local _ .vmem, ⟨23, _⟩ => ⟨S1x512x512, .bf16⟩
  | .local _ .vmem, ⟨24, _⟩ => ⟨S1x512x512, .bf16⟩
  | .local _ .vmem, ⟨25, _⟩ => ⟨S1x512x512, .bf16⟩
  | .local _ .vmem, ⟨26, _⟩ => ⟨S1x512x512, .bf16⟩
  | .local _ .vmem, ⟨27, _⟩ => ⟨S1x512x512, .bf16⟩
  | .local _ .vmem, ⟨28, _⟩ => ⟨S1x512x512, .bf16⟩
  | .local _ .vmem, ⟨29, _⟩ => ⟨S1x512x512, .bf16⟩
  | .local _ .vmem, ⟨30, _⟩ => ⟨S4x528x128, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30_0 : Ref sig .tc := ⟨.hbm, 39, rfl⟩
abbrev main_v30_1 : Ref sig .tc := ⟨.hbm, 40, rfl⟩
abbrev main_v30_2 : Ref sig .tc := ⟨.hbm, 41, rfl⟩
abbrev main_v30_3 : Ref sig .tc := ⟨.hbm, 42, rfl⟩
abbrev main_v30_4 : Ref sig .tc := ⟨.hbm, 43, rfl⟩
abbrev main_v30_5 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_scratch0 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg1.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  let c0_i32_0 : BitVec 32 := 0#32
  ![arg1.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x3072 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== Reference4Ideal.lean ====
abbrev S8x4096x1024 : Shape := ⟨3, ![8, 4096, 1024]⟩
abbrev S2x16x3072 : Shape := ⟨3, ![2, 16, 3072]⟩
abbrev S2x1024 : Shape := ⟨2, ![2, 1024]⟩
abbrev S1x1024x3072 : Shape := ⟨3, ![1, 1024, 3072]⟩
abbrev S1x4x512 : Shape := ⟨3, ![1, 4, 512]⟩
abbrev S1x512 : Shape := ⟨2, ![1, 512]⟩
abbrev S4096x32 : Shape := ⟨2, ![4096, 32]⟩
abbrev S1x8x3072 : Shape := ⟨3, ![1, 8, 3072]⟩
abbrev S8x3072 : Shape := ⟨2, ![8, 3072]⟩
abbrev S8x1024 : Shape := ⟨2, ![8, 1024]⟩
abbrev S1x1024 : Shape := ⟨2, ![1, 1024]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x1x1024 : Shape := ⟨3, ![8, 1, 1024]⟩
abbrev S1024x3072 : Shape := ⟨2, ![1024, 3072]⟩
abbrev S8x4096x3072 : Shape := ⟨3, ![8, 4096, 3072]⟩
abbrev S8x4096x512 : Shape := ⟨3, ![8, 4096, 512]⟩
abbrev S4x512 : Shape := ⟨2, ![4, 512]⟩
abbrev S512 : Shape := ⟨1, ![512]⟩
abbrev S8x4099x512 : Shape := ⟨3, ![8, 4099, 512]⟩
abbrev S1x1x512 : Shape := ⟨3, ![1, 1, 512]⟩
abbrev S8x4096x16x2x32 : Shape := ⟨5, ![8, 4096, 16, 2, 32]⟩
abbrev S4096x2x16 : Shape := ⟨3, ![4096, 2, 16]⟩
abbrev S1x4096x1x2x16 : Shape := ⟨5, ![1, 4096, 1, 2, 16]⟩
abbrev S8x4096x16x2x16 : Shape := ⟨5, ![8, 4096, 16, 2, 16]⟩

abbrev nBuf : Space → Nat
  | .hbm => 111
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S2x16x3072, .f32⟩
  | .hbm, ⟨2, _⟩ => ⟨S2x1024, .f32⟩
  | .hbm, ⟨3, _⟩ => ⟨S1x1024x3072, .f32⟩
  | .hbm, ⟨4, _⟩ => ⟨S1x4x512, .f32⟩
  | .hbm, ⟨5, _⟩ => ⟨S1x512, .f32⟩
  | .hbm, ⟨6, _⟩ => ⟨S4096x32, .f32⟩
  | .hbm, ⟨7, _⟩ => ⟨S4096x32, .f32⟩
  | .hbm, ⟨8, _⟩ => ⟨S1x8x3072, .f32⟩
  | .hbm, ⟨9, _⟩ => ⟨S8x3072, .f32⟩
  | .hbm, ⟨10, _⟩ => ⟨S8x1024, .f32⟩
  | .hbm, ⟨11, _⟩ => ⟨S8x1024, .f32⟩
  | .hbm, ⟨12, _⟩ => ⟨S8x1024, .f32⟩
  | .hbm, ⟨13, _⟩ => ⟨S1x1024, .f32⟩
  | .hbm, ⟨14, _⟩ => ⟨S1024, .f32⟩
  | .hbm, ⟨15, _⟩ => ⟨S8x4096x1024, .f32⟩
  | .hbm, ⟨16, _⟩ => ⟨S_, .f32⟩
  | .hbm, ⟨17, _⟩ => ⟨S8x4096, .f32⟩
  | .hbm, ⟨18, _⟩ => ⟨S8x4096x1, .f32⟩
  | .hbm, ⟨19, _⟩ => ⟨S_, .f32⟩
  | .hbm, ⟨20, _⟩ => ⟨S8x4096x1, .f32⟩
  | .hbm, ⟨21, _⟩ => ⟨S8x4096x1, .f32⟩
  | .hbm, ⟨22, _⟩ => ⟨S_, .f32⟩
  | .hbm, ⟨23, _⟩ => ⟨S8x4096x1, .f32⟩
  | .hbm, ⟨24, _⟩ => ⟨S8x4096x1, .f32⟩
  | .hbm, ⟨25, _⟩ => ⟨S8x4096x1, .f32⟩
  | .hbm, ⟨26, _⟩ => ⟨S8x4096x1024, .f32⟩
  | .hbm, ⟨27, _⟩ => ⟨S8x4096x1024, .f32⟩
  | .hbm, ⟨28, _⟩ => ⟨S1x1x1024, .f32⟩
  | .hbm, ⟨29, _⟩ => ⟨S8x4096x1024, .f32⟩
  | .hbm, ⟨30, _⟩ => ⟨S8x4096x1024, .f32⟩
  | .hbm, ⟨31, _⟩ => ⟨S8x1x1024, .f32⟩
  | .hbm, ⟨32, _⟩ => ⟨S_, .f32⟩
  | .hbm, ⟨33, _⟩ => ⟨S8x1x1024, .f32⟩
  | .hbm, ⟨34, _⟩ => ⟨S8x1x1024, .f32⟩
  | .hbm, ⟨35, _⟩ => ⟨S8x4096x1024, .f32⟩
  | .hbm, ⟨36, _⟩ => ⟨S8x4096x1024, .f32⟩
  | .hbm, ⟨37, _⟩ => ⟨S8x1x1024, .f32⟩
  | .hbm, ⟨38, _⟩ => ⟨S8x4096x1024, .f32⟩
  | .hbm, ⟨39, _⟩ => ⟨S8x4096x1024, .f32⟩
  | .hbm, ⟨40, _⟩ => ⟨S1024x3072, .f32⟩
  | .hbm, ⟨41, _⟩ => ⟨S8x4096x3072, .f32⟩
  | .hbm, ⟨42, _⟩ => ⟨S8x4096x512, .f32⟩
  | .hbm, ⟨43, _⟩ => ⟨S8x4096x512, .f32⟩
  | .hbm, ⟨44, _⟩ => ⟨S8x4096x1024, .f32⟩
  | .hbm, ⟨45, _⟩ => ⟨S8x4096x512, .f32⟩
  | .hbm, ⟨46, _⟩ => ⟨S8x4096x512, .f32⟩
  | .hbm, ⟨47, _⟩ => ⟨S4x512, .f32⟩
  | .hbm, ⟨48, _⟩ => ⟨S512, .f32⟩
  | .hbm, ⟨49, _⟩ => ⟨S_, .i32⟩
  | .hbm, ⟨50, _⟩ => ⟨S_, .f32⟩
  | .hbm, ⟨51, _⟩ => ⟨S8x4099x512, .f32⟩
  | .hbm, ⟨52, _⟩ => ⟨S8x4096x512, .f32⟩
  | .hbm, ⟨53, _⟩ => ⟨S1x512, .f32⟩
  | .hbm, ⟨54, _⟩ => ⟨S512, .f32⟩
  | .hbm, ⟨55, _⟩ => ⟨S1x1x512, .f32⟩
  | .hbm, ⟨56, _⟩ => ⟨S8x4096x512, .f32⟩
  | .hbm, ⟨57, _⟩ => ⟨S8x4096x512, .f32⟩
  | .hbm, ⟨58, _⟩ => ⟨S8x4096x512, .f32⟩
  | .hbm, ⟨59, _⟩ => ⟨S1x512, .f32⟩
  | .hbm, ⟨60, _⟩ => ⟨S512, .f32⟩
  | .hbm, ⟨61, _⟩ => ⟨S1x1x512, .f32⟩
  | .hbm, ⟨62, _⟩ => ⟨S8x4096x512, .f32⟩
  | .hbm, ⟨63, _⟩ => ⟨S8x4096x512, .f32⟩
  | .hbm, ⟨64, _⟩ => ⟨S8x4096x512, .f32⟩
  | .hbm, ⟨65, _⟩ => ⟨S8x4096x512, .f32⟩
  | .hbm, ⟨66, _⟩ => ⟨S1x512, .f32⟩
  | .hbm, ⟨67, _⟩ => ⟨S512, .f32⟩
  | .hbm, ⟨68, _⟩ => ⟨S1x1x512, .f32⟩
  | .hbm, ⟨69, _⟩ => ⟨S8x4096x512, .f32⟩
  | .hbm, ⟨70, _⟩ => ⟨S8x4096x512, .f32⟩
  | .hbm, ⟨71, _⟩ => ⟨S8x4096x512, .f32⟩
  | .hbm, ⟨72, _⟩ => ⟨S8x4096x512, .f32⟩
  | .hbm, ⟨73, _⟩ => ⟨S1x512, .f32⟩
  | .hbm, ⟨74, _⟩ => ⟨S512, .f32⟩
  | .hbm, ⟨75, _⟩ => ⟨S1x1x512, .f32⟩
  | .hbm, ⟨76, _⟩ => ⟨S8x4096x512, .f32⟩
  | .hbm, ⟨77, _⟩ => ⟨S8x4096x512, .f32⟩
  | .hbm, ⟨78, _⟩ => ⟨S8x4096x512, .f32⟩
  | .hbm, ⟨79, _⟩ => ⟨S1x1x512, .f32⟩
  | .hbm, ⟨80, _⟩ => ⟨S8x4096x512, .f32⟩
  | .hbm, ⟨81, _⟩ => ⟨S8x4096x512, .f32⟩
  | .hbm, ⟨82, _⟩ => ⟨S8x4096x16x2x32, .f32⟩
  | .hbm, ⟨83, _⟩ => ⟨S4096x2x16, .f32⟩
  | .hbm, ⟨84, _⟩ => ⟨S1x4096x1x2x16, .f32⟩
  | .hbm, ⟨85, _⟩ => ⟨S4096x2x16, .f32⟩
  | .hbm, ⟨86, _⟩ => ⟨S1x4096x1x2x16, .f32⟩
  | .hbm, ⟨87, _⟩ => ⟨S8x4096x16x2x16, .f32⟩
  | .hbm, ⟨88, _⟩ => ⟨S8x4096x16x2x16, .f32⟩
  | .hbm, ⟨89, _⟩ => ⟨S8x4096x16x2x16, .f32⟩
  | .hbm, ⟨90, _⟩ => ⟨S8x4096x16x2x16, .f32⟩
  | .hbm, ⟨91, _⟩ => ⟨S8x4096x16x2x16, .f32⟩
  | .hbm, ⟨92, _⟩ => ⟨S8x4096x16x2x16, .f32⟩
  | .hbm, ⟨93, _⟩ => ⟨S8x4096x16x2x16, .f32⟩
  | .hbm, ⟨94, _⟩ => ⟨S8x4096x16x2x16, .f32⟩
  | .hbm, ⟨95, _⟩ => ⟨S8x4096x16x2x16, .f32⟩
  | .hbm, ⟨96, _⟩ => ⟨S8x4096x16x2x16, .f32⟩
  | .hbm, ⟨97, _⟩ => ⟨S8x4096x16x2x16, .f32⟩
  | .hbm, ⟨98, _⟩ => ⟨S8x4096x16x2x16, .f32⟩
  | .hbm, ⟨99, _⟩ => ⟨S8x4096x16x2x32, .f32⟩
  | .hbm, ⟨100, _⟩ => ⟨S8x4096x1024, .f32⟩
  | .hbm, ⟨101, _⟩ => ⟨S8x4096x512, .f32⟩
  | .hbm, ⟨102, _⟩ => ⟨S8x4096x512, .f32⟩
  | .hbm, ⟨103, _⟩ => ⟨S8x4096x512, .bf16⟩
  | .hbm, ⟨104, _⟩ => ⟨S_, .f32⟩
  | .hbm, ⟨105, _⟩ => ⟨S8x4096x512, .f32⟩
  | .hbm, ⟨106, _⟩ => ⟨S8x4096x512, .f32⟩
  | .hbm, ⟨107, _⟩ => ⟨S8x4096x512, .bf16⟩
  | .hbm, ⟨108, _⟩ => ⟨S8x4096x512, .bf16⟩
  | .hbm, ⟨109, _⟩ => ⟨S8x4096x512, .bf16⟩
  | .hbm, ⟨110, _⟩ => ⟨S8x4096x512, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_c : Ref sig .tc := ⟨.hbm, 49, rfl⟩
abbrev main_call0_v0 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_cst_3 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩

abbrev nD : Nat := 1
abbrev τ : Topo := Topo.v7x

variable {F : FTy → Type} [FloatOps F]
-- ==== Proof.Finish.Row.lean ====
module

public import Idealize.ShloMosaic.Lib.Pointwise

@[expose] public section

noncomputable section

namespace Cert.Proof.Finish

open Idealize.ShloMosaic Idealize.SL.Sem

/-- `1 / sqrt (mean of squares + eps)` of a row `y` of `N` entries, at the printed words of `N` and of eps. -/
def rms {N : Nat} (n : BitVec 32) (y : Fin N → EReal) : EReal :=
  Ideal.rsqrt (Ideal.div (∑ l, y l * y l) (Ideal.ofBits .f32 n) + Ideal.ofBits .f32 0x358637BD#32)

/-- One entry of the gated sum: both scans, the skip path `s * x`, times the gate `z`. -/
def ent (a b s x z : EReal) : EReal := (a + b + s * x) * z

/-- Channel `l` of group `g` of the 2048 inner channels. -/
def col (g : Fin 4) (l : Fin 512) : Fin 2048 := ⟨g.val * 512 + l.val, by omega⟩

/-- The output projection's row: the inner channels normalised group by group, scaled by `n`, times the weights. -/
def proj (y n : Fin 2048 → EReal) (W : Fin 2048 → Fin 1024 → EReal) (d : Fin 1024) : EReal :=
  ∑ g : Fin 4, ∑ l : Fin 512,
    y (col g l) * rms 0x44000000#32 (fun k : Fin 512 => y (col g k)) * n (col g l) * W (col g l) d

/-- The residual: `h` plus the gate times the normalised row `o` times `g`. -/
def resid (o : Fin 1024 → EReal) (h gt g : EReal) (d : Fin 1024) : EReal :=
  h + gt * (o d * rms 0x44800000#32 o * g)

/-- A result entry of the whole call, from the row's operands. -/
def entry (a b s x z n : Fin 2048 → EReal) (W : Fin 2048 → Fin 1024 → EReal) (h gt g : EReal) (d : Fin 1024) : EReal :=
  resid (proj (fun k => ent (a k) (b k) (s k) (x k) (z k)) n W) h gt g d

end Cert.Proof.Finish

end
-- ==== Proof.Finish.Body.lean ====
module

public import proofs.«01_k».proof.Proof.Gen.KernelIdeal.Skeleton
public import proofs.«01_k».proof.Proof.Finish.Row

@[expose] public section

set_option maxRecDepth 16384

noncomputable section

namespace Cert.Proof.Finish

open Idealize.ShloMosaic Idealize.SL.Sem
open Cert.KernelIdeal Cert.KernelIdeal.Gen

/-- The activations of one group, read at a row and a channel: the gated sum, normalised and scaled. -/
theorem pay3_at (a b : FVec Ideal S1x256x512 .bf16) (s : FVec Ideal S1x512 .f32) (x z : FVec Ideal S1x256x512 .bf16)
    (n : FVec Ideal S1x512 .f32) (r : Fin 256) (l : Fin 512) :
    k0_pay3 (F := Ideal) a b s x z n (ix2 r l) =
      ent (a (ix3 0 r l)) (b (ix3 0 r l)) (s (ix2 0 l)) (x (ix3 0 r l)) (z (ix3 0 r l)) *
        rms 0x44000000#32 (fun k : Fin 512 =>
          ent (a (ix3 0 r k)) (b (ix3 0 r k)) (s (ix2 0 k)) (x (ix3 0 r k)) (z (ix3 0 r k))) * n (ix2 0 l) := by
  pointwise [k0_pay3]
  rfl

/-- One group's product with its rows of the weights, read at an entry. -/
theorem pay4_at (A : FVec Ideal S256x512 .bf16) (W : FVec Ideal S512x1024 .bf16) (r : Fin 256) (d : Fin 1024) :
    k0_pay4 (F := Ideal) A W (ix2 r d) = ∑ l : Fin 512, A (ix2 r l) * W (ix2 l d) := by
  pointwise [k0_pay4]

/-- What one half of the block stores, read at an entry: the residual of the projected row. -/
theorem pay16_at (gt : FVec Ideal S1x1024 .f32) (o : FVec Ideal S256x1024 .f32) (h : FVec Ideal S1x256x1024 .f32)
    (g : FVec Ideal S1x1024 .f32) (u : Fin 1) (r : Fin 256) (d : Fin 1024) :
    k0_pay16 (F := Ideal) gt o h g (ix3 u r d) =
      resid (fun k : Fin 1024 => o (ix2 r k)) (h (ix3 0 r d)) (gt (ix2 0 d)) (g (ix2 0 d)) d := by
  pointwise [k0_pay16]
  rfl

/-- The second half is stored by the same operations. -/
theorem pay17_eq (gt : FVec Ideal S1x1024 .f32) (o : FVec Ideal S256x1024 .f32) (h : FVec Ideal S1x256x1024 .f32)
    (g : FVec Ideal S1x1024 .f32) : k0_pay1 (k0_pay17 (F := Ideal) gt o h g) = k0_pay16 (F := Ideal) gt o h g := rfl

/-- The four groups' products, added in order: the projected rows of one half of the block. -/
def sum4 (t0 t1 t2 t3 : FVec Ideal S256x1024 .f32) : FVec Ideal S256x1024 .f32 := addf (addf (addf t0 t1) t2) t3

theorem sum4_at (t0 t1 t2 t3 : FVec Ideal S256x1024 .f32) (i : S256x1024.Idx) :
    sum4 t0 t1 t2 t3 i = t0 i + t1 i + t2 i + t3 i := by
  pointwise [sum4]

/-- One group's product from the loaded blocks. -/
def grp (a b : FVec Ideal S1x256x512 .bf16) (s : FVec Ideal S1x512 .f32) (x z : FVec Ideal S1x256x512 .bf16)
    (n : FVec Ideal S1x512 .f32) (W : FVec Ideal S512x1024 .bf16) : FVec Ideal S256x1024 .f32 :=
  k0_pay4 (F := Ideal) (k0_pay3 (F := Ideal) a b s x z n) W

/-- The payloads of the first half are the four groups' products, added in order. -/
theorem acc_eq {a0 b0 x0 z0 a1 b1 x1 z1 a2 b2 x2 z2 a3 b3 x3 z3 : FVec Ideal S1x256x512 .bf16}
    {s0 n0 s1 n1 s2 n2 s3 n3 : FVec Ideal S1x512 .f32} {W0 W1 W2 W3 : FVec Ideal S512x1024 .bf16} :
    k0_pay14 (F := Ideal) (k0_pay12 (F := Ideal) (k0_pay9 (F := Ideal) (k0_pay4 (F := Ideal) (k0_pay3 (F := Ideal) a0 b0 s0 x0 z0 n0) W0)
      (k0_pay7 (F := Ideal) a1 b1 s1 x1 z1 n1) (k0_pay8 W1) (constant S256x1024 .f32 0x00000000#32)) a2 b2 s2 x2 z2 n2 W2)
      a3 b3 s3 x3 z3 n3 W3 =
    sum4 (grp a0 b0 s0 x0 z0 n0 W0) (grp a1 b1 s1 x1 z1 n1 W1) (grp a2 b2 s2 x2 z2 n2 W2) (grp a3 b3 s3 x3 z3 n3 W3) := rfl

/-- The payloads of the second half likewise. -/
theorem acc_eq' {a0 b0 x0 z0 a1 b1 x1 z1 a2 b2 x2 z2 a3 b3 x3 z3 : FVec Ideal S1x256x512 .bf16}
    {s0 n0 s1 n1 s2 n2 s3 n3 : FVec Ideal S1x512 .f32} {W0 W1 W2 W3 : FVec Ideal S512x1024 .bf16} :
    k0_pay15 (F := Ideal) (k0_pay13 (F := Ideal) (k0_pay11 (F := Ideal) (k0_pay6 (F := Ideal) (k0_pay5 (F := Ideal) a0 b0 s0 x0 z0 n0) W0)
      (k0_pay10 (F := Ideal) a1 b1 s1 x1 z1 n1 W1)) a2 b2 s2 x2 z2 n2 W2) a3 b3 s3 x3 z3 n3 W3 =
    sum4 (grp a0 b0 s0 x0 z0 n0 W0) (grp a1 b1 s1 x1 z1 n1 W1) (grp a2 b2 s2 x2 z2 n2 W2) (grp a3 b3 s3 x3 z3 n3 W3) := rfl

/-- One group's share of the projected row: its activations times its rows of the weights. -/
def part (a b s x z n : Fin 2048 → EReal) (W : Fin 2048 → Fin 1024 → EReal) (g : Fin 4) (d : Fin 1024) : EReal :=
  ∑ l : Fin 512,
    ent (a (col g l)) (b (col g l)) (s (col g l)) (x (col g l)) (z (col g l)) *
      rms 0x44000000#32 (fun k : Fin 512 =>
        ent (a (col g k)) (b (col g k)) (s (col g k)) (x (col g k)) (z (col g k))) * n (col g l) * W (col g l) d

/-- One group's product read at an entry, the loaded blocks being group `g` of the row's operands: the group's share. -/
theorem grp_at {a b s x z n : Fin 2048 → EReal} {W : Fin 2048 → Fin 1024 → EReal} (g : Fin 4) (r : Fin 256)
    {va vb : FVec Ideal S1x256x512 .bf16} {vs : FVec Ideal S1x512 .f32} {vx vz : FVec Ideal S1x256x512 .bf16}
    {vn : FVec Ideal S1x512 .f32} {vW : FVec Ideal S512x1024 .bf16}
    (ha : ∀ l, va (ix3 0 r l) = a (col g l)) (hb : ∀ l, vb (ix3 0 r l) = b (col g l))
    (hs : ∀ l, vs (ix2 0 l) = s (col g l)) (hx : ∀ l, vx (ix3 0 r l) = x (col g l))
    (hz : ∀ l, vz (ix3 0 r l) = z (col g l)) (hn : ∀ l, vn (ix2 0 l) = n (col g l))
    (hW : ∀ l d, vW (ix2 l d) = W (col g l) d) (d : Fin 1024) :
    grp va vb vs vx vz vn vW (ix2 r d) = part a b s x z n W g d := by
  unfold grp part
  rw [pay4_at]
  simp only [pay3_at, ha, hb, hs, hx, hz, hn, hW]

/-- One half of a block at an entry, its four products being the four groups' shares of one row: the call's result entry. -/
theorem half_at {a b s x z n : Fin 2048 → EReal} {W : Fin 2048 → Fin 1024 → EReal} {h gt g : EReal} (u : Fin 1) (r : Fin 256)
    (d : Fin 1024) {t0 t1 t2 t3 : FVec Ideal S256x1024 .f32} {vh : FVec Ideal S1x256x1024 .f32}
    {vgt vg : FVec Ideal S1x1024 .f32}
    (h0 : ∀ d, t0 (ix2 r d) = part a b s x z n W 0 d) (h1 : ∀ d, t1 (ix2 r d) = part a b s x z n W 1 d)
    (h2 : ∀ d, t2 (ix2 r d) = part a b s x z n W 2 d) (h3 : ∀ d, t3 (ix2 r d) = part a b s x z n W 3 d)
    (hh : vh (ix3 0 r d) = h) (hgt : vgt (ix2 0 d) = gt) (hg : vg (ix2 0 d) = g) :
    k0_pay16 (F := Ideal) vgt (sum4 t0 t1 t2 t3) vh vg (ix3 u r d) = entry a b s x z n W h gt g d := by
  rw [pay16_at, hh, hgt, hg]
  unfold entry
  congr 1
  funext k
  rw [sum4_at, h0, h1, h2, h3]
  unfold proj
  rw [Fin.sum_univ_four]
  rfl

end Cert.Proof.Finish

end
-- ==== Proof.Finish.RefRow.lean ====
module

public import proofs.«01_k».proof.Proof.Gen.ReferenceIdeal.Run
public import proofs.«01_k».proof.Proof.Finish.Row

@[expose] public section

set_option maxRecDepth 16384

noncomputable section

namespace Cert.Proof.Finish

open Idealize.ShloMosaic Idealize.ShloMosaic.TcCoe Idealize.SL.Sem
open Cert.ReferenceIdeal Cert.ReferenceIdeal.Gen

/-- The reference's gated sum, split into its groups. -/
def refPre (yf yb : FVec Ideal S8x4352x2048 .bf16) (xbc : FVec Ideal S8x4096x3072 .bf16)
    (gz : FVec Ideal S8x4096x2048 .bf16) (dd : FVec Ideal S1x32 .f32) : FVec Ideal S8x4096x4x512 .f32 :=
  shapeCast _ (mulf (shapeCast _ (addf (addf
    (shapeCast _ (extf .f32 (extractStridedSlice S8x4096x2048 ![0, 256, 0] yf slices_S8x4352x2048_S8x4096x2048_0_256_0) bitsLt_bf16_f32) shapeCasts_S8x4096x2048_S8x4096x32x64)
    (shapeCast _ (extf .f32 (extractStridedSlice S8x4096x2048 ![0, 256, 0] yb slices_S8x4352x2048_S8x4096x2048_0_256_0) bitsLt_bf16_f32) shapeCasts_S8x4096x2048_S8x4096x32x64))
    (mulf (broadcastInDim S8x4096x32x64 ![0, 1, 2, 3] bcast_S1x1x32x1_S8x4096x32x64_0_1_2_3 (broadcastInDim S1x1x32x1 ![2, 3] bcast_S32x1_S1x1x32x1_2_3 (broadcastInDim S32x1 ![0] bcast_S32_S32x1_0 (shapeCast _ dd shapeCasts_S1x32_S32))))
      (shapeCast _ (extf .f32 (extractStridedSlice S8x4096x2048 ![0, 0, 0] xbc slices_S8x4096x3072_S8x4096x2048_0_0_0) bitsLt_bf16_f32) shapeCasts_S8x4096x2048_S8x4096x32x64)))
    shapeCasts_S8x4096x32x64_S8x4096x2048) (extf .f32 gz bitsLt_bf16_f32)) shapeCasts_S8x4096x2048_S8x4096x4x512

/-- The reference's normalisation of each group. -/
def refNorm (y : FVec Ideal S8x4096x4x512 .f32) (nw : FVec Ideal S1x2048 .f32) : FVec Ideal S8x4096x2048 .f32 :=
  shapeCast _ (mulf (mulf y (broadcastInDim S8x4096x4x512 ![0, 1, 2, 3] bcast_S8x4096x4x1_S8x4096x4x512_0_1_2_3 (Host.rsqrt (addf (Host.divf (broadcastInDim S8x4096x4x1 ![0, 1, 2] bcast_S8x4096x4_S8x4096x4x1_0_1_2 (Host.reduceAdd (mulf y y) (constant S_ .f32 0x00000000#32) reducesTo_S8x4096x4x512_S8x4096x4_d3 h_S_)) (broadcastInDim S8x4096x4x1 ![] bcast_S_S8x4096x4x1 (constant S_ .f32 0x44000000#32))) (broadcastInDim S8x4096x4x1 ![] bcast_S_S8x4096x4x1 (constant S_ .f32 0x358637BD#32))))))
    (broadcastInDim S8x4096x4x512 ![0, 1, 2, 3] bcast_S1x1x4x512_S8x4096x4x512_0_1_2_3 (broadcastInDim S1x1x4x512 ![2, 3] bcast_S4x512_S1x1x4x512_2_3 (shapeCast _ (shapeCast _ nw shapeCasts_S1x2048_S2048) shapeCasts_S2048_S4x512)))) shapeCasts_S8x4096x4x512_S8x4096x2048

/-- The reference's output projection. -/
def refProj (y : FVec Ideal S8x4096x2048 .f32) (w : FVec Ideal S1x2048x1024 .f32) : FVec Ideal S8x4096x1024 .f32 :=
  Host.dotGeneral dot_S8x4096x2048_S2048x1024_S8x4096x1024_2_0_01_1_n_n none y (shapeCast _ w shapeCasts_S1x2048x1024_S2048x1024)

/-- The reference's last normalisation, gate and residual. -/
def refRes (o h : FVec Ideal S8x4096x1024 .f32) (mod : FVec Ideal S2x16x3072 .f32) (gp : FVec Ideal S2x1024 .f32) :
    FVec Ideal S8x4096x1024 .f32 :=
  addf h (mulf (broadcastInDim S8x4096x1024 ![0, 1, 2] bcast_S8x1x1024_S8x4096x1024_0_1_2 (broadcastInDim S8x1x1024 ![0, 2] bcast_S8x1024_S8x1x1024_0_2 (extractStridedSlice S8x1024 ![0, 2048] (shapeCast _ (extractStridedSlice S1x8x3072 ![1, 0, 0] mod slices_S2x16x3072_S1x8x3072_1_0_0) shapeCasts_S1x8x3072_S8x3072) slices_S8x3072_S8x1024_0_2048)))
    (mulf (mulf o (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf o o) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32))))))
      (broadcastInDim S8x4096x1024 ![0, 1, 2] bcast_S1x1x1024_S8x4096x1024_0_1_2 (broadcastInDim S1x1x1024 ![2] bcast_S1024_S1x1x1024_2 (shapeCast _ (extractStridedSlice S1x1024 ![1, 0] gp slices_S2x1024_S1x1024_1_0) shapeCasts_S1x1024_S1024)))))

/-- The gated sum read at channel `l` of group `g`. -/
theorem refPre_at (yf yb : FVec Ideal S8x4352x2048 .bf16) (xbc : FVec Ideal S8x4096x3072 .bf16)
    (gz : FVec Ideal S8x4096x2048 .bf16) (dd : FVec Ideal S1x32 .f32) (b : Fin 8) (t : Fin 4096) (g : Fin 4) (l : Fin 512) :
    refPre yf yb xbc gz dd (ix4 b t g l) =
      ent (yf (ix3 b ⟨256 + t.val, by omega⟩ (col g l))) (yb (ix3 b ⟨256 + t.val, by omega⟩ (col g l)))
        (dd (ix2 0 ⟨(col g l).val / 64, by omega⟩)) (xbc (ix3 b t ⟨(col g l).val, by omega⟩)) (gz (ix3 b t (col g l))) := by
  have h : ∀ n : Nat, n / 64 * 64 + n % 64 = n := fun n => by omega
  pointwise [refPre]
  simp only [h]
  rfl

/-- The normalised activations read at channel `l` of group `g`. -/
theorem refNorm_at (y : FVec Ideal S8x4096x4x512 .f32) (nw : FVec Ideal S1x2048 .f32) (b : Fin 8) (t : Fin 4096)
    (g : Fin 4) (l : Fin 512) :
    refNorm y nw (ix3 b t (col g l)) =
      y (ix4 b t g l) * rms 0x44000000#32 (fun k : Fin 512 => y (ix4 b t g k)) * nw (ix2 0 (col g l)) := by
  have h1 : (⟨(col g l).val / 512, by omega⟩ : Fin 4) = g := Fin.ext (by simp only [col]; omega)
  have h2 : (⟨(col g l).val % 512, by omega⟩ : Fin 512) = l := Fin.ext (by simp only [col]; omega)
  pointwise [refNorm]
  simp only [h1, h2]
  rfl

/-- The projection read at an entry, its channels group by group. -/
theorem refProj_at (y : FVec Ideal S8x4096x2048 .f32) (w : FVec Ideal S1x2048x1024 .f32) (b : Fin 8) (t : Fin 4096)
    (d : Fin 1024) :
    refProj y w (ix3 b t d) = ∑ g : Fin 4, ∑ l : Fin 512, y (ix3 b t (col g l)) * w (ix3 0 (col g l) d) := by
  pointwise [refProj]
  exact Fin.sum_univ_tiles 4 512 rfl fun k : Fin 2048 => y (ix3 b t k) * w (ix3 0 k d)

/-- The residual read at an entry. -/
theorem refRes_at (o h : FVec Ideal S8x4096x1024 .f32) (mod : FVec Ideal S2x16x3072 .f32) (gp : FVec Ideal S2x1024 .f32)
    (b : Fin 8) (t : Fin 4096) (d : Fin 1024) :
    refRes o h mod gp (ix3 b t d) =
      resid (fun k : Fin 1024 => o (ix3 b t k)) (h (ix3 b t d))
        (mod (ix3 1 ⟨b.val, by omega⟩ ⟨2048 + d.val, by omega⟩)) (gp (ix2 1 d)) d := by
  pointwise [refRes]
  rfl

/-- The reference's whole result in the pieces above. -/
theorem res_eq (m : (ℓ : Loc nD τ sig) → Buf (Elt Ideal) ℓ) (c : Dev nD) :
    Cert.ReferenceIdeal.Value.res_out0 (F := Ideal) m c =
      refRes (refProj (refNorm (refPre (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg8)))
        (m ((c.tc : Thread nD τ).loc main_arg9))) (m ((c.tc : Thread nD τ).loc main_arg7)))
        (m ((c.tc : Thread nD τ).loc main_arg4)) (m ((c.tc : Thread nD τ).loc main_arg5)) (m ((c.tc : Thread nD τ).loc main_arg6)) := rfl

/-- THE REFERENCE AT AN ENTRY: the call's result entry of its arguments. -/
theorem ref_at (yf yb : FVec Ideal S8x4352x2048 .bf16) (xbc : FVec Ideal S8x4096x3072 .bf16)
    (gz : FVec Ideal S8x4096x2048 .bf16) (h : FVec Ideal S8x4096x1024 .f32) (mod : FVec Ideal S2x16x3072 .f32)
    (gp : FVec Ideal S2x1024 .f32) (w : FVec Ideal S1x2048x1024 .f32) (dd : FVec Ideal S1x32 .f32)
    (nw : FVec Ideal S1x2048 .f32) (b : Fin 8) (t : Fin 4096) (d : Fin 1024) :
    refRes (refProj (refNorm (refPre yf yb xbc gz dd) nw) w) h mod gp (ix3 b t d) =
      entry (fun k => yf (ix3 b ⟨256 + t.val, by omega⟩ k)) (fun k => yb (ix3 b ⟨256 + t.val, by omega⟩ k))
        (fun k => dd (ix2 0 ⟨k.val / 64, by omega⟩)) (fun k => xbc (ix3 b t ⟨k.val, by omega⟩))
        (fun k => gz (ix3 b t k)) (fun k => nw (ix2 0 k)) (fun k e => w (ix3 0 k e)) (h (ix3 b t d))
        (mod (ix3 1 ⟨b.val, by omega⟩ ⟨2048 + d.val, by omega⟩)) (gp (ix2 1 d)) d := by
  rw [refRes_at]
  simp only [refProj_at, refNorm_at, refPre_at]
  rfl

end Cert.Proof.Finish

end
-- ==== Proof.Finish.Reads.lean ====
module

public import proofs.«01_k».proof.Proof.Gen.KernelIdeal.Value
public import Idealize.ShloMosaic.Lib.Claim
public import Idealize.ShloMosaic.Lib.Pipeline.ValueKit

@[expose] public section

set_option maxRecDepth 16384

noncomputable section

namespace Cert.Proof.Finish

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

/-- The block each window reads or writes at a grid point: row tile `t / 8` of batch `t % 8`. -/
theorem idx : ∀ t : Fin cfg0.N, win0_0.index t = ![t.val % 8, 256 + t.val / 8 * 512, 0] ∧
    win0_1.index t = ![t.val % 8, 256 + t.val / 8 * 512, 0] ∧ win0_2.index t = ![t.val % 8, t.val / 8, 0] ∧
    win0_3.index t = ![t.val % 8, t.val / 8, 0] ∧ win0_4.index t = ![t.val % 8, t.val / 8, 0] ∧
    win0_5.index t = ![t.val % 8, 0, 0] ∧ win0_6.index t = ![0, 0] ∧ win0_7.index t = ![0, 0] ∧
    win0_8.index t = ![0, 0] ∧ win0_9.index t = ![0, 0] ∧ win0_10.index t = ![t.val % 8, t.val / 8, 0] ∧
    t.val / 8 < 8 :=
  (by decide +kernel : ∀ t : Fin grid0.N, _)

section reads
variable (c : Dev nD) (t : Fin cfg0.N)

/-- The grid point's row tile is one of 8. -/
theorem tile_lt : t.val / 8 < 8 := (idx t).2.2.2.2.2.2.2.2.2.2.2

/-- The first scan's window (element-indexed: rows start after the 256 context rows) at a row and a channel. -/
theorem rd0 (i : Fin 512) (j k : Fin 2048) (h : j.val = k.val) : (iblk m c 0 t : FVec Ideal S1x512x2048 .bf16) (ix3 0 i j) =
    (m ((c.tc : Thread nD τ).loc main_arg0) : FVec Ideal S8x4352x2048 .bf16) (ix3 ⟨t.val % 8, by omega⟩ ⟨256 + (t.val / 8 * 512 + i.val), by have := tile_lt t; omega⟩ k) := by
  obtain rfl : j = k := Fin.ext h
  have h := (idx t).1
  blk_ext [iblk, V]
  · exact (Pipeline.Window.rect_emb_val_off win0_0 t (ix3 0 i j) 0).trans (by rw [h]; simp [Pipeline.WinKind.off])
  · exact (Pipeline.Window.rect_emb_val_off win0_0 t (ix3 0 i j) 1).trans (by rw [h]; simp [Pipeline.WinKind.off]; omega)
  · exact (Pipeline.Window.rect_emb_val_off win0_0 t (ix3 0 i j) 2).trans (by rw [h]; simp [Pipeline.WinKind.off])

/-- The second scan's window likewise. -/
theorem rd1 (i : Fin 512) (j k : Fin 2048) (h : j.val = k.val) : (iblk m c 1 t : FVec Ideal S1x512x2048 .bf16) (ix3 0 i j) =
    (m ((c.tc : Thread nD τ).loc main_arg1) : FVec Ideal S8x4352x2048 .bf16) (ix3 ⟨t.val % 8, by omega⟩ ⟨256 + (t.val / 8 * 512 + i.val), by have := tile_lt t; omega⟩ k) := by
  obtain rfl : j = k := Fin.ext h
  have h := (idx t).2.1
  blk_ext [iblk, V]
  · exact (Pipeline.Window.rect_emb_val_off win0_1 t (ix3 0 i j) 0).trans (by rw [h]; simp [Pipeline.WinKind.off])
  · exact (Pipeline.Window.rect_emb_val_off win0_1 t (ix3 0 i j) 1).trans (by rw [h]; simp [Pipeline.WinKind.off]; omega)
  · exact (Pipeline.Window.rect_emb_val_off win0_1 t (ix3 0 i j) 2).trans (by rw [h]; simp [Pipeline.WinKind.off])

/-- The convolved input's window (its first 2048 channels) at a row and a channel. -/
theorem rd2 (i : Fin 512) (j k : Fin 2048) (h : j.val = k.val) : (X0_2 m c t : FVec Ideal S1x512x2048 .bf16) (ix3 0 i j) =
    (m ((c.tc : Thread nD τ).loc main_arg2) : FVec Ideal S8x4096x3072 .bf16) (ix3 ⟨t.val % 8, by omega⟩ ⟨t.val / 8 * 512 + i.val, by have := tile_lt t; omega⟩ ⟨k.val, by omega⟩) := by
  obtain rfl : j = k := Fin.ext h
  refine (dif_pos (moved0_2 t (ix3 0 i j))).trans ?_
  blk_ext [iblk, V, idx t]

/-- The gate's window at a row and a channel. -/
theorem rd3 (i : Fin 512) (j k : Fin 2048) (h : j.val = k.val) : (iblk m c 3 t : FVec Ideal S1x512x2048 .bf16) (ix3 0 i j) =
    (m ((c.tc : Thread nD τ).loc main_arg3) : FVec Ideal S8x4096x2048 .bf16) (ix3 ⟨t.val % 8, by omega⟩ ⟨t.val / 8 * 512 + i.val, by have := tile_lt t; omega⟩ k) := by
  obtain rfl : j = k := Fin.ext h
  blk_ext [iblk, V, idx t]

/-- The residual input's window at a row and a column. -/
theorem rd4 (i : Fin 512) (j k : Fin 1024) (h : j.val = k.val) : (iblk m c 4 t : FVec Ideal S1x512x1024 .f32) (ix3 0 i j) =
    (m ((c.tc : Thread nD τ).loc main_arg4) : FVec Ideal S8x4096x1024 .f32) (ix3 ⟨t.val % 8, by omega⟩ ⟨t.val / 8 * 512 + i.val, by have := tile_lt t; omega⟩ k) := by
  obtain rfl : j = k := Fin.ext h
  blk_ext [iblk, V, idx t]

/-- The modulation's window: the second layer's row of the batch. -/
theorem rd5 (j k : Fin 3072) (h : j.val = k.val) : (iblk m c 5 t : FVec Ideal S1x1x3072 .f32) (ix3 0 0 j) =
    (m ((c.tc : Thread nD τ).loc main_arg5) : FVec Ideal S2x16x3072 .f32) (ix3 1 ⟨t.val % 8, by omega⟩ k) := by
  obtain rfl : j = k := Fin.ext h
  blk_point [iblk, idx t]

/-- The skip factors' window: channel `k` has the factor of its head `k / 64`. -/
theorem rd6 (j k : Fin 2048) (h : j.val = k.val) : (iblk m c 6 t : FVec Ideal S1x2048 .f32) (ix2 0 j) =
    (m ((c.tc : Thread nD τ).loc main_arg8) : FVec Ideal S1x32 .f32) (ix2 0 ⟨k.val / 64, by omega⟩) := by
  obtain rfl : j = k := Fin.ext h
  blk_point [iblk, idx t]

/-- The norm's weights. -/
theorem rd7 (j k : Fin 2048) (h : j.val = k.val) : (iblk m c 7 t : FVec Ideal S1x2048 .f32) (ix2 0 j) =
    (m ((c.tc : Thread nD τ).loc main_arg9) : FVec Ideal S1x2048 .f32) (ix2 0 k) := by
  obtain rfl : j = k := Fin.ext h
  blk_point [iblk, idx t]

/-- The output projection's weights. -/
theorem rd8 (j k : Fin 2048) (d : Fin 1024) (h : j.val = k.val) : (iblk m c 8 t : FVec Ideal S2048x1024 .bf16) (ix2 j d) =
    (m ((c.tc : Thread nD τ).loc main_arg7) : FVec Ideal S1x2048x1024 .f32) (ix3 0 k d) := by
  obtain rfl : j = k := Fin.ext h
  blk_point [iblk, idx t]

/-- The last norm's weights. -/
theorem rd9 (d : Fin 1024) : (iblk m c 9 t : FVec Ideal S1x1024 .f32) (ix2 0 d) =
    (m ((c.tc : Thread nD τ).loc main_arg6) : FVec Ideal S2x1024 .f32) (ix2 1 d) := by
  blk_point [iblk, idx t]

end reads

end Cert.Proof.Finish

end
-- ==== Proof.Finish.Final.lean ====
module

public import proofs.«01_k».proof.Proof.Gen.KernelIdeal.Value
public import proofs.«01_k».proof.Proof.Finish.Body
public import proofs.«01_k».proof.Proof.Finish.RefRow
public import proofs.«01_k».proof.Proof.Finish.Reads
public import Idealize.ShloMosaic.Lib.Claim
public import Idealize.ShloMosaic.Lib.Pipeline.ValueKit

@[expose] public section

set_option maxRecDepth 16384

noncomputable section

namespace Cert.Proof.Finish

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

/-- The reference's result over the kernel's argument arrays. -/
abbrev REF (c : Dev nD) : FVec Ideal S8x4096x1024 .f32 :=
  refRes (refProj (refNorm (refPre (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg8)))
    (m ((c.tc : Thread nD τ).loc main_arg9))) (m ((c.tc : Thread nD τ).loc main_arg7)))
    (m ((c.tc : Thread nD τ).loc main_arg4)) (m ((c.tc : Thread nD τ).loc main_arg5)) (m ((c.tc : Thread nD τ).loc main_arg6))

set_option maxHeartbeats 1600000 in
/-- THE RESULT ARRAY after the kernel's run is the reference's result of the same arguments. -/
theorem final (c : Dev nD) : (dats m 0 c).arrAt 10 (cfgs 0).N = REF m c := by
  refine (dats m 0 c).arrAt_eq_of_covers 10 _ (by decide +kernel) fun t _ y => ?_
  blk_simp
  rw [after0_10]
  unfold outsAt0
  frame_out
  canon_tiles x h
  · idx_vars x
    have he : ((View.whole main_v14).slice (win0_10.rect t)).emb y =
        (ix3 ⟨t.val % 8, by omega⟩ ⟨t.val / 8 * 512 + (256 + x1.val), by have := tile_lt t; omega⟩ x2 : S8x4096x1024.Idx) := by
      blk_ext [idx t]
    rw [he, pay17_eq, acc_eq']
    refine Eq.trans ?_ (ref_at _ _ _ _ _ _ _ _ _ _ _ _ _).symm
    refine half_at x0 x1 x2 (grp_at 0 x1 ?_ ?_ ?_ ?_ ?_ ?_ ?_) (grp_at 1 x1 ?_ ?_ ?_ ?_ ?_ ?_ ?_)
      (grp_at 2 x1 ?_ ?_ ?_ ?_ ?_ ?_ ?_) (grp_at 3 x1 ?_ ?_ ?_ ?_ ?_ ?_ ?_) ?_ ?_ ?_
    · intro l; pointwise; exact rd0 m c t _ _ _ (by simp [col])
    · intro l; pointwise; exact rd1 m c t _ _ _ (by simp [col])
    · intro l; pointwise; exact rd6 m c t _ _ (by simp [col])
    · intro l; pointwise; exact rd2 m c t _ _ _ (by simp [col])
    · intro l; pointwise; exact rd3 m c t _ _ _ (by simp [col])
    · intro l; pointwise; exact rd7 m c t _ _ (by simp [col])
    · intro l d; pointwise; exact rd8 m c t _ _ d (by simp [col])
    · intro l; pointwise; exact rd0 m c t _ _ _ (by simp [col])
    · intro l; pointwise; exact rd1 m c t _ _ _ (by simp [col])
    · intro l; pointwise; exact rd6 m c t _ _ (by simp [col])
    · intro l; pointwise; exact rd2 m c t _ _ _ (by simp [col])
    · intro l; pointwise; exact rd3 m c t _ _ _ (by simp [col])
    · intro l; pointwise; exact rd7 m c t _ _ (by simp [col])
    · intro l d; pointwise; exact rd8 m c t _ _ d (by simp [col])
    · intro l; pointwise; exact rd0 m c t _ _ _ (by simp [col])
    · intro l; pointwise; exact rd1 m c t _ _ _ (by simp [col])
    · intro l; pointwise; exact rd6 m c t _ _ (by simp [col])
    · intro l; pointwise; exact rd2 m c t _ _ _ (by simp [col])
    · intro l; pointwise; exact rd3 m c t _ _ _ (by simp [col])
    · intro l; pointwise; exact rd7 m c t _ _ (by simp [col])
    · intro l d; pointwise; exact rd8 m c t _ _ d (by simp [col])
    · intro l; pointwise; exact rd0 m c t _ _ _ (by simp [col])
    · intro l; pointwise; exact rd1 m c t _ _ _ (by simp [col])
    · intro l; pointwise; exact rd6 m c t _ _ (by simp [col])
    · intro l; pointwise; exact rd2 m c t _ _ _ (by simp [col])
    · intro l; pointwise; exact rd3 m c t _ _ _ (by simp [col])
    · intro l; pointwise; exact rd7 m c t _ _ (by simp [col])
    · intro l d; pointwise; exact rd8 m c t _ _ d (by simp [col])
    · pointwise; exact rd4 m c t _ _ _ rfl
    · pointwise [k0_pay2]; exact rd5 m c t _ _ rfl
    · exact rd9 m c t x2
  · idx_vars x
    have he : ((View.whole main_v14).slice (win0_10.rect t)).emb y =
        (ix3 ⟨t.val % 8, by omega⟩ ⟨t.val / 8 * 512 + (x1.val), by have := tile_lt t; omega⟩ x2 : S8x4096x1024.Idx) := by
      blk_ext [idx t]
    rw [he, acc_eq]
    refine Eq.trans ?_ (ref_at _ _ _ _ _ _ _ _ _ _ _ _ _).symm
    refine half_at x0 x1 x2 (grp_at 0 x1 ?_ ?_ ?_ ?_ ?_ ?_ ?_) (grp_at 1 x1 ?_ ?_ ?_ ?_ ?_ ?_ ?_)
      (grp_at 2 x1 ?_ ?_ ?_ ?_ ?_ ?_ ?_) (grp_at 3 x1 ?_ ?_ ?_ ?_ ?_ ?_ ?_) ?_ ?_ ?_
    · intro l; pointwise; exact rd0 m c t _ _ _ (by simp [col])
    · intro l; pointwise; exact rd1 m c t _ _ _ (by simp [col])
    · intro l; pointwise; exact rd6 m c t _ _ (by simp [col])
    · intro l; pointwise; exact rd2 m c t _ _ _ (by simp [col])
    · intro l; pointwise; exact rd3 m c t _ _ _ (by simp [col])
    · intro l; pointwise; exact rd7 m c t _ _ (by simp [col])
    · intro l d; pointwise; exact rd8 m c t _ _ d (by simp [col])
    · intro l; pointwise; exact rd0 m c t _ _ _ (by simp [col])
    · intro l; pointwise; exact rd1 m c t _ _ _ (by simp [col])
    · intro l; pointwise; exact rd6 m c t _ _ (by simp [col])
    · intro l; pointwise; exact rd2 m c t _ _ _ (by simp [col])
    · intro l; pointwise; exact rd3 m c t _ _ _ (by simp [col])
    · intro l; pointwise; exact rd7 m c t _ _ (by simp [col])
    · intro l d; pointwise; exact rd8 m c t _ _ d (by simp [col])
    · intro l; pointwise; exact rd0 m c t _ _ _ (by simp [col])
    · intro l; pointwise; exact rd1 m c t _ _ _ (by simp [col])
    · intro l; pointwise; exact rd6 m c t _ _ (by simp [col])
    · intro l; pointwise; exact rd2 m c t _ _ _ (by simp [col])
    · intro l; pointwise; exact rd3 m c t _ _ _ (by simp [col])
    · intro l; pointwise; exact rd7 m c t _ _ (by simp [col])
    · intro l d; pointwise; exact rd8 m c t _ _ d (by simp [col])
    · intro l; pointwise; exact rd0 m c t _ _ _ (by simp [col])
    · intro l; pointwise; exact rd1 m c t _ _ _ (by simp [col])
    · intro l; pointwise; exact rd6 m c t _ _ (by simp [col])
    · intro l; pointwise; exact rd2 m c t _ _ _ (by simp [col])
    · intro l; pointwise; exact rd3 m c t _ _ _ (by simp [col])
    · intro l; pointwise; exact rd7 m c t _ _ (by simp [col])
    · intro l d; pointwise; exact rd8 m c t _ _ d (by simp [col])
    · pointwise; exact rd4 m c t _ _ _ rfl
    · pointwise [k0_pay2]; exact rd5 m c t _ _ rfl
    · exact rd9 m c t x2

end Cert.Proof.Finish

end
-- ==== Proof.Finish.Claim.lean ====
module

public import proofs.«01_k».proof.Defs
public import proofs.«01_k».proof.Proof.Gen.Kernel.Frame
public import proofs.«01_k».proof.Proof.Gen.ReferenceIdeal.Run
public import proofs.«01_k».proof.Proof.Finish.Final

@[expose] public section

set_option maxRecDepth 16384

noncomputable section

namespace Cert.Proof.Finish

open Idealize.ShloMosaic Idealize.SL.Sem

/-- The kernel terminates without a fault, leaves its arguments as they are and every semaphore at zero. -/
theorem frame_kernel : Cert.quiescent_Kernel (hKernel := Cert.Kernel.Gen.facts) :=
  fun m ρ _ => Cert.Kernel.Gen.frame m ρ

/-- The same of the kernel over the reals with infinities. -/
theorem frame_ideal : Cert.quiescent_KernelIdeal (hKernelIdeal := Cert.KernelIdeal.Gen.facts) :=
  fun m ρ _ => Cert.KernelIdeal.Gen.frame m ρ

/-- The reference, a line of host operations without a semaphore, leaves its arguments as they are. -/
theorem frame_reference : Cert.quiescent_ReferenceIdeal (hReferenceIdeal := Cert.ReferenceIdeal.Gen.facts) :=
  fun m ρ _ => (θ_run Cert.ReferenceIdeal.defs _ _).mono
    (fun r h => ⟨fun c => (h c).2, Idealize.ShloMosaic.sem_eq_zero_of_no_sems (by decide) r.2⟩)
    (Cert.ReferenceIdeal.Value.run m ρ)

set_option maxHeartbeats 1600000 in
/-- Over the reals with infinities, kernel and reference compute the same array from the same arguments. -/
theorem algebraic : Cert.algebraic_KernelIdeal_ReferenceIdeal (hKernelIdeal := Cert.KernelIdeal.Gen.facts)
    (hReferenceIdeal := Cert.ReferenceIdeal.Gen.facts) := by
  pair_intro
  · run_from Cert.KernelIdeal.Gen.run_main m g
  · run_from Cert.ReferenceIdeal.Value.run m' g'
    obtain ⟨h0, h1, h2, h3, h4, h5, h6, h7, h8, h9⟩ := hagree c
    refine ((res_eq m' c).trans ?_).trans (final m c).symm
    rw [h0, h1, h2, h3, h4, h5, h6, h7, h8, h9]

end Cert.Proof.Finish

end
-- ==== Proof.Inproj.Reads.lean ====
module

public import proofs.«01_k».proof.Proof.Gen.Kernel2Ideal.Value
public import Idealize.ShloMosaic.Lib.Claim
public import Idealize.ShloMosaic.Lib.Pipeline.ValueKit

@[expose] public section

set_option maxRecDepth 16384

noncomputable section

namespace Cert.Proof.Inproj

open Idealize.ShloMosaic Idealize.ShloMosaic.TcCoe Idealize.SL.Sem
open Idealize.ShloMosaic.Pipeline (Dat)
open Cert.Kernel2Ideal Cert.Kernel2Ideal.Gen

variable (m : (ℓ : Loc nD τ sig) → Buf (Elt Ideal) ℓ)

/-- The block each window reads or writes at a grid point: row tile `t / 8` of batch `t % 8`, and the groups of 8 rows before and
after that tile (the tile's own first or last group at the ends of the sequence). -/
theorem idx : ∀ t : Fin cfg0.N, win0_0.index t = ![t.val % 8, t.val / 8, 0] ∧
    win0_1.index t = ![t.val % 8, 64 * (t.val / 8) - 1, 0] ∧ win0_2.index t = ![t.val % 8, min (64 * (t.val / 8) + 64) 511, 0] ∧
    win0_3.index t = ![t.val % 8, 0, 0] ∧ win0_4.index t = ![0, 0] ∧ win0_5.index t = ![0, 0] ∧ win0_6.index t = ![0, 2048] ∧
    win0_7.index t = ![0, 0] ∧ win0_8.index t = ![0, 0] ∧ win0_9.index t = ![0, 0] ∧ win0_10.index t = ![0, 0] ∧
    win0_11.index t = ![t.val % 8, t.val / 8, 0] ∧ win0_12.index t = ![t.val % 8, t.val / 8, 0] ∧
    win0_13.index t = ![t.val % 8, t.val / 8, 0] ∧ t.val / 8 < 8 :=
  (by decide +kernel : ∀ t : Fin grid0.N, _)

/-- The modulation as the kernel takes it: the second layer's rows. -/
theorem V_v2 (c : Dev nD) : V m c main_v2 = (shapeCast S16x1x3072 (shapeCast S16x3072 (extractStridedSlice S1x16x3072 ![1, 0, 0] (m ((c.tc : Thread nD τ).loc main_arg1) : FVec Ideal S2x16x3072 .f32) slices_S2x16x3072_S1x16x3072_1_0_0) shapeCasts_S1x16x3072_S16x3072) shapeCasts_S16x3072_S16x1x3072 : FVec Ideal S16x1x3072 .f32) := by
  simp only [V, hostOps0, hostOps0_1, hostOps0_2, hostOps0_3, hostOps0_4, List.flatten_cons, List.flatten_nil, List.append_nil, List.cons_append, List.nil_append]
  after_results
  rfl

/-- The weights, cast. -/
theorem V_v4 (c : Dev nD) : V m c main_v4 = (truncf .bf16 (shapeCast S1024x5184 (m ((c.tc : Thread nD τ).loc main_arg3) : FVec Ideal S1x1024x5184 .f32) shapeCasts_S1x1024x5184_S1024x5184) bitsLt_bf16_f32 : FVec Ideal S1024x5184 .bf16) := by
  simp only [V, hostOps0, hostOps0_1, hostOps0_2, hostOps0_3, hostOps0_4, List.flatten_cons, List.flatten_nil, List.append_nil, List.cons_append, List.nil_append]
  after_results
  rfl

/-- dt's columns of the cast weights, followed by zeros. -/
theorem V_v6 (c : Dev nD) : V m c main_v6 = (pad S1024x128 ![0, 0] ![0, 64] ![0, 0] (extractStridedSlice S1024x64 ![0, 5120] (truncf .bf16 (shapeCast S1024x5184 (m ((c.tc : Thread nD τ).loc main_arg3) : FVec Ideal S1x1024x5184 .f32) shapeCasts_S1x1024x5184_S1024x5184) bitsLt_bf16_f32 : FVec Ideal S1024x5184 .bf16) slices_S1024x5184_S1024x64_0_5120) (sitofp .bf16 (constantI S_ 32 0#32)) pads_S1024x64_S1024x128_000_0640 h_S_ : FVec Ideal S1024x128 .bf16) := by
  simp only [V, hostOps0, hostOps0_1, hostOps0_2, hostOps0_3, hostOps0_4, List.flatten_cons, List.flatten_nil, List.append_nil, List.cons_append, List.nil_append]
  after_results
  rfl

/-- dt's bias, followed by zeros. -/
theorem V_v9 (c : Dev nD) : V m c main_v9 = (pad S1x128 ![0, 0] ![0, 64] ![0, 0] (shapeCast S1x64 (shapeCast S2x32 (m ((c.tc : Thread nD τ).loc main_arg6) : FVec Ideal S1x2x32 .f32) shapeCasts_S1x2x32_S2x32) shapeCasts_S2x32_S1x64) (sitofp .f32 (constantI S_ 32 0#32)) pads_S1x64_S1x128_000_0640 h_S_ : FVec Ideal S1x128 .f32) := by
  simp only [V, hostOps0, hostOps0_1, hostOps0_2, hostOps0_3, hostOps0_4, List.flatten_cons, List.flatten_nil, List.append_nil, List.cons_append, List.nil_append]
  after_results
  rfl

/-- The convolution's weights. -/
theorem V_v12 (c : Dev nD) : V m c main_v12 = (shapeCast S4x3072 (m ((c.tc : Thread nD τ).loc main_arg4) : FVec Ideal S1x4x3072 .f32) shapeCasts_S1x4x3072_S4x3072 : FVec Ideal S4x3072 .f32) := by
  simp only [V, hostOps0, hostOps0_1, hostOps0_2, hostOps0_3, hostOps0_4, List.flatten_cons, List.flatten_nil, List.append_nil, List.cons_append, List.nil_append]
  after_results
  rfl

/-- The norm's weights. -/
theorem V_v14 (c : Dev nD) : V m c main_v14 = (shapeCast S1x1024 (shapeCast S1024 (extractStridedSlice S1x1024 ![1, 0] (m ((c.tc : Thread nD τ).loc main_arg2) : FVec Ideal S2x1024 .f32) slices_S2x1024_S1x1024_1_0) shapeCasts_S1x1024_S1024) shapeCasts_S1024_S1x1024 : FVec Ideal S1x1024 .f32) := by
  simp only [V, hostOps0, hostOps0_1, hostOps0_2, hostOps0_3, hostOps0_4, List.flatten_cons, List.flatten_nil, List.append_nil, List.cons_append, List.nil_append]
  after_results
  rfl

/-- The convolution's bias. -/
theorem V_v15 (c : Dev nD) : V m c main_v15 = (shapeCast S1x3072 (shapeCast S3072 (m ((c.tc : Thread nD τ).loc main_arg5) : FVec Ideal S1x3072 .f32) shapeCasts_S1x3072_S3072) shapeCasts_S3072_S1x3072 : FVec Ideal S1x3072 .f32) := by
  simp only [V, hostOps0, hostOps0_1, hostOps0_2, hostOps0_3, hostOps0_4, List.flatten_cons, List.flatten_nil, List.append_nil, List.cons_append, List.nil_append]
  after_results
  rfl

/-- Columns read inside a padded matrix, -/
theorem pad7_in (x : FVec Ideal S1024x64 .bf16) (v : FVec Ideal S_ .bf16) (k : Fin 1024) (j : Fin 128) (hj : j.val < 64) :
    pad S1024x128 ![0, 0] ![0, 64] ![0, 0] x v pads_S1024x64_S1024x128_000_0640 h_S_ (ix2 k j) = x (ix2 k ⟨j.val, hj⟩) := by
  pointwise [hj]

/-- … and after it. -/
theorem pad7_out (x : FVec Ideal S1024x64 .bf16) (k : Fin 1024) (j : Fin 128) (hj : ¬ j.val < 64) :
    pad S1024x128 ![0, 0] ![0, 64] ![0, 0] x (sitofp .bf16 (constantI S_ 32 0#32) : FVec Ideal S_ .bf16) pads_S1024x64_S1024x128_000_0640 h_S_ (ix2 k j) = (0 : EReal) := by
  pointwise [hj]
  simp [FloatOps.sitofp]

/-- The same of a padded row, inside -/
theorem pad10_in (x : FVec Ideal S1x64 .f32) (v : FVec Ideal S_ .f32) (j : Fin 128) (hj : j.val < 64) :
    pad S1x128 ![0, 0] ![0, 64] ![0, 0] x v pads_S1x64_S1x128_000_0640 h_S_ (ix2 0 j) = x (ix2 0 ⟨j.val, hj⟩) := by
  pointwise [hj]

/-- … and after it. -/
theorem pad10_out (x : FVec Ideal S1x64 .f32) (j : Fin 128) (hj : ¬ j.val < 64) :
    pad S1x128 ![0, 0] ![0, 64] ![0, 0] x (sitofp .f32 (constantI S_ 32 0#32) : FVec Ideal S_ .f32) pads_S1x64_S1x128_000_0640 h_S_ (ix2 0 j) = (0 : EReal) := by
  pointwise [hj]
  simp [FloatOps.sitofp]

/-- The cast weights read at an entry. -/
theorem cast_at (x : FVec Ideal S1x1024x5184 .f32) (k : Fin 1024) (j d : Fin 5184) (h : j.val = d.val) :
    (truncf .bf16 (shapeCast S1024x5184 x shapeCasts_S1x1024x5184_S1024x5184) bitsLt_bf16_f32 : FVec Ideal S1024x5184 .bf16) (ix2 k j) = x (ix3 0 k d) := by
  obtain rfl : j = d := Fin.ext h
  pointwise

/-- dt's columns of them. -/
theorem castd_at (x : FVec Ideal S1x1024x5184 .f32) (k : Fin 1024) (j : Fin 64) (d : Fin 5184) (h : 5120 + j.val = d.val) :
    extractStridedSlice S1024x64 ![0, 5120] (truncf .bf16 (shapeCast S1024x5184 x shapeCasts_S1x1024x5184_S1024x5184) bitsLt_bf16_f32 : FVec Ideal S1024x5184 .bf16) slices_S1024x5184_S1024x64_0_5120 (ix2 k j) = x (ix3 0 k d) := by
  pointwise
  exact congrArg (fun d => x (ix3 0 k d)) (Fin.ext h)

/-- dt's bias as one row. -/
theorem bias_at (x : FVec Ideal S1x2x32 .f32) (d : Fin 64) (i : Fin 2) (j : Fin 32) (h : d.val = i.val * 32 + j.val) :
    shapeCast S1x64 (shapeCast S2x32 x shapeCasts_S1x2x32_S2x32) shapeCasts_S2x32_S1x64 (ix2 0 d) = x (ix3 0 i j) := by
  pointwise
  have e1 : d.val / 32 = i.val := by omega
  have e2 : d.val % 32 = j.val := by omega
  exact congrArg₂ (fun a b => x (ix3 0 a b)) (Fin.ext e1) (Fin.ext e2)

/-- The convolution's bias as one row. -/
theorem row_at (x : FVec Ideal S1x3072 .f32) (d : Fin 3072) :
    shapeCast S1x3072 (shapeCast S3072 x shapeCasts_S1x3072_S3072) shapeCasts_S3072_S1x3072 (ix2 0 d) = x (ix2 0 d) := by
  pointwise

/-- The convolution's weights as a matrix. -/
theorem taps_at (x : FVec Ideal S1x4x3072 .f32) (k : Fin 4) (d : Fin 3072) :
    shapeCast S4x3072 x shapeCasts_S1x4x3072_S4x3072 (ix2 k d) = x (ix3 0 k d) := by
  pointwise

section reads
variable (c : Dev nD) (t : Fin cfg0.N)

/-- The grid point's row tile is one of 8. -/
theorem tile_lt : t.val / 8 < 8 := (idx t).2.2.2.2.2.2.2.2.2.2.2.2.2.2

/-- The block's own rows. -/
theorem rd0 (i : Fin 512) (k : Fin 1024) : (iblk m c 0 t : FVec Ideal S1x512x1024 .f32) (ix3 0 i k) =
    (m ((c.tc : Thread nD τ).loc main_arg0) : FVec Ideal S8x4096x1024 .f32) (ix3 ⟨t.val % 8, by omega⟩ ⟨t.val / 8 * 512 + i.val, by have := tile_lt t; omega⟩ k) := by
  blk_ext [iblk, V, idx t]

/-- The 8 rows before the block (when it is not the first). -/
theorem rd1 (h : 1 ≤ t.val / 8) (i : Fin 8) (k : Fin 1024) : (iblk m c 1 t : FVec Ideal S1x8x1024 .f32) (ix3 0 i k) =
    (m ((c.tc : Thread nD τ).loc main_arg0) : FVec Ideal S8x4096x1024 .f32) (ix3 ⟨t.val % 8, by omega⟩ ⟨t.val / 8 * 512 + i.val - 8, by have := tile_lt t; omega⟩ k) := by
  blk_ext [iblk, V, idx t]

/-- The 8 rows after the block (when it is not the last). -/
theorem rd2 (h : t.val / 8 < 7) (i : Fin 8) (k : Fin 1024) : (iblk m c 2 t : FVec Ideal S1x8x1024 .f32) (ix3 0 i k) =
    (m ((c.tc : Thread nD τ).loc main_arg0) : FVec Ideal S8x4096x1024 .f32) (ix3 ⟨t.val % 8, by omega⟩ ⟨t.val / 8 * 512 + 512 + i.val, by have := tile_lt t; omega⟩ k) := by
  blk_ext [iblk, V, idx t]

/-- The modulation's window: the second layer's row of the batch. -/
theorem rd3 (j k : Fin 3072) (h : j.val = k.val) : (iblk m c 3 t : FVec Ideal S1x1x3072 .f32) (ix3 0 0 j) =
    (m ((c.tc : Thread nD τ).loc main_arg1) : FVec Ideal S2x16x3072 .f32) (ix3 1 ⟨t.val % 8, by omega⟩ k) := by
  obtain rfl : j = k := Fin.ext h
  have e : ((View.whole main_v2).slice (win0_3.rect t)).emb (ix3 0 0 j) = (ix3 ⟨t.val % 8, by omega⟩ 0 j : S16x1x3072.Idx) := by
    blk_ext [idx t]
  refine (congrArg (V m c main_v2) e).trans ?_
  rw [V_v2]
  pointwise

/-- The norm's weights. -/
theorem rd4 (d : Fin 1024) : (iblk m c 4 t : FVec Ideal S1x1024 .f32) (ix2 0 d) =
    (m ((c.tc : Thread nD τ).loc main_arg2) : FVec Ideal S2x1024 .f32) (ix2 1 d) := by
  have e : ((View.whole main_v14).slice (win0_4.rect t)).emb (ix2 0 d) = (ix2 0 d : S1x1024.Idx) := by
    blk_ext [idx t]
  refine (congrArg (V m c main_v14) e).trans ?_
  rw [V_v14]
  pointwise

/-- The gate's columns of the weights. -/
theorem rd5 (k : Fin 1024) (j : Fin 2048) (d : Fin 5184) (h : j.val = d.val) : (X0_5 m c t : FVec Ideal S1024x2048 .bf16) (ix2 k j) =
    (m ((c.tc : Thread nD τ).loc main_arg3) : FVec Ideal S1x1024x5184 .f32) (ix3 0 k d) := by
  unfold X0_5 Pipeline.Window.fill
  rw [dif_pos (moved0_5 t (ix2 k j))]
  refine (congrArg (V m c main_v4) (?_ : _ = (ix2 k ⟨j.val, by omega⟩ : S1024x5184.Idx))).trans ?_
  · blk_ext [idx t]
  · rw [V_v4]
    exact cast_at _ _ _ _ h

/-- The scan's columns of the weights: the window (element-indexed) starts at column 2048. -/
theorem rd6 (k : Fin 1024) (j : Fin 3072) (d : Fin 5184) (h : 2048 + j.val = d.val) : (iblk m c 6 t : FVec Ideal S1024x3072 .bf16) (ix2 k j) =
    (m ((c.tc : Thread nD τ).loc main_arg3) : FVec Ideal S1x1024x5184 .f32) (ix3 0 k d) := by
  have e : ((View.whole main_v4).slice (win0_6.rect t)).emb (ix2 k j) = (ix2 k ⟨2048 + j.val, by omega⟩ : S1024x5184.Idx) := by
    have h := (idx t).2.2.2.2.2.2.1
    blk_ext
    · exact (Pipeline.Window.rect_emb_val_off win0_6 t (ix2 k j) 0).trans (by rw [h]; simp [Pipeline.WinKind.off])
    · exact (Pipeline.Window.rect_emb_val_off win0_6 t (ix2 k j) 1).trans (by rw [h]; simp [Pipeline.WinKind.off])
  refine (congrArg (V m c main_v4) e).trans ?_
  rw [V_v4]
  exact cast_at _ _ _ _ h

/-- The step columns' block read at an entry is the whole array's entry. -/
theorem emb7 (k : Fin 1024) (j : Fin 128) : ((View.whole main_v6).slice (win0_7.rect t)).emb (ix2 k j) = (ix2 k j : S1024x128.Idx) := by
  blk_ext [idx t]

/-- dt's columns of the weights. -/
theorem rd7_in (k : Fin 1024) (j : Fin 128) (d : Fin 5184) (hj : j.val < 64) (h : 5120 + j.val = d.val) : (iblk m c 7 t : FVec Ideal S1024x128 .bf16) (ix2 k j) =
    (m ((c.tc : Thread nD τ).loc main_arg3) : FVec Ideal S1x1024x5184 .f32) (ix3 0 k d) := by
  refine (congrArg (V m c main_v6) (emb7 t k j)).trans ?_
  rw [V_v6]
  refine (pad7_in _ _ k j hj).trans ?_
  exact castd_at _ _ _ _ h

/-- The columns after dt's are zero. -/
theorem rd7_out (k : Fin 1024) (j : Fin 128) (hj : ¬ j.val < 64) : (iblk m c 7 t : FVec Ideal S1024x128 .bf16) (ix2 k j) = (0 : EReal) := by
  refine (congrArg (V m c main_v6) (emb7 t k j)).trans ?_
  rw [V_v6]
  exact pad7_out _ k j hj

/-- The convolution's weights. -/
theorem rd8 (k : Fin 4) (j d : Fin 3072) (h : j.val = d.val) : (iblk m c 8 t : FVec Ideal S4x3072 .f32) (ix2 k j) =
    (m ((c.tc : Thread nD τ).loc main_arg4) : FVec Ideal S1x4x3072 .f32) (ix3 0 k d) := by
  obtain rfl : j = d := Fin.ext h
  have e : ((View.whole main_v12).slice (win0_8.rect t)).emb (ix2 k j) = (ix2 k j : S4x3072.Idx) := by
    blk_ext [idx t]
  refine (congrArg (V m c main_v12) e).trans ?_
  rw [V_v12]
  exact taps_at _ k j

/-- The convolution's bias. -/
theorem rd9 (j d : Fin 3072) (h : j.val = d.val) : (iblk m c 9 t : FVec Ideal S1x3072 .f32) (ix2 0 j) =
    (m ((c.tc : Thread nD τ).loc main_arg5) : FVec Ideal S1x3072 .f32) (ix2 0 d) := by
  obtain rfl : j = d := Fin.ext h
  have e : ((View.whole main_v15).slice (win0_9.rect t)).emb (ix2 0 j) = (ix2 0 j : S1x3072.Idx) := by
    blk_ext [idx t]
  refine (congrArg (V m c main_v15) e).trans ?_
  rw [V_v15]
  exact row_at _ j

/-- The step bias's block read at an entry is the whole array's entry. -/
theorem emb10 (j : Fin 128) : ((View.whole main_v9).slice (win0_10.rect t)).emb (ix2 0 j) = (ix2 0 j : S1x128.Idx) := by
  blk_ext [idx t]

/-- dt's bias. -/
theorem rd10_in (d : Fin 128) (i : Fin 2) (j : Fin 32) (h : d.val = i.val * 32 + j.val) : (iblk m c 10 t : FVec Ideal S1x128 .f32) (ix2 0 d) =
    (m ((c.tc : Thread nD τ).loc main_arg6) : FVec Ideal S1x2x32 .f32) (ix3 0 i j) := by
  have hd : d.val < 64 := by omega
  refine (congrArg (V m c main_v9) (emb10 t d)).trans ?_
  rw [V_v9]
  refine (pad10_in _ _ d hd).trans ?_
  exact bias_at _ _ _ _ h

/-- The entries after dt's bias are zero. -/
theorem rd10_out (d : Fin 128) (hd : ¬ d.val < 64) : (iblk m c 10 t : FVec Ideal S1x128 .f32) (ix2 0 d) = (0 : EReal) := by
  refine (congrArg (V m c main_v9) (emb10 t d)).trans ?_
  rw [V_v9]
  exact pad10_out _ d hd

end reads

end Cert.Proof.Inproj

end
-- ==== Proof.Shared.Silu.lean ====
module

public import Idealize.ShloMosaic.Lib.Pointwise

@[expose] public section

noncomputable section

namespace Cert.Proof

open Idealize.ShloMosaic

/-- The word of one half is one half. -/
theorem half_word : Ideal.ofBits .f32 0x3F000000#32 = ((1 / 2 : ℝ) : EReal) := by
  simp [Ideal.ofBits, Ideal.ieee]
  norm_num
  exact_mod_cast (by norm_num : (8388608 : ℝ) * (1 / 16777216) = 1 / 2)

/-- The word of one is one. -/
theorem one_word : Ideal.ofBits .f32 0x3F800000#32 = (1 : EReal) := by
  simp [Ideal.ofBits, Ideal.ieee]
  norm_num
  exact_mod_cast (by norm_num : (8388608 : ℝ) * (1 / 8388608) = 1)

/-- `silu x = x / (1 + exp (-x))`, as the reference writes it. -/
def silu (x : EReal) : EReal := x * Ideal.div 1 (1 + Ideal.exp (-x))

/-- The kernel's silu, `h (1 + tanh h)` with `h` half of the argument. -/
def siluT (x : EReal) : EReal := ((1 / 2 : ℝ) : EReal) * x * (1 + Ideal.tanh (((1 / 2 : ℝ) : EReal) * x))

/-- On the reals `h (1 + tanh h) = x / (1 + exp (-x))` for `h = x / 2`. -/
theorem silu_real (r : ℝ) : 1 / 2 * r * (1 + Real.tanh (1 / 2 * r)) = r * (1 + Real.exp (-r))⁻¹ := by
  have he : Real.exp (-r) = Real.exp (-(1 / 2 * r)) * Real.exp (-(1 / 2 * r)) := by
    rw [← Real.exp_add]; ring_nf
  have h1 : Real.exp (1 / 2 * r) * Real.exp (-(1 / 2 * r)) = 1 := by
    rw [← Real.exp_add]; simp
  rw [he, Real.tanh_eq_sinh_div_cosh, Real.sinh_eq, Real.cosh_eq]
  generalize Real.exp (-(1 / 2 * r)) = b at h1 ⊢
  have ha : 0 < Real.exp (1 / 2 * r) := Real.exp_pos _
  generalize Real.exp (1 / 2 * r) = a at h1 ha ⊢
  have hb : b = a⁻¹ := by field_simp; linarith
  subst hb
  field_simp
  ring

/-- The two forms of silu agree at every extended real. -/
theorem siluT_eq (x : EReal) : siluT x = silu x := by
  induction x with
  | bot =>
    have h : ((1 / 2 : ℝ) : EReal) * ⊥ = ⊥ := EReal.coe_mul_bot_of_pos (by norm_num)
    rw [siluT, silu, h, Ideal.tanh_bot]
    have h0 : (1 : EReal) + -1 = 0 := by rw [← sub_eq_add_neg]; exact EReal.sub_self (by decide) (by decide)
    rw [h0, mul_zero, EReal.neg_bot, Ideal.exp_top, EReal.add_top_of_ne_bot (by decide)]
    simp [Ideal.div]
  | top =>
    have h : ((1 / 2 : ℝ) : EReal) * ⊤ = ⊤ := EReal.coe_mul_top_of_pos (by norm_num)
    rw [siluT, silu, h, Ideal.tanh_top, EReal.neg_top, Ideal.exp_bot, add_zero]
    have h2 : (1 : EReal) + 1 = ((2 : ℝ) : EReal) := by norm_cast
    have h3 : Ideal.div (1 : EReal) 1 = 1 := by simp [Ideal.div]
    rw [h2, h3, mul_one, EReal.top_mul_coe_of_pos (by norm_num)]
  | coe r =>
    have hl : Ideal.div 1 (1 + Ideal.exp (-(r : EReal))) = Ideal.logistic r := rfl
    rw [siluT, silu, hl, Ideal.logistic_coe, ← EReal.coe_mul, Ideal.tanh_coe, ← EReal.coe_one, ← EReal.coe_add,
      ← EReal.coe_mul, ← EReal.coe_mul, silu_real]

end Cert.Proof

end
-- ==== Proof.Inproj.Row.lean ====
module

public import proofs.«01_k».proof.Proof.Finish.Row
public import proofs.«01_k».proof.Proof.Shared.Silu

@[expose] public section

noncomputable section

namespace Cert.Proof.Inproj

open Idealize.ShloMosaic Idealize.SL.Sem
open Cert.Proof.Finish (rms)

/-- A row `h` normalised, scaled by `g`, and modulated: times one plus the scale, plus the shift. -/
def nrm (h sh sc g : Fin 1024 → EReal) (d : Fin 1024) : EReal :=
  h d * rms 0x44800000#32 h * g d * (1 + sc d) + sh d

/-- A row times a column of the weights. -/
def dot (u w : Fin 1024 → EReal) : EReal := ∑ l, u l * w l

/-- The four taps of the convolution and its bias. -/
def conv (b w0 w1 w2 w3 x0 x1 x2 x3 : EReal) : EReal := b + w0 * x0 + w1 * x1 + w2 * x2 + w3 * x3

/-- `log (1 + exp p)` as both programs write it, over the extended reals. -/
def softplus (p : EReal) : EReal := max p 0 + Ideal.log1p (Ideal.exp (-(max p (-p))))

end Cert.Proof.Inproj

end
-- ==== Proof.Inproj.Body.lean ====
module

public import proofs.«01_k».proof.Proof.Gen.Kernel2Ideal.Skeleton
public import proofs.«01_k».proof.Proof.Inproj.Row
public import Idealize.ShloMosaic.Lib.Pipeline.ValueKit
public import Idealize.ShloMosaic.Lib.Pipeline.ReadBack

@[expose] public section

set_option maxRecDepth 16384

noncomputable section

namespace Cert.Proof.Inproj

open Idealize.ShloMosaic Idealize.SL.Sem
open Cert.Kernel2Ideal Cert.Kernel2Ideal.Gen
open Cert.Proof.Finish (rms)

/-- The 528 rows a step works on: 8 before the block, the block's 512, 8 after it. -/
def hext (hl hr : FVec Ideal S1x8x1024 .f32) (hm : FVec Ideal S1x512x1024 .f32) (e : Fin 528) (d : Fin 1024) : EReal :=
  if h : e.val < 8 then hl (ix3 0 ⟨e.val, h⟩ d)
  else if h' : e.val - 8 < 512 then hm (ix3 0 ⟨e.val - 8, by omega⟩ d) else hr (ix3 0 ⟨e.val - 8 - 512, by omega⟩ d)

/-- The step's modulated rows read at an entry. -/
theorem pay2_at (hl : FVec Ideal S1x8x1024 .f32) (hm : FVec Ideal S1x512x1024 .f32) (hr : FVec Ideal S1x8x1024 .f32)
    (sh sc : FVec Ideal S1x1x1024 .f32) (g : FVec Ideal S1x1024 .f32) (e : Fin 528) (d : Fin 1024) :
    k0_pay2 (F := Ideal) hl hm hr sh sc g (ix2 e d) =
      nrm (hext hl hr hm e) (fun k => sh (ix3 0 0 k)) (fun k => sc (ix3 0 0 k)) (fun k => g (ix2 0 k)) d := by
  pointwise [k0_pay2]
  rfl

/-- The block's own rows among them. -/
theorem pay3_at (hl : FVec Ideal S1x8x1024 .f32) (hm : FVec Ideal S1x512x1024 .f32) (hr : FVec Ideal S1x8x1024 .f32)
    (sh sc : FVec Ideal S1x1x1024 .f32) (g : FVec Ideal S1x1024 .f32) (r : Fin 512) (d : Fin 1024) :
    k0_pay3 (F := Ideal) hl hm hr sh sc g (ix2 r d) = k0_pay2 (F := Ideal) hl hm hr sh sc g (ix2 ⟨8 + r.val, by omega⟩ d) := by
  pointwise [k0_pay3]

/-- The silu of the block's rows times one chunk of the gate's columns, read at an entry. -/
theorem pay35_at (u : FVec Ideal S512x1024 .bf16) (w : FVec Ideal S1024x512 .bf16) (r l : Fin 512) :
    k0_pay35 (F := Ideal) u w (ix3 0 r l) = silu (dot (fun k => u (ix2 r k)) (fun k => w (ix2 k l))) := by
  pointwise [k0_pay35]
  rw [half_word]
  exact siluT_eq _

/-- The softplus of the block's rows times dt's columns plus the bias, read at an entry. -/
theorem dt_at (u : FVec Ideal S512x1024 .bf16) (w : FVec Ideal S1024x128 .bf16) (b : FVec Ideal S1x128 .f32) (r : Fin 512) (l : Fin 128) :
    k0_pay1 (F := Ideal) (k0_pay192 (F := Ideal) u w b) (k0_pay193 (F := Ideal) u w b) (k0_pay194 (F := Ideal) u w b)
      (k0_pay195 (F := Ideal) u w b) (ix3 0 r l) =
      softplus (dot (fun k => u (ix2 r k)) (fun k => w (ix2 k l)) + b (ix2 0 l)) := by
  pointwise [k0_pay1, k0_pay191, k0_pay192, k0_pay193, k0_pay194, k0_pay195]
  rw [if_neg (fun h => h rfl), zero_sub]
  rfl

/-- One slab's convolution, the silu of it, and the cast, from the four taps' rows, weights and the bias. -/
def convPay (b w0 : FVec Ideal S1x128 .f32) (x0 : FVec Ideal S1x512x128 .f32) (w1 : FVec Ideal S1x128 .f32) (x1 : FVec Ideal S1x512x128 .f32)
    (w2 : FVec Ideal S1x128 .f32) (x2 : FVec Ideal S1x512x128 .f32) (w3 : FVec Ideal S1x128 .f32) (x3 : FVec Ideal S1x512x128 .f32) :
    FVec Ideal S1x512x128 .bf16 :=
  k0_pay25 (F := Ideal) (k0_pay24 (F := Ideal) (k0_pay23 (F := Ideal) b) w0 x0 w1 x1 w2 x2 w3 x3)

/-- It read at an entry. -/
theorem convPay_at (b w0 : FVec Ideal S1x128 .f32) (x0 : FVec Ideal S1x512x128 .f32) (w1 : FVec Ideal S1x128 .f32) (x1 : FVec Ideal S1x512x128 .f32)
    (w2 : FVec Ideal S1x128 .f32) (x2 : FVec Ideal S1x512x128 .f32) (w3 : FVec Ideal S1x128 .f32) (x3 : FVec Ideal S1x512x128 .f32)
    (r : Fin 512) (l : Fin 128) :
    convPay b w0 x0 w1 x1 w2 x2 w3 x3 (ix3 0 r l) =
      silu (conv (b (ix2 0 l)) (w0 (ix2 0 l)) (w1 (ix2 0 l)) (w2 (ix2 0 l)) (w3 (ix2 0 l)) (x0 (ix3 0 r l)) (x1 (ix3 0 r l))
        (x2 (ix3 0 r l)) (x3 (ix3 0 r l))) := by
  pointwise [convPay, k0_pay25, k0_pay24, k0_pay23]
  rw [half_word]
  exact siluT_eq _

/-- The products of the step's rows with one chunk of 512 columns. -/
theorem pay4_at (u : FVec Ideal S528x1024 .bf16) (w : FVec Ideal S1024x512 .bf16) (e : Fin 528) (l : Fin 512) :
    k0_pay4 (F := Ideal) u w (ix2 e l) = dot (fun k => u (ix2 e k)) (fun k => w (ix2 k l)) := by
  pointwise [k0_pay4]
  rfl

/-- Slab 0's rows before the block: zeros unless the condition holds. -/
def left0 (c : BitVec 1) (x : FVec Ideal S528x512 .f32) : FVec Ideal S1x8x128 .f32 := k0_pay39 (F := Ideal) c x
/-- Slab 0's rows of the block. -/
def mid0 (x : FVec Ideal S528x512 .f32) : FVec Ideal S1x512x128 .f32 := k0_pay40 (F := Ideal) x
/-- Slab 0's rows after the block: zeros unless the condition holds. -/
def right0 (c : BitVec 1) (x : FVec Ideal S528x512 .f32) : FVec Ideal S1x8x128 .f32 := k0_pay41 (F := Ideal) c x
/-- Slab 1 likewise. -/
def left1 (c : BitVec 1) (x : FVec Ideal S528x512 .f32) : FVec Ideal S1x8x128 .f32 := k0_pay43 (F := Ideal) c x
/-- Its rows of the block. -/
def mid1 (x : FVec Ideal S528x512 .f32) : FVec Ideal S1x512x128 .f32 := k0_pay44 (F := Ideal) x
/-- Its rows after the block. -/
def right1 (c : BitVec 1) (x : FVec Ideal S528x512 .f32) : FVec Ideal S1x8x128 .f32 := k0_pay45 (F := Ideal) c x
/-- Slab 2 likewise. -/
def left2 (c : BitVec 1) (x : FVec Ideal S528x512 .f32) : FVec Ideal S1x8x128 .f32 := k0_pay16 (F := Ideal) c x (k0_pay5 (F := Ideal))
/-- Its rows of the block. -/
def mid2 (x : FVec Ideal S528x512 .f32) : FVec Ideal S1x512x128 .f32 := k0_pay17 (F := Ideal) x
/-- Its rows after the block. -/
def right2 (c : BitVec 1) (x : FVec Ideal S528x512 .f32) : FVec Ideal S1x8x128 .f32 := k0_pay18 (F := Ideal) c x (k0_pay5 (F := Ideal))
/-- Slab 3 likewise. -/
def left3 (c : BitVec 1) (x : FVec Ideal S528x512 .f32) : FVec Ideal S1x8x128 .f32 := k0_pay20 (F := Ideal) c x (k0_pay5 (F := Ideal))
/-- Its rows of the block. -/
def mid3 (x : FVec Ideal S528x512 .f32) : FVec Ideal S1x512x128 .f32 := k0_pay21 (F := Ideal) x
/-- Its rows after the block. -/
def right3 (c : BitVec 1) (x : FVec Ideal S528x512 .f32) : FVec Ideal S1x8x128 .f32 := k0_pay22 (F := Ideal) c x (k0_pay5 (F := Ideal))

/-- A slab's 528 rows as the step leaves them in scratch: the products, with zeros before the first step's block and after the last's. -/
def slab (cl cr : BitVec 1) (x : Fin 528 → EReal) (e : Fin 528) : EReal :=
  if e.val < 8 then Scalar.select cl (x e) 0 else if e.val < 520 then x e else Scalar.select cr (x e) 0

/-- Slab 0 read at an entry, before the block, -/
theorem left0_at (c c' : BitVec 1) (x : FVec Ideal S528x512 .f32) (i : Fin 8) (l : Fin 128) :
    left0 c x (ix3 0 i l) = slab c c' (fun e => x (ix2 e ⟨l.val, by omega⟩)) ⟨i.val, by omega⟩ := by
  have h : i.val < 8 := i.isLt
  unfold slab
  rw [if_pos h]
  pointwise [left0, k0_pay37, k0_pay38, k0_pay39, k0_pay40, k0_pay41]

/-- … in it, -/
theorem mid0_at (c c' : BitVec 1) (x : FVec Ideal S528x512 .f32) (i : Fin 512) (l : Fin 128) :
    mid0 x (ix3 0 i l) = slab c c' (fun e => x (ix2 e ⟨l.val, by omega⟩)) ⟨8 + i.val, by omega⟩ := by
  have h : ¬ 8 + i.val < 8 := by omega
  have h' : 8 + i.val < 520 := by omega
  unfold slab
  rw [if_neg h, if_pos h']
  pointwise [mid0, k0_pay37, k0_pay38, k0_pay39, k0_pay40, k0_pay41]

/-- … and after it. -/
theorem right0_at (c c' : BitVec 1) (x : FVec Ideal S528x512 .f32) (i : Fin 8) (l : Fin 128) :
    right0 c' x (ix3 0 i l) = slab c c' (fun e => x (ix2 e ⟨l.val, by omega⟩)) ⟨520 + i.val, by omega⟩ := by
  have h : ¬ 520 + i.val < 8 := by omega
  have h' : ¬ 520 + i.val < 520 := by omega
  unfold slab
  rw [if_neg h, if_neg h']
  pointwise [right0, k0_pay37, k0_pay38, k0_pay39, k0_pay40, k0_pay41]

/-- Slab 1 read at an entry, before the block, -/
theorem left1_at (c c' : BitVec 1) (x : FVec Ideal S528x512 .f32) (i : Fin 8) (l : Fin 128) :
    left1 c x (ix3 0 i l) = slab c c' (fun e => x (ix2 e ⟨128 + l.val, by omega⟩)) ⟨i.val, by omega⟩ := by
  have h : i.val < 8 := i.isLt
  unfold slab
  rw [if_pos h]
  pointwise [left1, k0_pay37, k0_pay42, k0_pay43, k0_pay44, k0_pay45]

/-- … in it, -/
theorem mid1_at (c c' : BitVec 1) (x : FVec Ideal S528x512 .f32) (i : Fin 512) (l : Fin 128) :
    mid1 x (ix3 0 i l) = slab c c' (fun e => x (ix2 e ⟨128 + l.val, by omega⟩)) ⟨8 + i.val, by omega⟩ := by
  have h : ¬ 8 + i.val < 8 := by omega
  have h' : 8 + i.val < 520 := by omega
  unfold slab
  rw [if_neg h, if_pos h']
  pointwise [mid1, k0_pay37, k0_pay42, k0_pay43, k0_pay44, k0_pay45]

/-- … and after it. -/
theorem right1_at (c c' : BitVec 1) (x : FVec Ideal S528x512 .f32) (i : Fin 8) (l : Fin 128) :
    right1 c' x (ix3 0 i l) = slab c c' (fun e => x (ix2 e ⟨128 + l.val, by omega⟩)) ⟨520 + i.val, by omega⟩ := by
  have h : ¬ 520 + i.val < 8 := by omega
  have h' : ¬ 520 + i.val < 520 := by omega
  unfold slab
  rw [if_neg h, if_neg h']
  pointwise [right1, k0_pay37, k0_pay42, k0_pay43, k0_pay44, k0_pay45]

/-- Slab 2 read at an entry, before the block, -/
theorem left2_at (c c' : BitVec 1) (x : FVec Ideal S528x512 .f32) (i : Fin 8) (l : Fin 128) :
    left2 c x (ix3 0 i l) = slab c c' (fun e => x (ix2 e ⟨256 + l.val, by omega⟩)) ⟨i.val, by omega⟩ := by
  have h : i.val < 8 := i.isLt
  unfold slab
  rw [if_pos h]
  pointwise [left2, k0_pay5, k0_pay15, k0_pay16, k0_pay17, k0_pay18]

/-- … in it, -/
theorem mid2_at (c c' : BitVec 1) (x : FVec Ideal S528x512 .f32) (i : Fin 512) (l : Fin 128) :
    mid2 x (ix3 0 i l) = slab c c' (fun e => x (ix2 e ⟨256 + l.val, by omega⟩)) ⟨8 + i.val, by omega⟩ := by
  have h : ¬ 8 + i.val < 8 := by omega
  have h' : 8 + i.val < 520 := by omega
  unfold slab
  rw [if_neg h, if_pos h']
  pointwise [mid2, k0_pay5, k0_pay15, k0_pay16, k0_pay17, k0_pay18]

/-- … and after it. -/
theorem right2_at (c c' : BitVec 1) (x : FVec Ideal S528x512 .f32) (i : Fin 8) (l : Fin 128) :
    right2 c' x (ix3 0 i l) = slab c c' (fun e => x (ix2 e ⟨256 + l.val, by omega⟩)) ⟨520 + i.val, by omega⟩ := by
  have h : ¬ 520 + i.val < 8 := by omega
  have h' : ¬ 520 + i.val < 520 := by omega
  unfold slab
  rw [if_neg h, if_neg h']
  pointwise [right2, k0_pay5, k0_pay15, k0_pay16, k0_pay17, k0_pay18]

/-- Slab 3 read at an entry, before the block, -/
theorem left3_at (c c' : BitVec 1) (x : FVec Ideal S528x512 .f32) (i : Fin 8) (l : Fin 128) :
    left3 c x (ix3 0 i l) = slab c c' (fun e => x (ix2 e ⟨384 + l.val, by omega⟩)) ⟨i.val, by omega⟩ := by
  have h : i.val < 8 := i.isLt
  unfold slab
  rw [if_pos h]
  pointwise [left3, k0_pay5, k0_pay19, k0_pay20, k0_pay21, k0_pay22]

/-- … in it, -/
theorem mid3_at (c c' : BitVec 1) (x : FVec Ideal S528x512 .f32) (i : Fin 512) (l : Fin 128) :
    mid3 x (ix3 0 i l) = slab c c' (fun e => x (ix2 e ⟨384 + l.val, by omega⟩)) ⟨8 + i.val, by omega⟩ := by
  have h : ¬ 8 + i.val < 8 := by omega
  have h' : 8 + i.val < 520 := by omega
  unfold slab
  rw [if_neg h, if_pos h']
  pointwise [mid3, k0_pay5, k0_pay19, k0_pay20, k0_pay21, k0_pay22]

/-- … and after it. -/
theorem right3_at (c c' : BitVec 1) (x : FVec Ideal S528x512 .f32) (i : Fin 8) (l : Fin 128) :
    right3 c' x (ix3 0 i l) = slab c c' (fun e => x (ix2 e ⟨384 + l.val, by omega⟩)) ⟨520 + i.val, by omega⟩ := by
  have h : ¬ 520 + i.val < 8 := by omega
  have h' : ¬ 520 + i.val < 520 := by omega
  unfold slab
  rw [if_neg h, if_neg h']
  pointwise [right3, k0_pay5, k0_pay19, k0_pay20, k0_pay21, k0_pay22]

/-- A slab read at equal columns and rows. -/
theorem slab_congr (c c' : BitVec 1) (G : Fin 528 → Fin 128 → EReal) {l l' : Fin 128} {e e' : Fin 528} (hl : l.val = l'.val)
    (he : e.val = e'.val) : slab c c' (fun e => G e l) e = slab c c' (fun e => G e l') e' := by
  obtain rfl := Fin.ext hl
  obtain rfl := Fin.ext he
  rfl

/-- What a tap reads of a slab after its three stores: 512 of the slab's 528 rows, from row `o` on. -/
theorem readSlab {sig : RefSig} {κ : Kind} {sp : Space} {w : View sig κ sp S24x528x128 .f32} (s : Nat)
    (pl pr : FVec Ideal S1x8x128 .f32) (pm : FVec Ideal S1x512x128 .f32)
    (c c' : BitVec 1) (G : Fin 528 → Fin 128 → EReal)
    (hl : ∀ i l, pl (ix3 0 i l) = slab c c' (fun e => G e l) ⟨i.val, by omega⟩)
    (hm : ∀ i l, pm (ix3 0 i l) = slab c c' (fun e => G e l) ⟨8 + i.val, by omega⟩)
    (hr : ∀ i l, pr (ix3 0 i l) = slab c c' (fun e => G e l) ⟨520 + i.val, by omega⟩)
    (i1 i2 i3) (o : Nat) (i4 : ∀ a : Fin S24x528x128.rank, ![s, o, 0] a + ![1, 512, 128] a ≤ S24x528x128.size a)
    (L : List (View.Piece (Elt Ideal) S24x528x128 .f32)) (ho : o ≤ 16) (r : Fin 512) (l : Fin 128) :
    w.readCov (Val := Elt Ideal) (⟨Rect.unit (s := S24x528x128) ![s, 520, 0] ![1, 8, 128] i1, pr⟩ ::
      ⟨Rect.unit (s := S24x528x128) ![s, 8, 0] ![1, 512, 128] i2, pm⟩ ::
      ⟨Rect.unit (s := S24x528x128) ![s, 0, 0] ![1, 8, 128] i3, pl⟩ :: L)
      (Rect.unit (s := S24x528x128) ![s, o, 0] ![1, 512, 128] i4).toLoadRect (ix3 0 r l) = slab c c' (fun e => G e l) ⟨o + r.val, by omega⟩ := by
  rw [View.readCov_eq_canon']
  refine (View.canon_append_of_piecesOf (fun y => slab c c' (fun e => G e ⟨(y 2).val, (y 2).isLt⟩) ⟨(y 1).val, (y 1).isLt⟩) L
    [⟨Rect.unit (s := S24x528x128) ![s, 520, 0] ![1, 8, 128] i1, pr⟩, ⟨Rect.unit (s := S24x528x128) ![s, 8, 0] ![1, 512, 128] i2, pm⟩,
     ⟨Rect.unit (s := S24x528x128) ![s, 0, 0] ![1, 8, 128] i3, pl⟩] ⟨?_, ?_, ?_, trivial⟩ _ ?_).trans ?_
  · intro x
    idx_vars x
    refine (congrArg (fun k => pr (ix3 k x1 x2)) (Subsingleton.elim (α := Fin 1) x0 0)).trans ((hr x1 x2).trans (slab_congr _ _ _ ?_ ?_))
    · show x2.val = 0 + 1 * x2.val; omega
    · show 520 + x1.val = 520 + 1 * x1.val; omega
  · intro x
    idx_vars x
    refine (congrArg (fun k => pm (ix3 k x1 x2)) (Subsingleton.elim (α := Fin 1) x0 0)).trans ((hm x1 x2).trans (slab_congr _ _ _ ?_ ?_))
    · show x2.val = 0 + 1 * x2.val; omega
    · show 8 + x1.val = 8 + 1 * x1.val; omega
  · intro x
    idx_vars x
    refine (congrArg (fun k => pl (ix3 k x1 x2)) (Subsingleton.elim (α := Fin 1) x0 0)).trans ((hl x1 x2).trans (slab_congr _ _ _ ?_ ?_))
    · show x2.val = 0 + 1 * x2.val; omega
    · show x1.val = 0 + 1 * x1.val; omega
  · by_cases h1 : o + r.val < 8
    · refine ⟨_, List.mem_cons_of_mem _ (List.mem_cons_of_mem _ (List.mem_cons_self)), ?_⟩
      refine (Rect.mem_set_unit (inb := i3)).mpr ?_
      refine Fin.forall_fin_succ.mpr ⟨?_, Fin.forall_fin_succ.mpr ⟨?_, Fin.forall_fin_succ.mpr ⟨?_, fun a => a.elim0⟩⟩⟩
      · show s ≤ s + 1 * 0 ∧ s + 1 * 0 < s + 1; omega
      · show 0 ≤ o + 1 * r.val ∧ o + 1 * r.val < 0 + 8; omega
      · show 0 ≤ 0 + 1 * l.val ∧ 0 + 1 * l.val < 0 + 128; omega
    · by_cases h2 : o + r.val < 520
      · refine ⟨_, List.mem_cons_of_mem _ (List.mem_cons_self), ?_⟩
        refine (Rect.mem_set_unit (inb := i2)).mpr ?_
        refine Fin.forall_fin_succ.mpr ⟨?_, Fin.forall_fin_succ.mpr ⟨?_, Fin.forall_fin_succ.mpr ⟨?_, fun a => a.elim0⟩⟩⟩
        · show s ≤ s + 1 * 0 ∧ s + 1 * 0 < s + 1; omega
        · show 8 ≤ o + 1 * r.val ∧ o + 1 * r.val < 8 + 512; omega
        · show 0 ≤ 0 + 1 * l.val ∧ 0 + 1 * l.val < 0 + 128; omega
      · refine ⟨_, List.mem_cons_self, ?_⟩
        refine (Rect.mem_set_unit (inb := i1)).mpr ?_
        refine Fin.forall_fin_succ.mpr ⟨?_, Fin.forall_fin_succ.mpr ⟨?_, Fin.forall_fin_succ.mpr ⟨?_, fun a => a.elim0⟩⟩⟩
        · show s ≤ s + 1 * 0 ∧ s + 1 * 0 < s + 1; omega
        · show 520 ≤ o + 1 * r.val ∧ o + 1 * r.val < 520 + 8; omega
        · show 0 ≤ 0 + 1 * l.val ∧ 0 + 1 * l.val < 0 + 128; omega
  · refine slab_congr _ _ _ ?_ ?_
    · show 0 + 1 * l.val = l.val; omega
    · show o + 1 * r.val = o + r.val; omega

end Cert.Proof.Inproj

end
-- ==== Proof.Inproj.RefRow.lean ====
module

public import proofs.«01_k».proof.Proof.Gen.Reference2Ideal.Run
public import proofs.«01_k».proof.Proof.Inproj.Row
public import Idealize.ShloMosaic.Lib.KernelVsHost

@[expose] public section

set_option maxRecDepth 16384

noncomputable section

namespace Cert.Proof.Inproj

open Idealize.ShloMosaic Idealize.ShloMosaic.TcCoe Idealize.SL.Sem
open Cert.Reference2Ideal Cert.Reference2Ideal.Gen
open Cert.Proof.Finish (rms)

/-- The integer zero, converted. -/
theorem word_zero : (FloatOps.sitofp .f32 0#32 : Ideal .f32) = 0 := by
  simp [FloatOps.sitofp]

/-- The reference's normalised and modulated rows. -/
def refU (h : FVec Ideal S8x4096x1024 .f32) (mod : FVec Ideal S2x16x3072 .f32) (g : FVec Ideal S2x1024 .f32) :
    FVec Ideal S8x4096x1024 .f32 :=
  addf (mulf (mulf (mulf h (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf h h) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32))))))
    (broadcastInDim S8x4096x1024 ![0, 1, 2] bcast_S1x1x1024_S8x4096x1024_0_1_2 (broadcastInDim S1x1x1024 ![2] bcast_S1024_S1x1x1024_2 (shapeCast _ (extractStridedSlice S1x1024 ![1, 0] g slices_S2x1024_S1x1024_1_0) shapeCasts_S1x1024_S1024))))
    (broadcastInDim S8x4096x1024 ![0, 1, 2] bcast_S8x1x1024_S8x4096x1024_0_1_2 (addf (broadcastInDim S8x1x1024 ![] bcast_S_S8x1x1024 (constant S_ .f32 0x3F800000#32)) (broadcastInDim S8x1x1024 ![0, 2] bcast_S8x1024_S8x1x1024_0_2 (extractStridedSlice S8x1024 ![0, 1024] (shapeCast _ (extractStridedSlice S1x8x3072 ![1, 0, 0] mod slices_S2x16x3072_S1x8x3072_1_0_0) shapeCasts_S1x8x3072_S8x3072) slices_S8x3072_S8x1024_0_1024)))))
    (broadcastInDim S8x4096x1024 ![0, 1, 2] bcast_S8x1x1024_S8x4096x1024_0_1_2 (broadcastInDim S8x1x1024 ![0, 2] bcast_S8x1024_S8x1x1024_0_2 (extractStridedSlice S8x1024 ![0, 0] (shapeCast _ (extractStridedSlice S1x8x3072 ![1, 0, 0] mod slices_S2x16x3072_S1x8x3072_1_0_0) shapeCasts_S1x8x3072_S8x3072) slices_S8x3072_S8x1024_0_0)))

/-- The reference's projection: every row times every column of the weights. -/
def refP (u : FVec Ideal S8x4096x1024 .f32) (w : FVec Ideal S1x1024x5184 .f32) : FVec Ideal S8x4096x5184 .f32 :=
  Host.dotGeneral dot_S8x4096x1024_S1024x5184_S8x4096x5184_2_0_01_1_n_n none u (shapeCast _ w shapeCasts_S1x1024x5184_S1024x5184)

/-- The reference's gate: the silu of the projection's first 2048 columns. -/
def refZ (p : FVec Ideal S8x4096x5184 .f32) : FVec Ideal S8x4096x2048 .bf16 :=
  truncf .bf16 (mulf (extractStridedSlice S8x4096x2048 ![0, 0, 0] p slices_S8x4096x5184_S8x4096x2048_0_0_0) (Host.divf (broadcastInDim S8x4096x2048 ![] bcast_S_S8x4096x2048 (constant S_ .f32 0x3F800000#32)) (addf (broadcastInDim S8x4096x2048 ![] bcast_S_S8x4096x2048 (constant S_ .f32 0x3F800000#32)) (Host.exp (Host.negf (extractStridedSlice S8x4096x2048 ![0, 0, 0] p slices_S8x4096x5184_S8x4096x2048_0_0_0)))))) bitsLt_bf16_f32

/-- The projection's next 3072 columns with two rows of zeros before and one after. -/
def refX (p : FVec Ideal S8x4096x5184 .f32) : FVec Ideal S8x4099x3072 .f32 :=
  pad S8x4099x3072 ![0, 2, 0] ![0, 1, 0] ![0, 0, 0] (extractStridedSlice S8x4096x3072 ![0, 0, 2048] p slices_S8x4096x5184_S8x4096x3072_0_0_2048) (sitofp .f32 (constantI S_ 32 0#32)) pads_S8x4096x3072_S8x4099x3072_000_210_000 h_S_

/-- The reference's convolution of the padded columns. -/
def refConv (x : FVec Ideal S8x4099x3072 .f32) (w : FVec Ideal S1x4x3072 .f32) (b : FVec Ideal S1x3072 .f32) : FVec Ideal S8x4096x3072 .f32 :=
  addf (addf (addf (addf (mulf (extractStridedSlice S8x4096x3072 ![0, 0, 0] x slices_S8x4099x3072_S8x4096x3072_0_0_0) (broadcastInDim S8x4096x3072 ![0, 1, 2] bcast_S1x1x3072_S8x4096x3072_0_1_2 (broadcastInDim S1x1x3072 ![2] bcast_S3072_S1x1x3072_2 (shapeCast _ (extractStridedSlice S1x3072 ![0, 0] (shapeCast _ w shapeCasts_S1x4x3072_S4x3072) slices_S4x3072_S1x3072_0_0) shapeCasts_S1x3072_S3072))))
    (mulf (extractStridedSlice S8x4096x3072 ![0, 1, 0] x slices_S8x4099x3072_S8x4096x3072_0_1_0) (broadcastInDim S8x4096x3072 ![0, 1, 2] bcast_S1x1x3072_S8x4096x3072_0_1_2 (broadcastInDim S1x1x3072 ![2] bcast_S3072_S1x1x3072_2 (shapeCast _ (extractStridedSlice S1x3072 ![1, 0] (shapeCast _ w shapeCasts_S1x4x3072_S4x3072) slices_S4x3072_S1x3072_1_0) shapeCasts_S1x3072_S3072)))))
    (mulf (extractStridedSlice S8x4096x3072 ![0, 2, 0] x slices_S8x4099x3072_S8x4096x3072_0_2_0) (broadcastInDim S8x4096x3072 ![0, 1, 2] bcast_S1x1x3072_S8x4096x3072_0_1_2 (broadcastInDim S1x1x3072 ![2] bcast_S3072_S1x1x3072_2 (shapeCast _ (extractStridedSlice S1x3072 ![2, 0] (shapeCast _ w shapeCasts_S1x4x3072_S4x3072) slices_S4x3072_S1x3072_2_0) shapeCasts_S1x3072_S3072)))))
    (mulf (extractStridedSlice S8x4096x3072 ![0, 3, 0] x slices_S8x4099x3072_S8x4096x3072_0_3_0) (broadcastInDim S8x4096x3072 ![0, 1, 2] bcast_S1x1x3072_S8x4096x3072_0_1_2 (broadcastInDim S1x1x3072 ![2] bcast_S3072_S1x1x3072_2 (shapeCast _ (extractStridedSlice S1x3072 ![3, 0] (shapeCast _ w shapeCasts_S1x4x3072_S4x3072) slices_S4x3072_S1x3072_3_0) shapeCasts_S1x3072_S3072)))))
    (broadcastInDim S8x4096x3072 ![0, 1, 2] bcast_S1x1x3072_S8x4096x3072_0_1_2 (broadcastInDim S1x1x3072 ![2] bcast_S3072_S1x1x3072_2 (shapeCast _ b shapeCasts_S1x3072_S3072)))

/-- The reference's second result: the silu of the convolution. -/
def refS (x : FVec Ideal S8x4096x3072 .f32) : FVec Ideal S8x4096x3072 .bf16 :=
  truncf .bf16 (mulf x (Host.divf (broadcastInDim S8x4096x3072 ![] bcast_S_S8x4096x3072 (constant S_ .f32 0x3F800000#32)) (addf (broadcastInDim S8x4096x3072 ![] bcast_S_S8x4096x3072 (constant S_ .f32 0x3F800000#32)) (Host.exp (Host.negf x))))) bitsLt_bf16_f32

/-- The projection's last 64 columns plus their bias, followed by 64 columns of zeros. -/
def refD (p : FVec Ideal S8x4096x5184 .f32) (b : FVec Ideal S1x2x32 .f32) : FVec Ideal S8x4096x128 .f32 :=
  pad S8x4096x128 ![0, 0, 0] ![0, 0, 64] ![0, 0, 0] (shapeCast _ (addf (shapeCast _ (extractStridedSlice S8x4096x64 ![0, 0, 5120] p slices_S8x4096x5184_S8x4096x64_0_0_5120) shapeCasts_S8x4096x64_S8x4096x2x32) (broadcastInDim S8x4096x2x32 ![0, 1, 2, 3] bcast_S1x1x2x32_S8x4096x2x32_0_1_2_3 (broadcastInDim S1x1x2x32 ![2, 3] bcast_S2x32_S1x1x2x32_2_3 (shapeCast _ b shapeCasts_S1x2x32_S2x32)))) shapeCasts_S8x4096x2x32_S8x4096x64) (sitofp .f32 (constantI S_ 32 0#32)) pads_S8x4096x64_S8x4096x128_000_000_0640 h_S_

/-- The reference's third result: the softplus of an array. -/
def refT (p : FVec Ideal S8x4096x128 .f32) : FVec Ideal S8x4096x128 .f32 :=
  select (cmpf .une (subf p (broadcastInDim S8x4096x128 ![] bcast_S_S8x4096x128 (constant S_ .f32 0x00000000#32))) (subf p (broadcastInDim S8x4096x128 ![] bcast_S_S8x4096x128 (constant S_ .f32 0x00000000#32)))) (addf p (broadcastInDim S8x4096x128 ![] bcast_S_S8x4096x128 (constant S_ .f32 0x00000000#32))) (addf (maximumf p (broadcastInDim S8x4096x128 ![] bcast_S_S8x4096x128 (constant S_ .f32 0x00000000#32))) (Host.log1p (Host.exp (Host.negf (Host.absf (subf p (broadcastInDim S8x4096x128 ![] bcast_S_S8x4096x128 (constant S_ .f32 0x00000000#32))))))))

/-- A modulated row read at an entry. -/
theorem refU_at (h : FVec Ideal S8x4096x1024 .f32) (mod : FVec Ideal S2x16x3072 .f32) (g : FVec Ideal S2x1024 .f32)
    (b : Fin 8) (t : Fin 4096) (d : Fin 1024) :
    refU h mod g (ix3 b t d) = nrm (fun k => h (ix3 b t k)) (fun k => mod (ix3 1 ⟨b.val, by omega⟩ ⟨k.val, by omega⟩))
      (fun k => mod (ix3 1 ⟨b.val, by omega⟩ ⟨1024 + k.val, by omega⟩)) (fun k => g (ix2 1 k)) d := by
  pointwise [refU]
  rfl

/-- The projection read at an entry. -/
theorem refP_at (u : FVec Ideal S8x4096x1024 .f32) (w : FVec Ideal S1x1024x5184 .f32) (b : Fin 8) (t : Fin 4096) (d : Fin 5184) :
    refP u w (ix3 b t d) = dot (fun k => u (ix3 b t k)) (fun k => w (ix3 0 k d)) := by
  pointwise [refP]
  rfl

/-- The gate read at an entry. -/
theorem refZ_at (p : FVec Ideal S8x4096x5184 .f32) (b : Fin 8) (t : Fin 4096) (d : Fin 2048) :
    refZ p (ix3 b t d) = silu (p (ix3 b t ⟨d.val, by omega⟩)) := by
  pointwise [refZ]
  rfl

/-- The padded columns read inside: row `k` is the projection's row `t`, two rows further up. -/
theorem refX_in (p : FVec Ideal S8x4096x5184 .f32) (b : Fin 8) (k : Fin 4099) (d : Fin 3072) (t : Fin 4096) (h : k.val = t.val + 2) :
    refX p (ix3 b k d) = p (ix3 b t ⟨2048 + d.val, by omega⟩) := by
  obtain ⟨k, hk⟩ := k
  obtain rfl : k = t.val + 2 := h
  have e : t.val + 2 - 2 < 4096 := by omega
  pointwise [refX]
  rw [dif_pos e]
  exact congrArg (fun k => p (ix3 b k _)) (Fin.ext (by show t.val + 2 - 2 = t.val; omega))

/-- … and on the rows of zeros. -/
theorem refX_out (p : FVec Ideal S8x4096x5184 .f32) (b : Fin 8) (k : Fin 4099) (d : Fin 3072) (h : k.val < 2 ∨ 4098 ≤ k.val) :
    refX p (ix3 b k d) = 0 := by
  have e : ¬ (2 ≤ k.val ∧ k.val - 2 < 4096) := by omega
  pointwise [refX, e]
  exact word_zero

/-- The convolution read at an entry. -/
theorem refConv_at (x : FVec Ideal S8x4099x3072 .f32) (w : FVec Ideal S1x4x3072 .f32) (v : FVec Ideal S1x3072 .f32) (b : Fin 8)
    (t : Fin 4096) (d : Fin 3072) :
    refConv x w v (ix3 b t d) = conv (v (ix2 0 d)) (w (ix3 0 0 d)) (w (ix3 0 1 d)) (w (ix3 0 2 d)) (w (ix3 0 3 d))
      (x (ix3 b ⟨t.val, by omega⟩ d)) (x (ix3 b ⟨1 + t.val, by omega⟩ d)) (x (ix3 b ⟨2 + t.val, by omega⟩ d))
      (x (ix3 b ⟨3 + t.val, by omega⟩ d)) := by
  pointwise [refConv]
  unfold conv
  simp only [mul_comm (x _)]
  rw [add_comm _ (v (ix2 0 d))]
  simp only [← add_assoc]

/-- The silu read at an entry. -/
theorem refS_at (x : FVec Ideal S8x4096x3072 .f32) (i : S8x4096x3072.Idx) : refS x i = silu (x i) := by
  pointwise [refS]
  rfl

/-- The columns of dt read among the first 64. -/
theorem refD_in (p : FVec Ideal S8x4096x5184 .f32) (v : FVec Ideal S1x2x32 .f32) (b : Fin 8) (t : Fin 4096) (d : Fin 128) (i : Fin 2)
    (j : Fin 32) (h : d.val = i.val * 32 + j.val) :
    refD p v (ix3 b t d) = p (ix3 b t ⟨5120 + d.val, by omega⟩) + v (ix3 0 i j) := by
  have e : d.val < 64 := by omega
  pointwise [refD, e]
  have e1 : d.val / 32 = i.val := by omega
  have e2 : d.val % 32 = j.val := by omega
  exact congrArg₂ (· + ·) (congrArg (fun k => p (ix3 b t k)) (Fin.ext (by show 5120 + (d.val / 32 * 32 + d.val % 32) = 5120 + d.val; omega)))
    (congrArg₂ (fun a c => v (ix3 0 a c)) (Fin.ext e1) (Fin.ext e2))

/-- … and among the columns of zeros. -/
theorem refD_out (p : FVec Ideal S8x4096x5184 .f32) (v : FVec Ideal S1x2x32 .f32) (b : Fin 8) (t : Fin 4096) (d : Fin 128)
    (h : 64 ≤ d.val) : refD p v (ix3 b t d) = 0 := by
  have e : ¬ d.val < 64 := by omega
  pointwise [refD, e]
  exact word_zero

/-- The softplus read at an entry. -/
theorem refT_at (p : FVec Ideal S8x4096x128 .f32) (i : S8x4096x128.Idx) : refT p i = softplus (p i) := by
  pointwise [refT]
  rw [if_neg (fun h => h rfl)]
  rfl

/-- The reference's results in the pieces above. -/
theorem res_eq (m : (ℓ : Loc nD τ sig) → Buf (Elt Ideal) ℓ) (c : Dev nD) :
    Cert.Reference2Ideal.Value.res_out0 (F := Ideal) m c =
      refZ (refP (refU (m ((c.tc : Thread nD τ).loc main_arg0)) (m ((c.tc : Thread nD τ).loc main_arg1))
        (m ((c.tc : Thread nD τ).loc main_arg2))) (m ((c.tc : Thread nD τ).loc main_arg3))) := rfl

/-- … of the second, -/
theorem res_eq1 (m : (ℓ : Loc nD τ sig) → Buf (Elt Ideal) ℓ) (c : Dev nD) :
    Cert.Reference2Ideal.Value.res_out1 (F := Ideal) m c =
      refS (refConv (refX (refP (refU (m ((c.tc : Thread nD τ).loc main_arg0)) (m ((c.tc : Thread nD τ).loc main_arg1))
        (m ((c.tc : Thread nD τ).loc main_arg2))) (m ((c.tc : Thread nD τ).loc main_arg3)))) (m ((c.tc : Thread nD τ).loc main_arg4))
        (m ((c.tc : Thread nD τ).loc main_arg5))) := rfl

/-- … and of the third. -/
theorem res_eq2 (m : (ℓ : Loc nD τ sig) → Buf (Elt Ideal) ℓ) (c : Dev nD) :
    Cert.Reference2Ideal.Value.res_out2 (F := Ideal) m c =
      refT (refD (refP (refU (m ((c.tc : Thread nD τ).loc main_arg0)) (m ((c.tc : Thread nD τ).loc main_arg1))
        (m ((c.tc : Thread nD τ).loc main_arg2))) (m ((c.tc : Thread nD τ).loc main_arg3))) (m ((c.tc : Thread nD τ).loc main_arg6))) := rfl

end Cert.Proof.Inproj

end
-- ==== Proof.Inproj.Point.lean ====
module

public import proofs.«01_k».proof.Proof.Inproj.Reads
public import proofs.«01_k».proof.Proof.Inproj.Body
public import proofs.«01_k».proof.Proof.Inproj.RefRow

@[expose] public section

set_option maxRecDepth 16384

noncomputable section

namespace Cert.Proof.Inproj

open Idealize.ShloMosaic Idealize.ShloMosaic.TcCoe Idealize.SL.Sem
open Idealize.ShloMosaic.Pipeline (Dat)
open Cert.Kernel2Ideal Cert.Kernel2Ideal.Gen

variable (m : (ℓ : Loc nD τ sig) → Buf (Elt Ideal) ℓ)

/-- The reference's projection over the kernel's argument arrays. -/
abbrev PROJ (c : Dev nD) : FVec Ideal Cert.Reference2Ideal.S8x4096x5184 .f32 :=
  refP (refU (m ((c.tc : Thread nD τ).loc main_arg0)) (m ((c.tc : Thread nD τ).loc main_arg1))
    (m ((c.tc : Thread nD τ).loc main_arg2))) (m ((c.tc : Thread nD τ).loc main_arg3))

/-- The reference's three results over the kernel's argument arrays: the gate, -/
abbrev REFZ (c : Dev nD) : FVec Ideal S8x4096x2048 .bf16 := refZ (PROJ m c)
/-- the scan's input, -/
abbrev REFX (c : Dev nD) : FVec Ideal S8x4096x3072 .bf16 :=
  refS (refConv (refX (PROJ m c)) (m ((c.tc : Thread nD τ).loc main_arg4)) (m ((c.tc : Thread nD τ).loc main_arg5)))
/-- and the steps. -/
abbrev REFD (c : Dev nD) : FVec Ideal S8x4096x128 .f32 := refT (refD (PROJ m c) (m ((c.tc : Thread nD τ).loc main_arg6)))

section point
variable (c : Dev nD) (t : Fin cfg0.N)

/-- The modulation's shift and scale at a grid point. -/
abbrev SH : FVec Ideal S1x1x1024 .f32 :=
  View.ld (iblk m c 3 t) (Rect.unit ![0, 0, 0] ![1, 1, 1024] inb_S1x1x3072_S1x1x1024_0_0_0)
/-- The scale at a grid point. -/
abbrev SC : FVec Ideal S1x1x1024 .f32 :=
  View.ld (iblk m c 3 t) (Rect.unit ![0, 0, 1024] ![1, 1, 1024] inb_S1x1x3072_S1x1x1024_0_0_1024)

/-- The 528 modulated rows of a grid point. -/
abbrev UU : FVec Ideal S528x1024 .bf16 := k0_pay2 (F := Ideal) (iblk m c 1 t) (iblk m c 0 t) (iblk m c 2 t) (SH m c t) (SC m c t) (iblk m c 4 t)
/-- The block's own 512 among them. -/
abbrev UM : FVec Ideal S512x1024 .bf16 := k0_pay3 (F := Ideal) (iblk m c 1 t) (iblk m c 0 t) (iblk m c 2 t) (SH m c t) (SC m c t) (iblk m c 4 t)

/-- The shift at a channel, in the reference's array. -/
theorem sh_at (k : Fin 1024) : SH m c t (ix3 0 0 k) =
    (m ((c.tc : Thread nD τ).loc main_arg1) : FVec Ideal S2x16x3072 .f32) (ix3 1 ⟨t.val % 8, by omega⟩ ⟨k.val, by omega⟩) := by
  refine Eq.trans ?_ (rd3 m c t ⟨k.val, by omega⟩ ⟨k.val, by omega⟩ rfl)
  unfold SH
  pointwise

/-- The scale at a channel, in the reference's array. -/
theorem sc_at (k : Fin 1024) : SC m c t (ix3 0 0 k) =
    (m ((c.tc : Thread nD τ).loc main_arg1) : FVec Ideal S2x16x3072 .f32) (ix3 1 ⟨t.val % 8, by omega⟩ ⟨1024 + k.val, by omega⟩) := by
  refine Eq.trans ?_ (rd3 m c t ⟨1024 + k.val, by omega⟩ ⟨1024 + k.val, by omega⟩ rfl)
  unfold SC
  pointwise

/-- The rows a grid point works on are the input's rows from 8 before its block on, as far as these exist. -/
theorem hext_at (e : Fin 528) (row : Fin 4096) (h : row.val + 8 = t.val / 8 * 512 + e.val) (k : Fin 1024) :
    hext (iblk m c 1 t) (iblk m c 2 t) (iblk m c 0 t) e k =
      (m ((c.tc : Thread nD τ).loc main_arg0) : FVec Ideal S8x4096x1024 .f32) (ix3 ⟨t.val % 8, by omega⟩ row k) := by
  have hr := row.isLt
  have he := e.isLt
  unfold hext
  split
  · refine (rd1 m c t (by omega) _ k).trans ?_
    exact congrArg (fun r => (m ((c.tc : Thread nD τ).loc main_arg0) : FVec Ideal S8x4096x1024 .f32) (ix3 _ r k)) (Fin.ext (by show t.val / 8 * 512 + e.val - 8 = row.val; omega))
  · split
    · refine (rd0 m c t _ k).trans ?_
      exact congrArg (fun r => (m ((c.tc : Thread nD τ).loc main_arg0) : FVec Ideal S8x4096x1024 .f32) (ix3 _ r k)) (Fin.ext (by show t.val / 8 * 512 + (e.val - 8) = row.val; omega))
    · refine (rd2 m c t (by omega) _ k).trans ?_
      exact congrArg (fun r => (m ((c.tc : Thread nD τ).loc main_arg0) : FVec Ideal S8x4096x1024 .f32) (ix3 _ r k)) (Fin.ext (by show t.val / 8 * 512 + 512 + (e.val - 8 - 512) = row.val; omega))

/-- So are the modulated rows the reference's. -/
theorem uu_at (e : Fin 528) (row : Fin 4096) (h : row.val + 8 = t.val / 8 * 512 + e.val) (d : Fin 1024) :
    UU m c t (ix2 e d) = refU (m ((c.tc : Thread nD τ).loc main_arg0)) (m ((c.tc : Thread nD τ).loc main_arg1))
      (m ((c.tc : Thread nD τ).loc main_arg2)) (ix3 ⟨t.val % 8, by omega⟩ row d) := by
  have e1 := funext (hext_at m c t e row h)
  have e2 := funext (sh_at m c t)
  have e3 := funext (sc_at m c t)
  have e4 := funext (rd4 m c t)
  refine (pay2_at _ _ _ _ _ _ e d).trans (Eq.trans ?_ (refU_at _ _ _ _ row d).symm)
  exact (congrArg (fun f => nrm f _ _ _ d) e1).trans ((congrArg (fun f => nrm _ f _ _ d) e2).trans
    ((congrArg (fun f => nrm _ _ f _ d) e3).trans (congrArg (fun f => nrm _ _ _ f d) e4)))

/-- A row of the products with columns `w` that are the reference's column `d` is the reference's projection there. -/
theorem dot_at (e : Fin 528) (row : Fin 4096) (h : row.val + 8 = t.val / 8 * 512 + e.val) (w : Fin 1024 → EReal) (d : Fin 5184)
    (hw : ∀ k, w k = (m ((c.tc : Thread nD τ).loc main_arg3) : FVec Ideal S1x1024x5184 .f32) (ix3 0 k d)) :
    dot (fun k => UU m c t (ix2 e k)) w = PROJ m c (ix3 ⟨t.val % 8, by omega⟩ row d) := by
  refine Eq.trans ?_ (refP_at _ _ _ row d).symm
  rw [funext (uu_at m c t e row h), funext hw]

/-- The same for the block's own rows. -/
theorem dotm_at (r : Fin 512) (row : Fin 4096) (h : row.val = t.val / 8 * 512 + r.val) (w : Fin 1024 → EReal) (d : Fin 5184)
    (hw : ∀ k, w k = (m ((c.tc : Thread nD τ).loc main_arg3) : FVec Ideal S1x1024x5184 .f32) (ix3 0 k d)) :
    dot (fun k => UM m c t (ix2 r k)) w = PROJ m c (ix3 ⟨t.val % 8, by omega⟩ row d) := by
  refine Eq.trans ?_ (dot_at m c t ⟨8 + r.val, by omega⟩ row (by show row.val + 8 = _ + (8 + r.val); omega) w d hw)
  exact congrArg (fun f => dot f w) (funext fun k => pay3_at _ _ _ _ _ _ r k)

/-- Whether rows before the block exist, as the kernel asks; -/
abbrev CL : BitVec 1 := Scalar.cmpi .sge (BitVec.ofNat 32 (grid0.coords t 0).val) 1#32
/-- and rows after it. -/
abbrev CR : BitVec 1 := Scalar.cmpi .sle (BitVec.ofNat 32 (grid0.coords t 0).val) 6#32

/-- The condition "not the first step" at a grid point. -/
theorem cl_eq : ∀ t : Fin cfg0.N, CL t = if 1 ≤ t.val / 8 then 1#1 else 0#1 :=
  (by decide +kernel : ∀ t : Fin grid0.N, _)
/-- The condition "not the last step" at a grid point. -/
theorem cr_eq : ∀ t : Fin cfg0.N, CR t = if t.val / 8 ≤ 6 then 1#1 else 0#1 :=
  (by decide +kernel : ∀ t : Fin grid0.N, _)

/-- A slab's rows are the padded projection's, zeros outside the sequence included. -/
theorem slab_ref (x : Fin 528 → EReal) (d : Fin 3072)
    (hx : ∀ (e : Fin 528) (row : Fin 4096), row.val + 8 = t.val / 8 * 512 + e.val →
      x e = PROJ m c (ix3 ⟨t.val % 8, by omega⟩ row ⟨2048 + d.val, by omega⟩))
    (e : Fin 528) (k : Fin 4099) (h : k.val + 6 = t.val / 8 * 512 + e.val) :
    slab (CL t) (CR t) x e = refX (PROJ m c) (ix3 ⟨t.val % 8, by omega⟩ k d) := by
  have ht := tile_lt t
  have hk := k.isLt
  have he := e.isLt
  rw [cl_eq, cr_eq]
  unfold slab
  by_cases h1 : k.val < 2 ∨ 4098 ≤ k.val
  · refine Eq.trans ?_ (refX_out _ _ k d h1).symm
    rcases h1 with h1 | h1
    · rw [if_pos (by omega), if_neg (by omega)]
      rfl
    · rw [if_neg (by omega), if_neg (by omega), if_neg (by omega)]
      rfl
  · refine Eq.trans ?_ (refX_in _ _ k d ⟨k.val - 2, by omega⟩ (by show k.val = k.val - 2 + 2; omega)).symm
    refine Eq.trans ?_ (hx e ⟨k.val - 2, by omega⟩ (by show k.val - 2 + 8 = _; omega))
    by_cases h2 : e.val < 8
    · rw [if_pos h2, if_pos (by omega)]
      rfl
    · rw [if_neg h2]
      by_cases h3 : e.val < 520
      · rw [if_pos h3]
      · rw [if_neg h3, if_pos (by omega)]
        rfl

/-- One entry of the second result, from what the four taps, the weights and the bias read. -/
theorem conv_point (r : Fin 512) (l : Fin 128) (d : Fin 3072) (x : Fin 528 → EReal)
    (b w0 : FVec Ideal S1x128 .f32) (x0 : FVec Ideal S1x512x128 .f32) (w1 : FVec Ideal S1x128 .f32) (x1 : FVec Ideal S1x512x128 .f32)
    (w2 : FVec Ideal S1x128 .f32) (x2 : FVec Ideal S1x512x128 .f32) (w3 : FVec Ideal S1x128 .f32) (x3 : FVec Ideal S1x512x128 .f32)
    (h0 : x0 (ix3 0 r l) = slab (CL t) (CR t) x ⟨6 + r.val, by omega⟩)
    (h1 : x1 (ix3 0 r l) = slab (CL t) (CR t) x ⟨7 + r.val, by omega⟩)
    (h2 : x2 (ix3 0 r l) = slab (CL t) (CR t) x ⟨8 + r.val, by omega⟩)
    (h3 : x3 (ix3 0 r l) = slab (CL t) (CR t) x ⟨9 + r.val, by omega⟩)
    (hb : b (ix2 0 l) = (m ((c.tc : Thread nD τ).loc main_arg5) : FVec Ideal S1x3072 .f32) (ix2 0 d))
    (hw0 : w0 (ix2 0 l) = (m ((c.tc : Thread nD τ).loc main_arg4) : FVec Ideal S1x4x3072 .f32) (ix3 0 0 d))
    (hw1 : w1 (ix2 0 l) = (m ((c.tc : Thread nD τ).loc main_arg4) : FVec Ideal S1x4x3072 .f32) (ix3 0 1 d))
    (hw2 : w2 (ix2 0 l) = (m ((c.tc : Thread nD τ).loc main_arg4) : FVec Ideal S1x4x3072 .f32) (ix3 0 2 d))
    (hw3 : w3 (ix2 0 l) = (m ((c.tc : Thread nD τ).loc main_arg4) : FVec Ideal S1x4x3072 .f32) (ix3 0 3 d))
    (hx : ∀ (e : Fin 528) (row : Fin 4096), row.val + 8 = t.val / 8 * 512 + e.val →
      x e = PROJ m c (ix3 ⟨t.val % 8, by omega⟩ row ⟨2048 + d.val, by omega⟩)) :
    convPay b w0 x0 w1 x1 w2 x2 w3 x3 (ix3 0 r l) =
      REFX m c (ix3 ⟨t.val % 8, by omega⟩ ⟨t.val / 8 * 512 + r.val, by have := tile_lt t; omega⟩ d) := by
  have ht := tile_lt t
  refine (convPay_at _ _ _ _ _ _ _ _ _ r l).trans (Eq.trans ?_ (refS_at _ _).symm)
  refine congrArg silu (Eq.trans ?_ (refConv_at _ _ _ _ _ d).symm)
  rw [h0, h1, h2, h3, hb, hw0, hw1, hw2, hw3,
    slab_ref m c t x d hx ⟨6 + r.val, by omega⟩ ⟨t.val / 8 * 512 + r.val, by omega⟩ (by show t.val / 8 * 512 + r.val + 6 = t.val / 8 * 512 + (6 + r.val); omega),
    slab_ref m c t x d hx ⟨7 + r.val, by omega⟩ ⟨1 + (t.val / 8 * 512 + r.val), by omega⟩ (by show 1 + _ + 6 = _ + (7 + r.val); omega),
    slab_ref m c t x d hx ⟨8 + r.val, by omega⟩ ⟨2 + (t.val / 8 * 512 + r.val), by omega⟩ (by show 2 + _ + 6 = _ + (8 + r.val); omega),
    slab_ref m c t x d hx ⟨9 + r.val, by omega⟩ ⟨3 + (t.val / 8 * 512 + r.val), by omega⟩ (by show 3 + _ + 6 = _ + (9 + r.val); omega)]

end point

end Cert.Proof.Inproj

end
-- ==== Proof.Inproj.Gate.lean ====
module

public import proofs.«01_k».proof.Proof.Inproj.Point

@[expose] public section

set_option maxRecDepth 16384

noncomputable section

namespace Cert.Proof.Inproj

open Idealize.ShloMosaic Idealize.ShloMosaic.TcCoe Idealize.SL.Sem
open Idealize.ShloMosaic.Pipeline (Dat)
open Cert.Kernel2Ideal Cert.Kernel2Ideal.Gen

variable (m : (ℓ : Loc nD τ sig) → Buf (Elt Ideal) ℓ)

/-- One entry of the gate from its chunk of 512 columns at offset `o`. -/
theorem gate_point (c : Dev nD) (t : Fin cfg0.N) (o : Nat) (inb : ∀ a : Fin S1024x2048.rank, ![0, o] a + ![1024, 512] a ≤ S1024x2048.size a) (r l : Fin 512) (d : Fin 2048) (hd : d.val = o + l.val) :
    k0_pay35 (F := Ideal) (UM m c t) (View.ld (X0_5 m c t) (Rect.unit (s := S1024x2048) ![0, o] ![1024, 512] inb)) (ix3 0 r l) =
      REFZ m c (ix3 ⟨t.val % 8, by omega⟩ ⟨t.val / 8 * 512 + r.val, by have := tile_lt t; omega⟩ d) := by
  refine (pay35_at _ _ r l).trans (Eq.trans ?_ (refZ_at _ _ _ d).symm)
  refine congrArg silu (dotm_at m c t r _ rfl _ _ fun k => ?_)
  refine Eq.trans (congrArg (X0_5 m c t) (?_ : _ = ix2 k d)) (rd5 m c t k d ⟨d.val, by omega⟩ rfl)
  refine funext (Fin.forall_fin_succ.mpr ⟨Fin.ext ?_, Fin.forall_fin_succ.mpr ⟨Fin.ext ?_, fun a => a.elim0⟩⟩)
  · show 0 + 1 * k.val = k.val; omega
  · show o + 1 * l.val = d.val; omega

set_option maxHeartbeats 1600000 in
/-- THE FIRST RESULT ARRAY after the kernel's run is the reference's gate of the same arguments. -/
theorem final_gate (c : Dev nD) : (dats m 0 c).arrAt 11 (cfgs 0).N = REFZ m c := by
  refine (dats m 0 c).arrAt_eq_of_covers 11 _ (by decide +kernel) fun t _ y => ?_
  blk_simp
  rw [after0_11]
  unfold outsAt0
  frame_out
  canon_tiles x h
  · idx_vars x
    have he : ((View.whole main_v16_0).slice (win0_11.rect t)).emb y =
        (ix3 ⟨t.val % 8, by omega⟩ ⟨t.val / 8 * 512 + x1.val, by have := tile_lt t; omega⟩ ⟨1536 + x2.val, by omega⟩ : S8x4096x2048.Idx) := by
      blk_ext [idx t]
    rw [he]
    obtain rfl : x0 = 0 := Subsingleton.elim (α := Fin 1) _ _
    exact gate_point m c t 1536 _ x1 x2 _ rfl
  · idx_vars x
    have he : ((View.whole main_v16_0).slice (win0_11.rect t)).emb y =
        (ix3 ⟨t.val % 8, by omega⟩ ⟨t.val / 8 * 512 + x1.val, by have := tile_lt t; omega⟩ ⟨1024 + x2.val, by omega⟩ : S8x4096x2048.Idx) := by
      blk_ext [idx t]
    rw [he]
    obtain rfl : x0 = 0 := Subsingleton.elim (α := Fin 1) _ _
    exact gate_point m c t 1024 _ x1 x2 _ rfl
  · idx_vars x
    have he : ((View.whole main_v16_0).slice (win0_11.rect t)).emb y =
        (ix3 ⟨t.val % 8, by omega⟩ ⟨t.val / 8 * 512 + x1.val, by have := tile_lt t; omega⟩ ⟨512 + x2.val, by omega⟩ : S8x4096x2048.Idx) := by
      blk_ext [idx t]
    rw [he]
    obtain rfl : x0 = 0 := Subsingleton.elim (α := Fin 1) _ _
    exact gate_point m c t 512 _ x1 x2 _ rfl
  · idx_vars x
    have he : ((View.whole main_v16_0).slice (win0_11.rect t)).emb y =
        (ix3 ⟨t.val % 8, by omega⟩ ⟨t.val / 8 * 512 + x1.val, by have := tile_lt t; omega⟩ ⟨0 + x2.val, by omega⟩ : S8x4096x2048.Idx) := by
      blk_ext [idx t]
    rw [he]
    obtain rfl : x0 = 0 := Subsingleton.elim (α := Fin 1) _ _
    exact gate_point m c t 0 _ x1 x2 _ rfl

/-- One entry of the steps. -/
theorem step_point (c : Dev nD) (t : Fin cfg0.N) (r : Fin 512) (l : Fin 128) :
    softplus (dot (fun k => UM m c t (ix2 r k)) (fun k => (iblk m c 7 t : FVec Ideal S1024x128 .bf16) (ix2 k l)) + (iblk m c 10 t : FVec Ideal S1x128 .f32) (ix2 0 l)) =
      REFD m c (ix3 ⟨t.val % 8, by omega⟩ ⟨t.val / 8 * 512 + r.val, by have := tile_lt t; omega⟩ l) := by
  refine Eq.trans ?_ (refT_at _ _).symm
  refine congrArg softplus ?_
  by_cases hl : l.val < 64
  · refine Eq.trans ?_ (refD_in _ _ _ _ l ⟨l.val / 32, by omega⟩ ⟨l.val % 32, by omega⟩ (by show l.val = l.val / 32 * 32 + l.val % 32; omega)).symm
    refine congrArg₂ (· + ·) (dotm_at m c t r _ rfl _ _ fun k => rd7_in m c t k l _ hl rfl) ?_
    exact rd10_in m c t l _ _ (by show l.val = l.val / 32 * 32 + l.val % 32; omega)
  · refine Eq.trans ?_ (refD_out _ _ _ _ l (by omega)).symm
    refine (congrArg₂ (· + ·) (Finset.sum_eq_zero fun k _ => ?_) (rd10_out m c t l hl)).trans (add_zero _)
    exact (congrArg (fun w => UM m c t (ix2 r k) * w) (rd7_out m c t k l hl)).trans (mul_zero _)

set_option maxHeartbeats 1600000 in
/-- THE THIRD RESULT ARRAY after the kernel's run is the reference's steps of the same arguments. -/
theorem final_step (c : Dev nD) : (dats m 0 c).arrAt 13 (cfgs 0).N = REFD m c := by
  refine (dats m 0 c).arrAt_eq_of_covers 13 _ (by decide +kernel) fun t _ y => ?_
  blk_simp
  rw [after0_13]
  unfold outsAt0
  frame_out
  idx_vars y
  have he : ((View.whole main_v16_2).slice (win0_13.rect t)).emb (ix3 y0 y1 y2) =
      (ix3 ⟨t.val % 8, by omega⟩ ⟨t.val / 8 * 512 + y1.val, by have := tile_lt t; omega⟩ y2 : S8x4096x128.Idx) := by
    blk_ext [idx t]
  rw [he]
  obtain rfl : y0 = 0 := Subsingleton.elim (α := Fin 1) _ _
  exact (dt_at _ _ _ y1 y2).trans (step_point m c t y1 y2)

end Cert.Proof.Inproj

end
-- ==== Proof.Inproj.Tap.lean ====
module

public import proofs.«01_k».proof.Proof.Inproj.Point

@[expose] public section

set_option maxRecDepth 16384

noncomputable section

namespace Cert.Proof.Inproj

open Idealize.ShloMosaic Idealize.ShloMosaic.TcCoe Idealize.SL.Sem
open Idealize.ShloMosaic.Pipeline (Dat)
open Cert.Kernel2Ideal Cert.Kernel2Ideal.Gen

variable (m : (ℓ : Loc nD τ sig) → Buf (Elt Ideal) ℓ)

/-- The products of a grid point's 528 rows with the chunk of 512 columns at offset `o` of the scan's columns. -/
abbrev XX (c : Dev nD) (t : Fin cfg0.N) (o : Nat) (inb : ∀ a : Fin S1024x3072.rank, ![0, o] a + ![1024, 512] a ≤ S1024x3072.size a) : FVec Ideal S528x512 .f32 :=
  k0_pay4 (F := Ideal) (UU m c t) (View.ld (iblk m c 6 t) (Rect.unit (s := S1024x3072) ![0, o] ![1024, 512] inb))

/-- They are the reference's projection. -/
theorem xx_at (c : Dev nD) (t : Fin cfg0.N) (o : Nat) (inb) (l : Fin 512) (d : Fin 3072) (hd : d.val = o + l.val) (e : Fin 528) (row : Fin 4096)
    (h : row.val + 8 = t.val / 8 * 512 + e.val) :
    XX m c t o inb (ix2 e l) = PROJ m c (ix3 ⟨t.val % 8, by omega⟩ row ⟨2048 + d.val, by omega⟩) := by
  refine (pay4_at _ _ e l).trans (dot_at m c t e row h _ _ fun k => ?_)
  refine Eq.trans (congrArg (iblk m c 6 t) (?_ : _ = ix2 k d)) (rd6 m c t k d _ rfl)
  refine funext (Fin.forall_fin_succ.mpr ⟨Fin.ext ?_, Fin.forall_fin_succ.mpr ⟨Fin.ext ?_, fun a => a.elim0⟩⟩)
  · show 0 + 1 * k.val = k.val; omega
  · show o + 1 * l.val = d.val; omega

/-- The convolution's bias as a slab of 128 columns at offset `o` reads it. -/
theorem bias_ld (c : Dev nD) (t : Fin cfg0.N) (o : Nat) (inb : ∀ a : Fin S1x3072.rank, ![0, o] a + ![1, 128] a ≤ S1x3072.size a) (l : Fin 128) (d : Fin 3072) (hd : d.val = o + l.val) :
    (View.ld (iblk m c 9 t) (Rect.unit (s := S1x3072) ![0, o] ![1, 128] inb) : FVec Ideal S1x128 .f32) (ix2 0 l) =
      (m ((c.tc : Thread nD τ).loc main_arg5) : FVec Ideal S1x3072 .f32) (ix2 0 d) := by
  refine Eq.trans (congrArg (iblk m c 9 t) (?_ : _ = ix2 0 d)) (rd9 m c t d d rfl)
  refine funext (Fin.forall_fin_succ.mpr ⟨Fin.ext ?_, Fin.forall_fin_succ.mpr ⟨Fin.ext ?_, fun a => a.elim0⟩⟩)
  · show 0 + 1 * 0 = 0; omega
  · show o + 1 * l.val = d.val; omega

/-- Tap `k`'s weights likewise. -/
theorem tap_ld (c : Dev nD) (t : Fin cfg0.N) (k : Nat) (o : Nat) (inb : ∀ a : Fin S4x3072.rank, ![k, o] a + ![1, 128] a ≤ S4x3072.size a) (hk : k < 4) (l : Fin 128) (d : Fin 3072) (hd : d.val = o + l.val) :
    (View.ld (iblk m c 8 t) (Rect.unit (s := S4x3072) ![k, o] ![1, 128] inb) : FVec Ideal S1x128 .f32) (ix2 0 l) =
      (m ((c.tc : Thread nD τ).loc main_arg4) : FVec Ideal S1x4x3072 .f32) (ix3 0 ⟨k, hk⟩ d) := by
  refine Eq.trans (congrArg (iblk m c 8 t) (?_ : _ = ix2 ⟨k, hk⟩ d)) (rd8 m c t ⟨k, hk⟩ d d rfl)
  refine funext (Fin.forall_fin_succ.mpr ⟨Fin.ext ?_, Fin.forall_fin_succ.mpr ⟨Fin.ext ?_, fun a => a.elim0⟩⟩)
  · show k + 1 * 0 = k; omega
  · show o + 1 * l.val = d.val; omega

/-- One entry of a slab of 128 columns: if its taps read the products' slab, its convolution is the reference's. -/
theorem conv_tile (c : Dev nD) (t : Fin cfg0.N) (o C : Nat) (inb) (r : Fin 512) (l : Fin 128) (k : Fin 512) (d : Fin 3072)
    (hk : d.val = o + k.val) (hd : d.val = C + l.val)
    (b w0 : FVec Ideal S1x128 .f32) (x0 : FVec Ideal S1x512x128 .f32) (w1 : FVec Ideal S1x128 .f32) (x1 : FVec Ideal S1x512x128 .f32)
    (w2 : FVec Ideal S1x128 .f32) (x2 : FVec Ideal S1x512x128 .f32) (w3 : FVec Ideal S1x128 .f32) (x3 : FVec Ideal S1x512x128 .f32)
    (i9 : ∀ a : Fin S1x3072.rank, ![0, C] a + ![1, 128] a ≤ S1x3072.size a)
    (i0 : ∀ a : Fin S4x3072.rank, ![0, C] a + ![1, 128] a ≤ S4x3072.size a) (i1 : ∀ a : Fin S4x3072.rank, ![1, C] a + ![1, 128] a ≤ S4x3072.size a)
    (i2 : ∀ a : Fin S4x3072.rank, ![2, C] a + ![1, 128] a ≤ S4x3072.size a) (i3 : ∀ a : Fin S4x3072.rank, ![3, C] a + ![1, 128] a ≤ S4x3072.size a)
    (hb : b = View.ld (iblk m c 9 t) (Rect.unit (s := S1x3072) ![0, C] ![1, 128] i9))
    (hw0 : w0 = View.ld (iblk m c 8 t) (Rect.unit (s := S4x3072) ![0, C] ![1, 128] i0))
    (hw1 : w1 = View.ld (iblk m c 8 t) (Rect.unit (s := S4x3072) ![1, C] ![1, 128] i1))
    (hw2 : w2 = View.ld (iblk m c 8 t) (Rect.unit (s := S4x3072) ![2, C] ![1, 128] i2))
    (hw3 : w3 = View.ld (iblk m c 8 t) (Rect.unit (s := S4x3072) ![3, C] ![1, 128] i3))
    (h0 : x0 (ix3 0 r l) = slab (CL t) (CR t) (fun e => XX m c t o inb (ix2 e k)) ⟨6 + r.val, by omega⟩)
    (h1 : x1 (ix3 0 r l) = slab (CL t) (CR t) (fun e => XX m c t o inb (ix2 e k)) ⟨7 + r.val, by omega⟩)
    (h2 : x2 (ix3 0 r l) = slab (CL t) (CR t) (fun e => XX m c t o inb (ix2 e k)) ⟨8 + r.val, by omega⟩)
    (h3 : x3 (ix3 0 r l) = slab (CL t) (CR t) (fun e => XX m c t o inb (ix2 e k)) ⟨9 + r.val, by omega⟩) :
    convPay b w0 x0 w1 x1 w2 x2 w3 x3 (ix3 0 r l) =
      REFX m c (ix3 ⟨t.val % 8, by omega⟩ ⟨t.val / 8 * 512 + r.val, by have := tile_lt t; omega⟩ d) := by
  refine conv_point m c t r l d _ b w0 x0 w1 x1 w2 x2 w3 x3 h0 h1 h2 h3 ?_ ?_ ?_ ?_ ?_ (fun e row h => xx_at m c t o inb k d hk e row h)
  · rw [hb]; exact bias_ld m c t C i9 l d hd
  · rw [hw0]; exact tap_ld m c t 0 C i0 (by omega) l d hd
  · rw [hw1]; exact tap_ld m c t 1 C i1 (by omega) l d hd
  · rw [hw2]; exact tap_ld m c t 2 C i2 (by omega) l d hd
  · rw [hw3]; exact tap_ld m c t 3 C i3 (by omega) l d hd

end Cert.Proof.Inproj

end
-- ==== Proof.Inproj.Cuts.lean ====
module

public import proofs.«01_k».proof.Proof.Inproj.Body

@[expose] public section

set_option maxRecDepth 16384

noncomputable section

namespace Cert.Proof.Inproj

open Idealize.ShloMosaic Idealize.SL.Sem
open Cert.Kernel2Ideal Cert.Kernel2Ideal.Gen

/-- What a tap reads of slab 0: the products of the step's rows with the slab's columns, with the zeros around the array. -/
theorem slab0 {sig : RefSig} {κ : Kind} {sp : Space} {v : View sig κ sp S24x528x128 .f32} (c c' : BitVec 1) (u : FVec Ideal S528x1024 .bf16)
    (w : FVec Ideal S1024x512 .bf16) (i1 i2 i3) (o : Nat) (i4 : ∀ a : Fin S24x528x128.rank, ![0, o, 0] a + ![1, 512, 128] a ≤ S24x528x128.size a)
    (L : List (View.Piece (Elt Ideal) S24x528x128 .f32)) (ho : o ≤ 16) (r : Fin 512) (l : Fin 128) :
    v.readCov (Val := Elt Ideal) (⟨Rect.unit (s := S24x528x128) ![0, 520, 0] ![1, 8, 128] i1, (k0_pay9 (F := Ideal) u c' w)⟩ ::
      ⟨Rect.unit (s := S24x528x128) ![0, 8, 0] ![1, 512, 128] i2, (k0_pay8 (F := Ideal) u w)⟩ ::
      ⟨Rect.unit (s := S24x528x128) ![0, 0, 0] ![1, 8, 128] i3, (k0_pay7 (F := Ideal) u c w)⟩ :: L)
      (Rect.unit (s := S24x528x128) ![0, o, 0] ![1, 512, 128] i4).toLoadRect (ix3 0 r l) =
        slab c c' (fun e => k0_pay4 (F := Ideal) u w (ix2 e ⟨l.val, by omega⟩)) ⟨o + r.val, by omega⟩ :=
  readSlab 0 _ _ _ c c' (fun e l => k0_pay4 (F := Ideal) u w (ix2 e ⟨l.val, by omega⟩))
    (left0_at c c' (k0_pay4 (F := Ideal) u w)) (mid0_at c c' (k0_pay4 (F := Ideal) u w)) (right0_at c c' (k0_pay4 (F := Ideal) u w)) i1 i2 i3 o i4 L ho r l

/-- What a tap reads of slab 1: the products of the step's rows with the slab's columns, with the zeros around the array. -/
theorem slab1 {sig : RefSig} {κ : Kind} {sp : Space} {v : View sig κ sp S24x528x128 .f32} (c c' : BitVec 1) (u : FVec Ideal S528x1024 .bf16)
    (w : FVec Ideal S1024x512 .bf16) (i1 i2 i3) (o : Nat) (i4 : ∀ a : Fin S24x528x128.rank, ![1, o, 0] a + ![1, 512, 128] a ≤ S24x528x128.size a)
    (L : List (View.Piece (Elt Ideal) S24x528x128 .f32)) (ho : o ≤ 16) (r : Fin 512) (l : Fin 128) :
    v.readCov (Val := Elt Ideal) (⟨Rect.unit (s := S24x528x128) ![1, 520, 0] ![1, 8, 128] i1, (k0_pay14 (F := Ideal) (k0_pay13 (F := Ideal) u c' w))⟩ ::
      ⟨Rect.unit (s := S24x528x128) ![1, 8, 0] ![1, 512, 128] i2, (k0_pay12 (F := Ideal) u w)⟩ ::
      ⟨Rect.unit (s := S24x528x128) ![1, 0, 0] ![1, 8, 128] i3, (k0_pay11 (F := Ideal) u c w)⟩ :: L)
      (Rect.unit (s := S24x528x128) ![1, o, 0] ![1, 512, 128] i4).toLoadRect (ix3 0 r l) =
        slab c c' (fun e => k0_pay4 (F := Ideal) u w (ix2 e ⟨128 + l.val, by omega⟩)) ⟨o + r.val, by omega⟩ :=
  readSlab 1 _ _ _ c c' (fun e l => k0_pay4 (F := Ideal) u w (ix2 e ⟨128 + l.val, by omega⟩))
    (left1_at c c' (k0_pay4 (F := Ideal) u w)) (mid1_at c c' (k0_pay4 (F := Ideal) u w)) (right1_at c c' (k0_pay4 (F := Ideal) u w)) i1 i2 i3 o i4 L ho r l

/-- What a tap reads of slab 2: the products of the step's rows with the slab's columns, with the zeros around the array. -/
theorem slab2 {sig : RefSig} {κ : Kind} {sp : Space} {v : View sig κ sp S24x528x128 .f32} (c c' : BitVec 1) (u : FVec Ideal S528x1024 .bf16)
    (w : FVec Ideal S1024x512 .bf16) (i1 i2 i3) (o : Nat) (i4 : ∀ a : Fin S24x528x128.rank, ![2, o, 0] a + ![1, 512, 128] a ≤ S24x528x128.size a)
    (L : List (View.Piece (Elt Ideal) S24x528x128 .f32)) (ho : o ≤ 16) (r : Fin 512) (l : Fin 128) :
    v.readCov (Val := Elt Ideal) (⟨Rect.unit (s := S24x528x128) ![2, 520, 0] ![1, 8, 128] i1, (k0_pay18 (F := Ideal) c' (k0_pay4 (F := Ideal) u w) (k0_pay5 (F := Ideal)))⟩ ::
      ⟨Rect.unit (s := S24x528x128) ![2, 8, 0] ![1, 512, 128] i2, (k0_pay17 (F := Ideal) (k0_pay4 (F := Ideal) u w))⟩ ::
      ⟨Rect.unit (s := S24x528x128) ![2, 0, 0] ![1, 8, 128] i3, (k0_pay16 (F := Ideal) c (k0_pay4 (F := Ideal) u w) (k0_pay5 (F := Ideal)))⟩ :: L)
      (Rect.unit (s := S24x528x128) ![2, o, 0] ![1, 512, 128] i4).toLoadRect (ix3 0 r l) =
        slab c c' (fun e => k0_pay4 (F := Ideal) u w (ix2 e ⟨256 + l.val, by omega⟩)) ⟨o + r.val, by omega⟩ :=
  readSlab 2 _ _ _ c c' (fun e l => k0_pay4 (F := Ideal) u w (ix2 e ⟨256 + l.val, by omega⟩))
    (left2_at c c' (k0_pay4 (F := Ideal) u w)) (mid2_at c c' (k0_pay4 (F := Ideal) u w)) (right2_at c c' (k0_pay4 (F := Ideal) u w)) i1 i2 i3 o i4 L ho r l

/-- What a tap reads of slab 3: the products of the step's rows with the slab's columns, with the zeros around the array. -/
theorem slab3 {sig : RefSig} {κ : Kind} {sp : Space} {v : View sig κ sp S24x528x128 .f32} (c c' : BitVec 1) (u : FVec Ideal S528x1024 .bf16)
    (w : FVec Ideal S1024x512 .bf16) (i1 i2 i3) (o : Nat) (i4 : ∀ a : Fin S24x528x128.rank, ![3, o, 0] a + ![1, 512, 128] a ≤ S24x528x128.size a)
    (L : List (View.Piece (Elt Ideal) S24x528x128 .f32)) (ho : o ≤ 16) (r : Fin 512) (l : Fin 128) :
    v.readCov (Val := Elt Ideal) (⟨Rect.unit (s := S24x528x128) ![3, 520, 0] ![1, 8, 128] i1, (k0_pay22 (F := Ideal) c' (k0_pay4 (F := Ideal) u w) (k0_pay5 (F := Ideal)))⟩ ::
      ⟨Rect.unit (s := S24x528x128) ![3, 8, 0] ![1, 512, 128] i2, (k0_pay21 (F := Ideal) (k0_pay4 (F := Ideal) u w))⟩ ::
      ⟨Rect.unit (s := S24x528x128) ![3, 0, 0] ![1, 8, 128] i3, (k0_pay20 (F := Ideal) c (k0_pay4 (F := Ideal) u w) (k0_pay5 (F := Ideal)))⟩ :: L)
      (Rect.unit (s := S24x528x128) ![3, o, 0] ![1, 512, 128] i4).toLoadRect (ix3 0 r l) =
        slab c c' (fun e => k0_pay4 (F := Ideal) u w (ix2 e ⟨384 + l.val, by omega⟩)) ⟨o + r.val, by omega⟩ :=
  readSlab 3 _ _ _ c c' (fun e l => k0_pay4 (F := Ideal) u w (ix2 e ⟨384 + l.val, by omega⟩))
    (left3_at c c' (k0_pay4 (F := Ideal) u w)) (mid3_at c c' (k0_pay4 (F := Ideal) u w)) (right3_at c c' (k0_pay4 (F := Ideal) u w)) i1 i2 i3 o i4 L ho r l

/-- What a tap reads of slab 4: the products of the step's rows with the slab's columns, with the zeros around the array. -/
theorem slab4 {sig : RefSig} {κ : Kind} {sp : Space} {v : View sig κ sp S24x528x128 .f32} (c c' : BitVec 1) (u : FVec Ideal S528x1024 .bf16)
    (w : FVec Ideal S1024x512 .bf16) (i1 i2 i3) (o : Nat) (i4 : ∀ a : Fin S24x528x128.rank, ![4, o, 0] a + ![1, 512, 128] a ≤ S24x528x128.size a)
    (L : List (View.Piece (Elt Ideal) S24x528x128 .f32)) (ho : o ≤ 16) (r : Fin 512) (l : Fin 128) :
    v.readCov (Val := Elt Ideal) (⟨Rect.unit (s := S24x528x128) ![4, 520, 0] ![1, 8, 128] i1, (k0_pay41 (F := Ideal) c' (k0_pay36 (F := Ideal) u w))⟩ ::
      ⟨Rect.unit (s := S24x528x128) ![4, 8, 0] ![1, 512, 128] i2, (k0_pay40 (F := Ideal) (k0_pay36 (F := Ideal) u w))⟩ ::
      ⟨Rect.unit (s := S24x528x128) ![4, 0, 0] ![1, 8, 128] i3, (k0_pay39 (F := Ideal) c (k0_pay36 (F := Ideal) u w))⟩ :: L)
      (Rect.unit (s := S24x528x128) ![4, o, 0] ![1, 512, 128] i4).toLoadRect (ix3 0 r l) =
        slab c c' (fun e => k0_pay4 (F := Ideal) u w (ix2 e ⟨l.val, by omega⟩)) ⟨o + r.val, by omega⟩ :=
  readSlab 4 _ _ _ c c' (fun e l => k0_pay4 (F := Ideal) u w (ix2 e ⟨l.val, by omega⟩))
    (left0_at c c' (k0_pay4 (F := Ideal) u w)) (mid0_at c c' (k0_pay4 (F := Ideal) u w)) (right0_at c c' (k0_pay4 (F := Ideal) u w)) i1 i2 i3 o i4 L ho r l

/-- What a tap reads of slab 5: the products of the step's rows with the slab's columns, with the zeros around the array. -/
theorem slab5 {sig : RefSig} {κ : Kind} {sp : Space} {v : View sig κ sp S24x528x128 .f32} (c c' : BitVec 1) (u : FVec Ideal S528x1024 .bf16)
    (w : FVec Ideal S1024x512 .bf16) (i1 i2 i3) (o : Nat) (i4 : ∀ a : Fin S24x528x128.rank, ![5, o, 0] a + ![1, 512, 128] a ≤ S24x528x128.size a)
    (L : List (View.Piece (Elt Ideal) S24x528x128 .f32)) (ho : o ≤ 16) (r : Fin 512) (l : Fin 128) :
    v.readCov (Val := Elt Ideal) (⟨Rect.unit (s := S24x528x128) ![5, 520, 0] ![1, 8, 128] i1, (k0_pay45 (F := Ideal) c' (k0_pay36 (F := Ideal) u w))⟩ ::
      ⟨Rect.unit (s := S24x528x128) ![5, 8, 0] ![1, 512, 128] i2, (k0_pay44 (F := Ideal) (k0_pay36 (F := Ideal) u w))⟩ ::
      ⟨Rect.unit (s := S24x528x128) ![5, 0, 0] ![1, 8, 128] i3, (k0_pay43 (F := Ideal) c (k0_pay36 (F := Ideal) u w))⟩ :: L)
      (Rect.unit (s := S24x528x128) ![5, o, 0] ![1, 512, 128] i4).toLoadRect (ix3 0 r l) =
        slab c c' (fun e => k0_pay4 (F := Ideal) u w (ix2 e ⟨128 + l.val, by omega⟩)) ⟨o + r.val, by omega⟩ :=
  readSlab 5 _ _ _ c c' (fun e l => k0_pay4 (F := Ideal) u w (ix2 e ⟨128 + l.val, by omega⟩))
    (left1_at c c' (k0_pay4 (F := Ideal) u w)) (mid1_at c c' (k0_pay4 (F := Ideal) u w)) (right1_at c c' (k0_pay4 (F := Ideal) u w)) i1 i2 i3 o i4 L ho r l

/-- What a tap reads of slab 6: the products of the step's rows with the slab's columns, with the zeros around the array. -/
theorem slab6 {sig : RefSig} {κ : Kind} {sp : Space} {v : View sig κ sp S24x528x128 .f32} (c c' : BitVec 1) (u : FVec Ideal S528x1024 .bf16)
    (w : FVec Ideal S1024x512 .bf16) (i1 i2 i3) (o : Nat) (i4 : ∀ a : Fin S24x528x128.rank, ![6, o, 0] a + ![1, 512, 128] a ≤ S24x528x128.size a)
    (L : List (View.Piece (Elt Ideal) S24x528x128 .f32)) (ho : o ≤ 16) (r : Fin 512) (l : Fin 128) :
    v.readCov (Val := Elt Ideal) (⟨Rect.unit (s := S24x528x128) ![6, 520, 0] ![1, 8, 128] i1, (k0_pay50 (F := Ideal) c' (k0_pay37 (F := Ideal)) (k0_pay46 (F := Ideal) (k0_pay36 (F := Ideal) u w)))⟩ ::
      ⟨Rect.unit (s := S24x528x128) ![6, 8, 0] ![1, 512, 128] i2, (k0_pay49 (F := Ideal) (k0_pay46 (F := Ideal) (k0_pay36 (F := Ideal) u w)))⟩ ::
      ⟨Rect.unit (s := S24x528x128) ![6, 0, 0] ![1, 8, 128] i3, (k0_pay48 (F := Ideal) (k0_pay47 (F := Ideal) c (k0_pay36 (F := Ideal) u w)))⟩ :: L)
      (Rect.unit (s := S24x528x128) ![6, o, 0] ![1, 512, 128] i4).toLoadRect (ix3 0 r l) =
        slab c c' (fun e => k0_pay4 (F := Ideal) u w (ix2 e ⟨256 + l.val, by omega⟩)) ⟨o + r.val, by omega⟩ :=
  readSlab 6 _ _ _ c c' (fun e l => k0_pay4 (F := Ideal) u w (ix2 e ⟨256 + l.val, by omega⟩))
    (left2_at c c' (k0_pay4 (F := Ideal) u w)) (mid2_at c c' (k0_pay4 (F := Ideal) u w)) (right2_at c c' (k0_pay4 (F := Ideal) u w)) i1 i2 i3 o i4 L ho r l

/-- What a tap reads of slab 7: the products of the step's rows with the slab's columns, with the zeros around the array. -/
theorem slab7 {sig : RefSig} {κ : Kind} {sp : Space} {v : View sig κ sp S24x528x128 .f32} (c c' : BitVec 1) (u : FVec Ideal S528x1024 .bf16)
    (w : FVec Ideal S1024x512 .bf16) (i1 i2 i3) (o : Nat) (i4 : ∀ a : Fin S24x528x128.rank, ![7, o, 0] a + ![1, 512, 128] a ≤ S24x528x128.size a)
    (L : List (View.Piece (Elt Ideal) S24x528x128 .f32)) (ho : o ≤ 16) (r : Fin 512) (l : Fin 128) :
    v.readCov (Val := Elt Ideal) (⟨Rect.unit (s := S24x528x128) ![7, 520, 0] ![1, 8, 128] i1, (k0_pay54 (F := Ideal) c' (k0_pay36 (F := Ideal) u w) (k0_pay37 (F := Ideal)))⟩ ::
      ⟨Rect.unit (s := S24x528x128) ![7, 8, 0] ![1, 512, 128] i2, (k0_pay53 (F := Ideal) (k0_pay36 (F := Ideal) u w))⟩ ::
      ⟨Rect.unit (s := S24x528x128) ![7, 0, 0] ![1, 8, 128] i3, (k0_pay52 (F := Ideal) c (k0_pay36 (F := Ideal) u w) (k0_pay37 (F := Ideal)))⟩ :: L)
      (Rect.unit (s := S24x528x128) ![7, o, 0] ![1, 512, 128] i4).toLoadRect (ix3 0 r l) =
        slab c c' (fun e => k0_pay4 (F := Ideal) u w (ix2 e ⟨384 + l.val, by omega⟩)) ⟨o + r.val, by omega⟩ :=
  readSlab 7 _ _ _ c c' (fun e l => k0_pay4 (F := Ideal) u w (ix2 e ⟨384 + l.val, by omega⟩))
    (left3_at c c' (k0_pay4 (F := Ideal) u w)) (mid3_at c c' (k0_pay4 (F := Ideal) u w)) (right3_at c c' (k0_pay4 (F := Ideal) u w)) i1 i2 i3 o i4 L ho r l

/-- What a tap reads of slab 8: the products of the step's rows with the slab's columns, with the zeros around the array. -/
theorem slab8 {sig : RefSig} {κ : Kind} {sp : Space} {v : View sig κ sp S24x528x128 .f32} (c c' : BitVec 1) (u : FVec Ideal S528x1024 .bf16)
    (w : FVec Ideal S1024x512 .bf16) (i1 i2 i3) (o : Nat) (i4 : ∀ a : Fin S24x528x128.rank, ![8, o, 0] a + ![1, 512, 128] a ≤ S24x528x128.size a)
    (L : List (View.Piece (Elt Ideal) S24x528x128 .f32)) (ho : o ≤ 16) (r : Fin 512) (l : Fin 128) :
    v.readCov (Val := Elt Ideal) (⟨Rect.unit (s := S24x528x128) ![8, 520, 0] ![1, 8, 128] i1, (k0_pay72 (F := Ideal) c' (k0_pay67 (F := Ideal)) (k0_pay68 (F := Ideal) u w))⟩ ::
      ⟨Rect.unit (s := S24x528x128) ![8, 8, 0] ![1, 512, 128] i2, (k0_pay71 (F := Ideal) (k0_pay68 (F := Ideal) u w))⟩ ::
      ⟨Rect.unit (s := S24x528x128) ![8, 0, 0] ![1, 8, 128] i3, (k0_pay70 (F := Ideal) (k0_pay69 (F := Ideal) u c w))⟩ :: L)
      (Rect.unit (s := S24x528x128) ![8, o, 0] ![1, 512, 128] i4).toLoadRect (ix3 0 r l) =
        slab c c' (fun e => k0_pay4 (F := Ideal) u w (ix2 e ⟨l.val, by omega⟩)) ⟨o + r.val, by omega⟩ :=
  readSlab 8 _ _ _ c c' (fun e l => k0_pay4 (F := Ideal) u w (ix2 e ⟨l.val, by omega⟩))
    (left0_at c c' (k0_pay4 (F := Ideal) u w)) (mid0_at c c' (k0_pay4 (F := Ideal) u w)) (right0_at c c' (k0_pay4 (F := Ideal) u w)) i1 i2 i3 o i4 L ho r l

/-- What a tap reads of slab 9: the products of the step's rows with the slab's columns, with the zeros around the array. -/
theorem slab9 {sig : RefSig} {κ : Kind} {sp : Space} {v : View sig κ sp S24x528x128 .f32} (c c' : BitVec 1) (u : FVec Ideal S528x1024 .bf16)
    (w : FVec Ideal S1024x512 .bf16) (i1 i2 i3) (o : Nat) (i4 : ∀ a : Fin S24x528x128.rank, ![9, o, 0] a + ![1, 512, 128] a ≤ S24x528x128.size a)
    (L : List (View.Piece (Elt Ideal) S24x528x128 .f32)) (ho : o ≤ 16) (r : Fin 512) (l : Fin 128) :
    v.readCov (Val := Elt Ideal) (⟨Rect.unit (s := S24x528x128) ![9, 520, 0] ![1, 8, 128] i1, (k0_pay76 (F := Ideal) c' (k0_pay66 (F := Ideal) u w) (k0_pay67 (F := Ideal)))⟩ ::
      ⟨Rect.unit (s := S24x528x128) ![9, 8, 0] ![1, 512, 128] i2, (k0_pay75 (F := Ideal) (k0_pay66 (F := Ideal) u w))⟩ ::
      ⟨Rect.unit (s := S24x528x128) ![9, 0, 0] ![1, 8, 128] i3, (k0_pay74 (F := Ideal) c (k0_pay66 (F := Ideal) u w) (k0_pay67 (F := Ideal)))⟩ :: L)
      (Rect.unit (s := S24x528x128) ![9, o, 0] ![1, 512, 128] i4).toLoadRect (ix3 0 r l) =
        slab c c' (fun e => k0_pay4 (F := Ideal) u w (ix2 e ⟨128 + l.val, by omega⟩)) ⟨o + r.val, by omega⟩ :=
  readSlab 9 _ _ _ c c' (fun e l => k0_pay4 (F := Ideal) u w (ix2 e ⟨128 + l.val, by omega⟩))
    (left1_at c c' (k0_pay4 (F := Ideal) u w)) (mid1_at c c' (k0_pay4 (F := Ideal) u w)) (right1_at c c' (k0_pay4 (F := Ideal) u w)) i1 i2 i3 o i4 L ho r l

/-- What a tap reads of slab 10: the products of the step's rows with the slab's columns, with the zeros around the array. -/
theorem slab10 {sig : RefSig} {κ : Kind} {sp : Space} {v : View sig κ sp S24x528x128 .f32} (c c' : BitVec 1) (u : FVec Ideal S528x1024 .bf16)
    (w : FVec Ideal S1024x512 .bf16) (i1 i2 i3) (o : Nat) (i4 : ∀ a : Fin S24x528x128.rank, ![10, o, 0] a + ![1, 512, 128] a ≤ S24x528x128.size a)
    (L : List (View.Piece (Elt Ideal) S24x528x128 .f32)) (ho : o ≤ 16) (r : Fin 512) (l : Fin 128) :
    v.readCov (Val := Elt Ideal) (⟨Rect.unit (s := S24x528x128) ![10, 520, 0] ![1, 8, 128] i1, (k0_pay80 (F := Ideal) c' (k0_pay67 (F := Ideal)) (k0_pay77 (F := Ideal) (k0_pay66 (F := Ideal) u w)))⟩ ::
      ⟨Rect.unit (s := S24x528x128) ![10, 8, 0] ![1, 512, 128] i2, (k0_pay79 (F := Ideal) (k0_pay77 (F := Ideal) (k0_pay66 (F := Ideal) u w)))⟩ ::
      ⟨Rect.unit (s := S24x528x128) ![10, 0, 0] ![1, 8, 128] i3, (k0_pay78 (F := Ideal) c (k0_pay66 (F := Ideal) u w) (k0_pay67 (F := Ideal)))⟩ :: L)
      (Rect.unit (s := S24x528x128) ![10, o, 0] ![1, 512, 128] i4).toLoadRect (ix3 0 r l) =
        slab c c' (fun e => k0_pay4 (F := Ideal) u w (ix2 e ⟨256 + l.val, by omega⟩)) ⟨o + r.val, by omega⟩ :=
  readSlab 10 _ _ _ c c' (fun e l => k0_pay4 (F := Ideal) u w (ix2 e ⟨256 + l.val, by omega⟩))
    (left2_at c c' (k0_pay4 (F := Ideal) u w)) (mid2_at c c' (k0_pay4 (F := Ideal) u w)) (right2_at c c' (k0_pay4 (F := Ideal) u w)) i1 i2 i3 o i4 L ho r l

/-- What a tap reads of slab 11: the products of the step's rows with the slab's columns, with the zeros around the array. -/
theorem slab11 {sig : RefSig} {κ : Kind} {sp : Space} {v : View sig κ sp S24x528x128 .f32} (c c' : BitVec 1) (u : FVec Ideal S528x1024 .bf16)
    (w : FVec Ideal S1024x512 .bf16) (i1 i2 i3) (o : Nat) (i4 : ∀ a : Fin S24x528x128.rank, ![11, o, 0] a + ![1, 512, 128] a ≤ S24x528x128.size a)
    (L : List (View.Piece (Elt Ideal) S24x528x128 .f32)) (ho : o ≤ 16) (r : Fin 512) (l : Fin 128) :
    v.readCov (Val := Elt Ideal) (⟨Rect.unit (s := S24x528x128) ![11, 520, 0] ![1, 8, 128] i1, (k0_pay84 (F := Ideal) c' (k0_pay66 (F := Ideal) u w) (k0_pay67 (F := Ideal)))⟩ ::
      ⟨Rect.unit (s := S24x528x128) ![11, 8, 0] ![1, 512, 128] i2, (k0_pay83 (F := Ideal) (k0_pay66 (F := Ideal) u w))⟩ ::
      ⟨Rect.unit (s := S24x528x128) ![11, 0, 0] ![1, 8, 128] i3, (k0_pay82 (F := Ideal) c (k0_pay66 (F := Ideal) u w) (k0_pay67 (F := Ideal)))⟩ :: L)
      (Rect.unit (s := S24x528x128) ![11, o, 0] ![1, 512, 128] i4).toLoadRect (ix3 0 r l) =
        slab c c' (fun e => k0_pay4 (F := Ideal) u w (ix2 e ⟨384 + l.val, by omega⟩)) ⟨o + r.val, by omega⟩ :=
  readSlab 11 _ _ _ c c' (fun e l => k0_pay4 (F := Ideal) u w (ix2 e ⟨384 + l.val, by omega⟩))
    (left3_at c c' (k0_pay4 (F := Ideal) u w)) (mid3_at c c' (k0_pay4 (F := Ideal) u w)) (right3_at c c' (k0_pay4 (F := Ideal) u w)) i1 i2 i3 o i4 L ho r l

/-- What a tap reads of slab 12: the products of the step's rows with the slab's columns, with the zeros around the array. -/
theorem slab12 {sig : RefSig} {κ : Kind} {sp : Space} {v : View sig κ sp S24x528x128 .f32} (c c' : BitVec 1) (u : FVec Ideal S528x1024 .bf16)
    (w : FVec Ideal S1024x512 .bf16) (i1 i2 i3) (o : Nat) (i4 : ∀ a : Fin S24x528x128.rank, ![12, o, 0] a + ![1, 512, 128] a ≤ S24x528x128.size a)
    (L : List (View.Piece (Elt Ideal) S24x528x128 .f32)) (ho : o ≤ 16) (r : Fin 512) (l : Fin 128) :
    v.readCov (Val := Elt Ideal) (⟨Rect.unit (s := S24x528x128) ![12, 520, 0] ![1, 8, 128] i1, (k0_pay103 (F := Ideal) c' (k0_pay99 (F := Ideal)) (k0_pay100 (F := Ideal) u w))⟩ ::
      ⟨Rect.unit (s := S24x528x128) ![12, 8, 0] ![1, 512, 128] i2, (k0_pay102 (F := Ideal) (k0_pay100 (F := Ideal) u w))⟩ ::
      ⟨Rect.unit (s := S24x528x128) ![12, 0, 0] ![1, 8, 128] i3, (k0_pay101 (F := Ideal) u c w)⟩ :: L)
      (Rect.unit (s := S24x528x128) ![12, o, 0] ![1, 512, 128] i4).toLoadRect (ix3 0 r l) =
        slab c c' (fun e => k0_pay4 (F := Ideal) u w (ix2 e ⟨l.val, by omega⟩)) ⟨o + r.val, by omega⟩ :=
  readSlab 12 _ _ _ c c' (fun e l => k0_pay4 (F := Ideal) u w (ix2 e ⟨l.val, by omega⟩))
    (left0_at c c' (k0_pay4 (F := Ideal) u w)) (mid0_at c c' (k0_pay4 (F := Ideal) u w)) (right0_at c c' (k0_pay4 (F := Ideal) u w)) i1 i2 i3 o i4 L ho r l

/-- What a tap reads of slab 13: the products of the step's rows with the slab's columns, with the zeros around the array. -/
theorem slab13 {sig : RefSig} {κ : Kind} {sp : Space} {v : View sig κ sp S24x528x128 .f32} (c c' : BitVec 1) (u : FVec Ideal S528x1024 .bf16)
    (w : FVec Ideal S1024x512 .bf16) (i1 i2 i3) (o : Nat) (i4 : ∀ a : Fin S24x528x128.rank, ![13, o, 0] a + ![1, 512, 128] a ≤ S24x528x128.size a)
    (L : List (View.Piece (Elt Ideal) S24x528x128 .f32)) (ho : o ≤ 16) (r : Fin 512) (l : Fin 128) :
    v.readCov (Val := Elt Ideal) (⟨Rect.unit (s := S24x528x128) ![13, 520, 0] ![1, 8, 128] i1, (k0_pay107 (F := Ideal) c' (k0_pay98 (F := Ideal) u w) (k0_pay99 (F := Ideal)))⟩ ::
      ⟨Rect.unit (s := S24x528x128) ![13, 8, 0] ![1, 512, 128] i2, (k0_pay106 (F := Ideal) (k0_pay98 (F := Ideal) u w))⟩ ::
      ⟨Rect.unit (s := S24x528x128) ![13, 0, 0] ![1, 8, 128] i3, (k0_pay105 (F := Ideal) c (k0_pay98 (F := Ideal) u w) (k0_pay99 (F := Ideal)))⟩ :: L)
      (Rect.unit (s := S24x528x128) ![13, o, 0] ![1, 512, 128] i4).toLoadRect (ix3 0 r l) =
        slab c c' (fun e => k0_pay4 (F := Ideal) u w (ix2 e ⟨128 + l.val, by omega⟩)) ⟨o + r.val, by omega⟩ :=
  readSlab 13 _ _ _ c c' (fun e l => k0_pay4 (F := Ideal) u w (ix2 e ⟨128 + l.val, by omega⟩))
    (left1_at c c' (k0_pay4 (F := Ideal) u w)) (mid1_at c c' (k0_pay4 (F := Ideal) u w)) (right1_at c c' (k0_pay4 (F := Ideal) u w)) i1 i2 i3 o i4 L ho r l

/-- What a tap reads of slab 14: the products of the step's rows with the slab's columns, with the zeros around the array. -/
theorem slab14 {sig : RefSig} {κ : Kind} {sp : Space} {v : View sig κ sp S24x528x128 .f32} (c c' : BitVec 1) (u : FVec Ideal S528x1024 .bf16)
    (w : FVec Ideal S1024x512 .bf16) (i1 i2 i3) (o : Nat) (i4 : ∀ a : Fin S24x528x128.rank, ![14, o, 0] a + ![1, 512, 128] a ≤ S24x528x128.size a)
    (L : List (View.Piece (Elt Ideal) S24x528x128 .f32)) (ho : o ≤ 16) (r : Fin 512) (l : Fin 128) :
    v.readCov (Val := Elt Ideal) (⟨Rect.unit (s := S24x528x128) ![14, 520, 0] ![1, 8, 128] i1, (k0_pay112 (F := Ideal) c' (k0_pay99 (F := Ideal)) (k0_pay108 (F := Ideal) (k0_pay98 (F := Ideal) u w)))⟩ ::
      ⟨Rect.unit (s := S24x528x128) ![14, 8, 0] ![1, 512, 128] i2, (k0_pay111 (F := Ideal) (k0_pay110 (F := Ideal) (k0_pay98 (F := Ideal) u w)))⟩ ::
      ⟨Rect.unit (s := S24x528x128) ![14, 0, 0] ![1, 8, 128] i3, (k0_pay109 (F := Ideal) c (k0_pay98 (F := Ideal) u w) (k0_pay99 (F := Ideal)))⟩ :: L)
      (Rect.unit (s := S24x528x128) ![14, o, 0] ![1, 512, 128] i4).toLoadRect (ix3 0 r l) =
        slab c c' (fun e => k0_pay4 (F := Ideal) u w (ix2 e ⟨256 + l.val, by omega⟩)) ⟨o + r.val, by omega⟩ :=
  readSlab 14 _ _ _ c c' (fun e l => k0_pay4 (F := Ideal) u w (ix2 e ⟨256 + l.val, by omega⟩))
    (left2_at c c' (k0_pay4 (F := Ideal) u w)) (mid2_at c c' (k0_pay4 (F := Ideal) u w)) (right2_at c c' (k0_pay4 (F := Ideal) u w)) i1 i2 i3 o i4 L ho r l

/-- What a tap reads of slab 15: the products of the step's rows with the slab's columns, with the zeros around the array. -/
theorem slab15 {sig : RefSig} {κ : Kind} {sp : Space} {v : View sig κ sp S24x528x128 .f32} (c c' : BitVec 1) (u : FVec Ideal S528x1024 .bf16)
    (w : FVec Ideal S1024x512 .bf16) (i1 i2 i3) (o : Nat) (i4 : ∀ a : Fin S24x528x128.rank, ![15, o, 0] a + ![1, 512, 128] a ≤ S24x528x128.size a)
    (L : List (View.Piece (Elt Ideal) S24x528x128 .f32)) (ho : o ≤ 16) (r : Fin 512) (l : Fin 128) :
    v.readCov (Val := Elt Ideal) (⟨Rect.unit (s := S24x528x128) ![15, 520, 0] ![1, 8, 128] i1, (k0_pay116 (F := Ideal) c' (k0_pay98 (F := Ideal) u w) (k0_pay99 (F := Ideal)))⟩ ::
      ⟨Rect.unit (s := S24x528x128) ![15, 8, 0] ![1, 512, 128] i2, (k0_pay115 (F := Ideal) (k0_pay98 (F := Ideal) u w))⟩ ::
      ⟨Rect.unit (s := S24x528x128) ![15, 0, 0] ![1, 8, 128] i3, (k0_pay114 (F := Ideal) c (k0_pay98 (F := Ideal) u w) (k0_pay99 (F := Ideal)))⟩ :: L)
      (Rect.unit (s := S24x528x128) ![15, o, 0] ![1, 512, 128] i4).toLoadRect (ix3 0 r l) =
        slab c c' (fun e => k0_pay4 (F := Ideal) u w (ix2 e ⟨384 + l.val, by omega⟩)) ⟨o + r.val, by omega⟩ :=
  readSlab 15 _ _ _ c c' (fun e l => k0_pay4 (F := Ideal) u w (ix2 e ⟨384 + l.val, by omega⟩))
    (left3_at c c' (k0_pay4 (F := Ideal) u w)) (mid3_at c c' (k0_pay4 (F := Ideal) u w)) (right3_at c c' (k0_pay4 (F := Ideal) u w)) i1 i2 i3 o i4 L ho r l

/-- What a tap reads of slab 16: the products of the step's rows with the slab's columns, with the zeros around the array. -/
theorem slab16 {sig : RefSig} {κ : Kind} {sp : Space} {v : View sig κ sp S24x528x128 .f32} (c c' : BitVec 1) (u : FVec Ideal S528x1024 .bf16)
    (w : FVec Ideal S1024x512 .bf16) (i1 i2 i3) (o : Nat) (i4 : ∀ a : Fin S24x528x128.rank, ![16, o, 0] a + ![1, 512, 128] a ≤ S24x528x128.size a)
    (L : List (View.Piece (Elt Ideal) S24x528x128 .f32)) (ho : o ≤ 16) (r : Fin 512) (l : Fin 128) :
    v.readCov (Val := Elt Ideal) (⟨Rect.unit (s := S24x528x128) ![16, 520, 0] ![1, 8, 128] i1, (k0_pay137 (F := Ideal) c' (k0_pay132 (F := Ideal)) (k0_pay133 (F := Ideal) u w))⟩ ::
      ⟨Rect.unit (s := S24x528x128) ![16, 8, 0] ![1, 512, 128] i2, (k0_pay136 (F := Ideal) (k0_pay135 (F := Ideal) u w))⟩ ::
      ⟨Rect.unit (s := S24x528x128) ![16, 0, 0] ![1, 8, 128] i3, (k0_pay134 (F := Ideal) u c w)⟩ :: L)
      (Rect.unit (s := S24x528x128) ![16, o, 0] ![1, 512, 128] i4).toLoadRect (ix3 0 r l) =
        slab c c' (fun e => k0_pay4 (F := Ideal) u w (ix2 e ⟨l.val, by omega⟩)) ⟨o + r.val, by omega⟩ :=
  readSlab 16 _ _ _ c c' (fun e l => k0_pay4 (F := Ideal) u w (ix2 e ⟨l.val, by omega⟩))
    (left0_at c c' (k0_pay4 (F := Ideal) u w)) (mid0_at c c' (k0_pay4 (F := Ideal) u w)) (right0_at c c' (k0_pay4 (F := Ideal) u w)) i1 i2 i3 o i4 L ho r l

/-- What a tap reads of slab 17: the products of the step's rows with the slab's columns, with the zeros around the array. -/
theorem slab17 {sig : RefSig} {κ : Kind} {sp : Space} {v : View sig κ sp S24x528x128 .f32} (c c' : BitVec 1) (u : FVec Ideal S528x1024 .bf16)
    (w : FVec Ideal S1024x512 .bf16) (i1 i2 i3) (o : Nat) (i4 : ∀ a : Fin S24x528x128.rank, ![17, o, 0] a + ![1, 512, 128] a ≤ S24x528x128.size a)
    (L : List (View.Piece (Elt Ideal) S24x528x128 .f32)) (ho : o ≤ 16) (r : Fin 512) (l : Fin 128) :
    v.readCov (Val := Elt Ideal) (⟨Rect.unit (s := S24x528x128) ![17, 520, 0] ![1, 8, 128] i1, (k0_pay141 (F := Ideal) c' (k0_pay131 (F := Ideal) u w) (k0_pay132 (F := Ideal)))⟩ ::
      ⟨Rect.unit (s := S24x528x128) ![17, 8, 0] ![1, 512, 128] i2, (k0_pay140 (F := Ideal) (k0_pay131 (F := Ideal) u w))⟩ ::
      ⟨Rect.unit (s := S24x528x128) ![17, 0, 0] ![1, 8, 128] i3, (k0_pay139 (F := Ideal) c (k0_pay131 (F := Ideal) u w) (k0_pay132 (F := Ideal)))⟩ :: L)
      (Rect.unit (s := S24x528x128) ![17, o, 0] ![1, 512, 128] i4).toLoadRect (ix3 0 r l) =
        slab c c' (fun e => k0_pay4 (F := Ideal) u w (ix2 e ⟨128 + l.val, by omega⟩)) ⟨o + r.val, by omega⟩ :=
  readSlab 17 _ _ _ c c' (fun e l => k0_pay4 (F := Ideal) u w (ix2 e ⟨128 + l.val, by omega⟩))
    (left1_at c c' (k0_pay4 (F := Ideal) u w)) (mid1_at c c' (k0_pay4 (F := Ideal) u w)) (right1_at c c' (k0_pay4 (F := Ideal) u w)) i1 i2 i3 o i4 L ho r l

/-- What a tap reads of slab 18: the products of the step's rows with the slab's columns, with the zeros around the array. -/
theorem slab18 {sig : RefSig} {κ : Kind} {sp : Space} {v : View sig κ sp S24x528x128 .f32} (c c' : BitVec 1) (u : FVec Ideal S528x1024 .bf16)
    (w : FVec Ideal S1024x512 .bf16) (i1 i2 i3) (o : Nat) (i4 : ∀ a : Fin S24x528x128.rank, ![18, o, 0] a + ![1, 512, 128] a ≤ S24x528x128.size a)
    (L : List (View.Piece (Elt Ideal) S24x528x128 .f32)) (ho : o ≤ 16) (r : Fin 512) (l : Fin 128) :
    v.readCov (Val := Elt Ideal) (⟨Rect.unit (s := S24x528x128) ![18, 520, 0] ![1, 8, 128] i1, (k0_pay146 (F := Ideal) (k0_pay145 (F := Ideal) c' (k0_pay131 (F := Ideal) u w) (k0_pay132 (F := Ideal))))⟩ ::
      ⟨Rect.unit (s := S24x528x128) ![18, 8, 0] ![1, 512, 128] i2, (k0_pay144 (F := Ideal) (k0_pay131 (F := Ideal) u w))⟩ ::
      ⟨Rect.unit (s := S24x528x128) ![18, 0, 0] ![1, 8, 128] i3, (k0_pay143 (F := Ideal) c (k0_pay131 (F := Ideal) u w) (k0_pay132 (F := Ideal)))⟩ :: L)
      (Rect.unit (s := S24x528x128) ![18, o, 0] ![1, 512, 128] i4).toLoadRect (ix3 0 r l) =
        slab c c' (fun e => k0_pay4 (F := Ideal) u w (ix2 e ⟨256 + l.val, by omega⟩)) ⟨o + r.val, by omega⟩ :=
  readSlab 18 _ _ _ c c' (fun e l => k0_pay4 (F := Ideal) u w (ix2 e ⟨256 + l.val, by omega⟩))
    (left2_at c c' (k0_pay4 (F := Ideal) u w)) (mid2_at c c' (k0_pay4 (F := Ideal) u w)) (right2_at c c' (k0_pay4 (F := Ideal) u w)) i1 i2 i3 o i4 L ho r l

/-- What a tap reads of slab 19: the products of the step's rows with the slab's columns, with the zeros around the array. -/
theorem slab19 {sig : RefSig} {κ : Kind} {sp : Space} {v : View sig κ sp S24x528x128 .f32} (c c' : BitVec 1) (u : FVec Ideal S528x1024 .bf16)
    (w : FVec Ideal S1024x512 .bf16) (i1 i2 i3) (o : Nat) (i4 : ∀ a : Fin S24x528x128.rank, ![19, o, 0] a + ![1, 512, 128] a ≤ S24x528x128.size a)
    (L : List (View.Piece (Elt Ideal) S24x528x128 .f32)) (ho : o ≤ 16) (r : Fin 512) (l : Fin 128) :
    v.readCov (Val := Elt Ideal) (⟨Rect.unit (s := S24x528x128) ![19, 520, 0] ![1, 8, 128] i1, (k0_pay150 (F := Ideal) c' (k0_pay131 (F := Ideal) u w) (k0_pay132 (F := Ideal)))⟩ ::
      ⟨Rect.unit (s := S24x528x128) ![19, 8, 0] ![1, 512, 128] i2, (k0_pay149 (F := Ideal) (k0_pay131 (F := Ideal) u w))⟩ ::
      ⟨Rect.unit (s := S24x528x128) ![19, 0, 0] ![1, 8, 128] i3, (k0_pay148 (F := Ideal) c (k0_pay131 (F := Ideal) u w) (k0_pay132 (F := Ideal)))⟩ :: L)
      (Rect.unit (s := S24x528x128) ![19, o, 0] ![1, 512, 128] i4).toLoadRect (ix3 0 r l) =
        slab c c' (fun e => k0_pay4 (F := Ideal) u w (ix2 e ⟨384 + l.val, by omega⟩)) ⟨o + r.val, by omega⟩ :=
  readSlab 19 _ _ _ c c' (fun e l => k0_pay4 (F := Ideal) u w (ix2 e ⟨384 + l.val, by omega⟩))
    (left3_at c c' (k0_pay4 (F := Ideal) u w)) (mid3_at c c' (k0_pay4 (F := Ideal) u w)) (right3_at c c' (k0_pay4 (F := Ideal) u w)) i1 i2 i3 o i4 L ho r l

/-- What a tap reads of slab 20: the products of the step's rows with the slab's columns, with the zeros around the array. -/
theorem slab20 {sig : RefSig} {κ : Kind} {sp : Space} {v : View sig κ sp S24x528x128 .f32} (c c' : BitVec 1) (u : FVec Ideal S528x1024 .bf16)
    (w : FVec Ideal S1024x512 .bf16) (i1 i2 i3) (o : Nat) (i4 : ∀ a : Fin S24x528x128.rank, ![20, o, 0] a + ![1, 512, 128] a ≤ S24x528x128.size a)
    (L : List (View.Piece (Elt Ideal) S24x528x128 .f32)) (ho : o ≤ 16) (r : Fin 512) (l : Fin 128) :
    v.readCov (Val := Elt Ideal) (⟨Rect.unit (s := S24x528x128) ![20, 520, 0] ![1, 8, 128] i1, (k0_pay166 (F := Ideal) u c' w)⟩ ::
      ⟨Rect.unit (s := S24x528x128) ![20, 8, 0] ![1, 512, 128] i2, (k0_pay165 (F := Ideal) u w)⟩ ::
      ⟨Rect.unit (s := S24x528x128) ![20, 0, 0] ![1, 8, 128] i3, (k0_pay164 (F := Ideal) u c w)⟩ :: L)
      (Rect.unit (s := S24x528x128) ![20, o, 0] ![1, 512, 128] i4).toLoadRect (ix3 0 r l) =
        slab c c' (fun e => k0_pay4 (F := Ideal) u w (ix2 e ⟨l.val, by omega⟩)) ⟨o + r.val, by omega⟩ :=
  readSlab 20 _ _ _ c c' (fun e l => k0_pay4 (F := Ideal) u w (ix2 e ⟨l.val, by omega⟩))
    (left0_at c c' (k0_pay4 (F := Ideal) u w)) (mid0_at c c' (k0_pay4 (F := Ideal) u w)) (right0_at c c' (k0_pay4 (F := Ideal) u w)) i1 i2 i3 o i4 L ho r l

/-- What a tap reads of slab 21: the products of the step's rows with the slab's columns, with the zeros around the array. -/
theorem slab21 {sig : RefSig} {κ : Kind} {sp : Space} {v : View sig κ sp S24x528x128 .f32} (c c' : BitVec 1) (u : FVec Ideal S528x1024 .bf16)
    (w : FVec Ideal S1024x512 .bf16) (i1 i2 i3) (o : Nat) (i4 : ∀ a : Fin S24x528x128.rank, ![21, o, 0] a + ![1, 512, 128] a ≤ S24x528x128.size a)
    (L : List (View.Piece (Elt Ideal) S24x528x128 .f32)) (ho : o ≤ 16) (r : Fin 512) (l : Fin 128) :
    v.readCov (Val := Elt Ideal) (⟨Rect.unit (s := S24x528x128) ![21, 520, 0] ![1, 8, 128] i1, (k0_pay170 (F := Ideal) c' (k0_pay162 (F := Ideal)) (k0_pay167 (F := Ideal) u w))⟩ ::
      ⟨Rect.unit (s := S24x528x128) ![21, 8, 0] ![1, 512, 128] i2, (k0_pay169 (F := Ideal) u w)⟩ ::
      ⟨Rect.unit (s := S24x528x128) ![21, 0, 0] ![1, 8, 128] i3, (k0_pay168 (F := Ideal) u c w)⟩ :: L)
      (Rect.unit (s := S24x528x128) ![21, o, 0] ![1, 512, 128] i4).toLoadRect (ix3 0 r l) =
        slab c c' (fun e => k0_pay4 (F := Ideal) u w (ix2 e ⟨128 + l.val, by omega⟩)) ⟨o + r.val, by omega⟩ :=
  readSlab 21 _ _ _ c c' (fun e l => k0_pay4 (F := Ideal) u w (ix2 e ⟨128 + l.val, by omega⟩))
    (left1_at c c' (k0_pay4 (F := Ideal) u w)) (mid1_at c c' (k0_pay4 (F := Ideal) u w)) (right1_at c c' (k0_pay4 (F := Ideal) u w)) i1 i2 i3 o i4 L ho r l

/-- What a tap reads of slab 22: the products of the step's rows with the slab's columns, with the zeros around the array. -/
theorem slab22 {sig : RefSig} {κ : Kind} {sp : Space} {v : View sig κ sp S24x528x128 .f32} (c c' : BitVec 1) (u : FVec Ideal S528x1024 .bf16)
    (w : FVec Ideal S1024x512 .bf16) (i1 i2 i3) (o : Nat) (i4 : ∀ a : Fin S24x528x128.rank, ![22, o, 0] a + ![1, 512, 128] a ≤ S24x528x128.size a)
    (L : List (View.Piece (Elt Ideal) S24x528x128 .f32)) (ho : o ≤ 16) (r : Fin 512) (l : Fin 128) :
    v.readCov (Val := Elt Ideal) (⟨Rect.unit (s := S24x528x128) ![22, 520, 0] ![1, 8, 128] i1, (k0_pay174 (F := Ideal) c' (k0_pay161 (F := Ideal) u w) (k0_pay162 (F := Ideal)))⟩ ::
      ⟨Rect.unit (s := S24x528x128) ![22, 8, 0] ![1, 512, 128] i2, (k0_pay173 (F := Ideal) (k0_pay161 (F := Ideal) u w))⟩ ::
      ⟨Rect.unit (s := S24x528x128) ![22, 0, 0] ![1, 8, 128] i3, (k0_pay172 (F := Ideal) c (k0_pay161 (F := Ideal) u w) (k0_pay162 (F := Ideal)))⟩ :: L)
      (Rect.unit (s := S24x528x128) ![22, o, 0] ![1, 512, 128] i4).toLoadRect (ix3 0 r l) =
        slab c c' (fun e => k0_pay4 (F := Ideal) u w (ix2 e ⟨256 + l.val, by omega⟩)) ⟨o + r.val, by omega⟩ :=
  readSlab 22 _ _ _ c c' (fun e l => k0_pay4 (F := Ideal) u w (ix2 e ⟨256 + l.val, by omega⟩))
    (left2_at c c' (k0_pay4 (F := Ideal) u w)) (mid2_at c c' (k0_pay4 (F := Ideal) u w)) (right2_at c c' (k0_pay4 (F := Ideal) u w)) i1 i2 i3 o i4 L ho r l

/-- What a tap reads of slab 23: the products of the step's rows with the slab's columns, with the zeros around the array. -/
theorem slab23 {sig : RefSig} {κ : Kind} {sp : Space} {v : View sig κ sp S24x528x128 .f32} (c c' : BitVec 1) (u : FVec Ideal S528x1024 .bf16)
    (w : FVec Ideal S1024x512 .bf16) (i1 i2 i3) (o : Nat) (i4 : ∀ a : Fin S24x528x128.rank, ![23, o, 0] a + ![1, 512, 128] a ≤ S24x528x128.size a)
    (L : List (View.Piece (Elt Ideal) S24x528x128 .f32)) (ho : o ≤ 16) (r : Fin 512) (l : Fin 128) :
    v.readCov (Val := Elt Ideal) (⟨Rect.unit (s := S24x528x128) ![23, 520, 0] ![1, 8, 128] i1, (k0_pay179 (F := Ideal) (k0_pay178 (F := Ideal) c' (k0_pay161 (F := Ideal) u w) (k0_pay162 (F := Ideal))))⟩ ::
      ⟨Rect.unit (s := S24x528x128) ![23, 8, 0] ![1, 512, 128] i2, (k0_pay177 (F := Ideal) (k0_pay161 (F := Ideal) u w))⟩ ::
      ⟨Rect.unit (s := S24x528x128) ![23, 0, 0] ![1, 8, 128] i3, (k0_pay176 (F := Ideal) c (k0_pay161 (F := Ideal) u w) (k0_pay162 (F := Ideal)))⟩ :: L)
      (Rect.unit (s := S24x528x128) ![23, o, 0] ![1, 512, 128] i4).toLoadRect (ix3 0 r l) =
        slab c c' (fun e => k0_pay4 (F := Ideal) u w (ix2 e ⟨384 + l.val, by omega⟩)) ⟨o + r.val, by omega⟩ :=
  readSlab 23 _ _ _ c c' (fun e l => k0_pay4 (F := Ideal) u w (ix2 e ⟨384 + l.val, by omega⟩))
    (left3_at c c' (k0_pay4 (F := Ideal) u w)) (mid3_at c c' (k0_pay4 (F := Ideal) u w)) (right3_at c c' (k0_pay4 (F := Ideal) u w)) i1 i2 i3 o i4 L ho r l

/-- Slab 0's stored result is the convolution of its taps. -/
theorem out0 (b w0 : FVec Ideal S1x128 .f32) (x0 : FVec Ideal S1x512x128 .f32) (w1 : FVec Ideal S1x128 .f32) (x1 : FVec Ideal S1x512x128 .f32)
    (w2 : FVec Ideal S1x128 .f32) (x2 : FVec Ideal S1x512x128 .f32) (w3 : FVec Ideal S1x128 .f32) (x3 : FVec Ideal S1x512x128 .f32) :
    (k0_pay25 (F := Ideal) (k0_pay24 (F := Ideal) (k0_pay23 (F := Ideal) b) w0 x0 w1 x1 w2 x2 w3 x3)) = convPay b w0 x0 w1 x1 w2 x2 w3 x3 := rfl

/-- Slab 1's stored result is the convolution of its taps. -/
theorem out1 (b w0 : FVec Ideal S1x128 .f32) (x0 : FVec Ideal S1x512x128 .f32) (w1 : FVec Ideal S1x128 .f32) (x1 : FVec Ideal S1x512x128 .f32)
    (w2 : FVec Ideal S1x128 .f32) (x2 : FVec Ideal S1x512x128 .f32) (w3 : FVec Ideal S1x128 .f32) (x3 : FVec Ideal S1x512x128 .f32) :
    (k0_pay28 (F := Ideal) (k0_pay26 (F := Ideal) b w0 x0 w1 x1 w2 x2 w3 x3) (k0_pay27 (F := Ideal))) = convPay b w0 x0 w1 x1 w2 x2 w3 x3 := rfl

/-- Slab 2's stored result is the convolution of its taps. -/
theorem out2 (b w0 : FVec Ideal S1x128 .f32) (x0 : FVec Ideal S1x512x128 .f32) (w1 : FVec Ideal S1x128 .f32) (x1 : FVec Ideal S1x512x128 .f32)
    (w2 : FVec Ideal S1x128 .f32) (x2 : FVec Ideal S1x512x128 .f32) (w3 : FVec Ideal S1x128 .f32) (x3 : FVec Ideal S1x512x128 .f32) :
    (k0_pay31 (F := Ideal) (k0_pay29 (F := Ideal) b w0 x0 w1 x1 w2 x2) (k0_pay30 (F := Ideal) w3) x3) = convPay b w0 x0 w1 x1 w2 x2 w3 x3 := rfl

/-- Slab 3's stored result is the convolution of its taps. -/
theorem out3 (b w0 : FVec Ideal S1x128 .f32) (x0 : FVec Ideal S1x512x128 .f32) (w1 : FVec Ideal S1x128 .f32) (x1 : FVec Ideal S1x512x128 .f32)
    (w2 : FVec Ideal S1x128 .f32) (x2 : FVec Ideal S1x512x128 .f32) (w3 : FVec Ideal S1x128 .f32) (x3 : FVec Ideal S1x512x128 .f32) :
    (k0_pay34 (F := Ideal) (k0_pay32 (F := Ideal) b w0 x0 w1 x1) (k0_pay33 (F := Ideal) w2) x2 w3 x3) = convPay b w0 x0 w1 x1 w2 x2 w3 x3 := rfl

/-- Slab 4's stored result is the convolution of its taps. -/
theorem out4 (b w0 : FVec Ideal S1x128 .f32) (x0 : FVec Ideal S1x512x128 .f32) (w1 : FVec Ideal S1x128 .f32) (x1 : FVec Ideal S1x512x128 .f32)
    (w2 : FVec Ideal S1x128 .f32) (x2 : FVec Ideal S1x512x128 .f32) (w3 : FVec Ideal S1x128 .f32) (x3 : FVec Ideal S1x512x128 .f32) :
    (k0_pay57 (F := Ideal) (k0_pay55 (F := Ideal) b) (k0_pay56 (F := Ideal) w0) x0 w1 x1 w2 x2 w3 x3) = convPay b w0 x0 w1 x1 w2 x2 w3 x3 := rfl

/-- Slab 5's stored result is the convolution of its taps. -/
theorem out5 (b w0 : FVec Ideal S1x128 .f32) (x0 : FVec Ideal S1x512x128 .f32) (w1 : FVec Ideal S1x128 .f32) (x1 : FVec Ideal S1x512x128 .f32)
    (w2 : FVec Ideal S1x128 .f32) (x2 : FVec Ideal S1x512x128 .f32) (w3 : FVec Ideal S1x128 .f32) (x3 : FVec Ideal S1x512x128 .f32) :
    (k0_pay59 (F := Ideal) (k0_pay58 (F := Ideal) b w0 x0 w1 x1 w2 x2 w3 x3)) = convPay b w0 x0 w1 x1 w2 x2 w3 x3 := rfl

/-- Slab 6's stored result is the convolution of its taps. -/
theorem out6 (b w0 : FVec Ideal S1x128 .f32) (x0 : FVec Ideal S1x512x128 .f32) (w1 : FVec Ideal S1x128 .f32) (x1 : FVec Ideal S1x512x128 .f32)
    (w2 : FVec Ideal S1x128 .f32) (x2 : FVec Ideal S1x512x128 .f32) (w3 : FVec Ideal S1x128 .f32) (x3 : FVec Ideal S1x512x128 .f32) :
    (k0_pay62 (F := Ideal) (k0_pay60 (F := Ideal) b w0 x0 w1 x1 w2 x2) (k0_pay61 (F := Ideal) w3 x3)) = convPay b w0 x0 w1 x1 w2 x2 w3 x3 := rfl

/-- Slab 7's stored result is the convolution of its taps. -/
theorem out7 (b w0 : FVec Ideal S1x128 .f32) (x0 : FVec Ideal S1x512x128 .f32) (w1 : FVec Ideal S1x128 .f32) (x1 : FVec Ideal S1x512x128 .f32)
    (w2 : FVec Ideal S1x128 .f32) (x2 : FVec Ideal S1x512x128 .f32) (w3 : FVec Ideal S1x128 .f32) (x3 : FVec Ideal S1x512x128 .f32) :
    (k0_pay64 (F := Ideal) (k0_pay63 (F := Ideal) b w0 x0 w1 x1 w2 x2) w3 x3) = convPay b w0 x0 w1 x1 w2 x2 w3 x3 := rfl

/-- Slab 8's stored result is the convolution of its taps. -/
theorem out8 (b w0 : FVec Ideal S1x128 .f32) (x0 : FVec Ideal S1x512x128 .f32) (w1 : FVec Ideal S1x128 .f32) (x1 : FVec Ideal S1x512x128 .f32)
    (w2 : FVec Ideal S1x128 .f32) (x2 : FVec Ideal S1x512x128 .f32) (w3 : FVec Ideal S1x128 .f32) (x3 : FVec Ideal S1x512x128 .f32) :
    (k0_pay87 (F := Ideal) (k0_pay85 (F := Ideal) w0 x0) (k0_pay86 (F := Ideal) b) w1 x1 w2 x2 w3 x3) = convPay b w0 x0 w1 x1 w2 x2 w3 x3 := rfl

/-- Slab 9's stored result is the convolution of its taps. -/
theorem out9 (b w0 : FVec Ideal S1x128 .f32) (x0 : FVec Ideal S1x512x128 .f32) (w1 : FVec Ideal S1x128 .f32) (x1 : FVec Ideal S1x512x128 .f32)
    (w2 : FVec Ideal S1x128 .f32) (x2 : FVec Ideal S1x512x128 .f32) (w3 : FVec Ideal S1x128 .f32) (x3 : FVec Ideal S1x512x128 .f32) :
    (k0_pay90 (F := Ideal) (k0_pay89 (F := Ideal) (k0_pay88 (F := Ideal) b) w0 x0 w1 x1 w2 x2 w3 x3)) = convPay b w0 x0 w1 x1 w2 x2 w3 x3 := rfl

/-- Slab 10's stored result is the convolution of its taps. -/
theorem out10 (b w0 : FVec Ideal S1x128 .f32) (x0 : FVec Ideal S1x512x128 .f32) (w1 : FVec Ideal S1x128 .f32) (x1 : FVec Ideal S1x512x128 .f32)
    (w2 : FVec Ideal S1x128 .f32) (x2 : FVec Ideal S1x512x128 .f32) (w3 : FVec Ideal S1x128 .f32) (x3 : FVec Ideal S1x512x128 .f32) :
    (k0_pay93 (F := Ideal) (k0_pay91 (F := Ideal) b w0 x0 w1 x1 w2 x2 w3 x3) (k0_pay92 (F := Ideal) b w0 x0 w1 x1 w2 x2 w3 x3) ((Scalar.ofBits (F := Ideal) .f32 0x3F800000#32))) = convPay b w0 x0 w1 x1 w2 x2 w3 x3 := rfl

/-- Slab 11's stored result is the convolution of its taps. -/
theorem out11 (b w0 : FVec Ideal S1x128 .f32) (x0 : FVec Ideal S1x512x128 .f32) (w1 : FVec Ideal S1x128 .f32) (x1 : FVec Ideal S1x512x128 .f32)
    (w2 : FVec Ideal S1x128 .f32) (x2 : FVec Ideal S1x512x128 .f32) (w3 : FVec Ideal S1x128 .f32) (x3 : FVec Ideal S1x512x128 .f32) :
    (k0_pay96 (F := Ideal) (k0_pay94 (F := Ideal) b w0 x0 w1 x1 w2 x2) (k0_pay95 (F := Ideal) w3) x3) = convPay b w0 x0 w1 x1 w2 x2 w3 x3 := rfl

/-- Slab 12's stored result is the convolution of its taps. -/
theorem out12 (b w0 : FVec Ideal S1x128 .f32) (x0 : FVec Ideal S1x512x128 .f32) (w1 : FVec Ideal S1x128 .f32) (x1 : FVec Ideal S1x512x128 .f32)
    (w2 : FVec Ideal S1x128 .f32) (x2 : FVec Ideal S1x512x128 .f32) (w3 : FVec Ideal S1x128 .f32) (x3 : FVec Ideal S1x512x128 .f32) :
    (k0_pay119 (F := Ideal) (k0_pay117 (F := Ideal) b w0 x0) (k0_pay118 (F := Ideal) w1) x1 w2 x2 w3 x3) = convPay b w0 x0 w1 x1 w2 x2 w3 x3 := rfl

/-- Slab 13's stored result is the convolution of its taps. -/
theorem out13 (b w0 : FVec Ideal S1x128 .f32) (x0 : FVec Ideal S1x512x128 .f32) (w1 : FVec Ideal S1x128 .f32) (x1 : FVec Ideal S1x512x128 .f32)
    (w2 : FVec Ideal S1x128 .f32) (x2 : FVec Ideal S1x512x128 .f32) (w3 : FVec Ideal S1x128 .f32) (x3 : FVec Ideal S1x512x128 .f32) :
    (k0_pay123 (F := Ideal) (k0_pay120 (F := Ideal) b) (k0_pay121 (F := Ideal) w0) (k0_pay122 (F := Ideal) x0) w1 x1 w2 x2 w3 x3) = convPay b w0 x0 w1 x1 w2 x2 w3 x3 := rfl

/-- Slab 14's stored result is the convolution of its taps. -/
theorem out14 (b w0 : FVec Ideal S1x128 .f32) (x0 : FVec Ideal S1x512x128 .f32) (w1 : FVec Ideal S1x128 .f32) (x1 : FVec Ideal S1x512x128 .f32)
    (w2 : FVec Ideal S1x128 .f32) (x2 : FVec Ideal S1x512x128 .f32) (w3 : FVec Ideal S1x128 .f32) (x3 : FVec Ideal S1x512x128 .f32) :
    (k0_pay126 (F := Ideal) (k0_pay125 (F := Ideal) (k0_pay124 (F := Ideal) b) w0 x0 w1 x1 w2 x2 w3 x3)) = convPay b w0 x0 w1 x1 w2 x2 w3 x3 := rfl

/-- Slab 15's stored result is the convolution of its taps. -/
theorem out15 (b w0 : FVec Ideal S1x128 .f32) (x0 : FVec Ideal S1x512x128 .f32) (w1 : FVec Ideal S1x128 .f32) (x1 : FVec Ideal S1x512x128 .f32)
    (w2 : FVec Ideal S1x128 .f32) (x2 : FVec Ideal S1x512x128 .f32) (w3 : FVec Ideal S1x128 .f32) (x3 : FVec Ideal S1x512x128 .f32) :
    (k0_pay129 (F := Ideal) (k0_pay127 (F := Ideal) b w0 x0 w1 x1 w2 x2 w3 x3) (k0_pay128 (F := Ideal))) = convPay b w0 x0 w1 x1 w2 x2 w3 x3 := rfl

/-- Slab 16's stored result is the convolution of its taps. -/
theorem out16 (b w0 : FVec Ideal S1x128 .f32) (x0 : FVec Ideal S1x512x128 .f32) (w1 : FVec Ideal S1x128 .f32) (x1 : FVec Ideal S1x512x128 .f32)
    (w2 : FVec Ideal S1x128 .f32) (x2 : FVec Ideal S1x512x128 .f32) (w3 : FVec Ideal S1x128 .f32) (x3 : FVec Ideal S1x512x128 .f32) :
    (k0_pay153 (F := Ideal) (k0_pay151 (F := Ideal) b w0 x0) (k0_pay152 (F := Ideal) w1 x1) w2 x2 w3 x3) = convPay b w0 x0 w1 x1 w2 x2 w3 x3 := rfl

/-- Slab 17's stored result is the convolution of its taps. -/
theorem out17 (b w0 : FVec Ideal S1x128 .f32) (x0 : FVec Ideal S1x512x128 .f32) (w1 : FVec Ideal S1x128 .f32) (x1 : FVec Ideal S1x512x128 .f32)
    (w2 : FVec Ideal S1x128 .f32) (x2 : FVec Ideal S1x512x128 .f32) (w3 : FVec Ideal S1x128 .f32) (x3 : FVec Ideal S1x512x128 .f32) :
    (k0_pay155 (F := Ideal) (k0_pay154 (F := Ideal) b w0 x0) w1 x1 w2 x2 w3 x3) = convPay b w0 x0 w1 x1 w2 x2 w3 x3 := rfl

/-- Slab 18's stored result is the convolution of its taps. -/
theorem out18 (b w0 : FVec Ideal S1x128 .f32) (x0 : FVec Ideal S1x512x128 .f32) (w1 : FVec Ideal S1x128 .f32) (x1 : FVec Ideal S1x512x128 .f32)
    (w2 : FVec Ideal S1x128 .f32) (x2 : FVec Ideal S1x512x128 .f32) (w3 : FVec Ideal S1x128 .f32) (x3 : FVec Ideal S1x512x128 .f32) :
    (k0_pay158 (F := Ideal) (k0_pay156 (F := Ideal) b) (k0_pay157 (F := Ideal) w0) x0 w1 x1 w2 x2 w3 x3) = convPay b w0 x0 w1 x1 w2 x2 w3 x3 := rfl

/-- Slab 19's stored result is the convolution of its taps. -/
theorem out19 (b w0 : FVec Ideal S1x128 .f32) (x0 : FVec Ideal S1x512x128 .f32) (w1 : FVec Ideal S1x128 .f32) (x1 : FVec Ideal S1x512x128 .f32)
    (w2 : FVec Ideal S1x128 .f32) (x2 : FVec Ideal S1x512x128 .f32) (w3 : FVec Ideal S1x128 .f32) (x3 : FVec Ideal S1x512x128 .f32) :
    (k0_pay160 (F := Ideal) (k0_pay159 (F := Ideal) b w0 x0 w1 x1 w2 x2 w3 x3)) = convPay b w0 x0 w1 x1 w2 x2 w3 x3 := rfl

/-- Slab 20's stored result is the convolution of its taps. -/
theorem out20 (b w0 : FVec Ideal S1x128 .f32) (x0 : FVec Ideal S1x512x128 .f32) (w1 : FVec Ideal S1x128 .f32) (x1 : FVec Ideal S1x512x128 .f32)
    (w2 : FVec Ideal S1x128 .f32) (x2 : FVec Ideal S1x512x128 .f32) (w3 : FVec Ideal S1x128 .f32) (x3 : FVec Ideal S1x512x128 .f32) :
    (k0_pay181 (F := Ideal) (k0_pay180 (F := Ideal) b w0 x0 w1 x1 w2 x2 w3 x3)) = convPay b w0 x0 w1 x1 w2 x2 w3 x3 := rfl

/-- Slab 21's stored result is the convolution of its taps. -/
theorem out21 (b w0 : FVec Ideal S1x128 .f32) (x0 : FVec Ideal S1x512x128 .f32) (w1 : FVec Ideal S1x128 .f32) (x1 : FVec Ideal S1x512x128 .f32)
    (w2 : FVec Ideal S1x128 .f32) (x2 : FVec Ideal S1x512x128 .f32) (w3 : FVec Ideal S1x128 .f32) (x3 : FVec Ideal S1x512x128 .f32) :
    (k0_pay184 (F := Ideal) (k0_pay182 (F := Ideal) b w0 x0 w1 x1 w2 x2) (k0_pay183 (F := Ideal) w3) x3) = convPay b w0 x0 w1 x1 w2 x2 w3 x3 := rfl

/-- Slab 22's stored result is the convolution of its taps. -/
theorem out22 (b w0 : FVec Ideal S1x128 .f32) (x0 : FVec Ideal S1x512x128 .f32) (w1 : FVec Ideal S1x128 .f32) (x1 : FVec Ideal S1x512x128 .f32)
    (w2 : FVec Ideal S1x128 .f32) (x2 : FVec Ideal S1x512x128 .f32) (w3 : FVec Ideal S1x128 .f32) (x3 : FVec Ideal S1x512x128 .f32) :
    (k0_pay188 (F := Ideal) (k0_pay185 (F := Ideal) b w0 x0 w1 x1) (k0_pay186 (F := Ideal) w2) (k0_pay187 (F := Ideal) x2) w3 x3) = convPay b w0 x0 w1 x1 w2 x2 w3 x3 := rfl

/-- Slab 23's stored result is the convolution of its taps. -/
theorem out23 (b w0 : FVec Ideal S1x128 .f32) (x0 : FVec Ideal S1x512x128 .f32) (w1 : FVec Ideal S1x128 .f32) (x1 : FVec Ideal S1x512x128 .f32)
    (w2 : FVec Ideal S1x128 .f32) (x2 : FVec Ideal S1x512x128 .f32) (w3 : FVec Ideal S1x128 .f32) (x3 : FVec Ideal S1x512x128 .f32) :
    (k0_pay190 (F := Ideal) (k0_pay189 (F := Ideal) b w0 x0 w1 x1) w2 x2 w3 x3) = convPay b w0 x0 w1 x1 w2 x2 w3 x3 := rfl

end Cert.Proof.Inproj

end
-- ==== Proof.Inproj.Scan.lean ====
module

public import proofs.«01_k».proof.Proof.Inproj.Tap
public import proofs.«01_k».proof.Proof.Inproj.Cuts

@[expose] public section

set_option maxRecDepth 16384

noncomputable section

namespace Cert.Proof.Inproj

open Idealize.ShloMosaic Idealize.ShloMosaic.TcCoe Idealize.SL.Sem
open Idealize.ShloMosaic.Pipeline (Dat)
open Cert.Kernel2Ideal Cert.Kernel2Ideal.Gen

variable (m : (ℓ : Loc nD τ sig) → Buf (Elt Ideal) ℓ)

set_option maxHeartbeats 6400000 in
/-- The kernel's second result is the reference's: the silu of the convolution. -/
theorem final_scan (c : Dev nD) : (dats m 0 c).arrAt 12 (cfgs 0).N = REFX m c := by
  refine (dats m 0 c).arrAt_eq_of_covers 12 _ (by decide +kernel) fun t _ y => ?_
  blk_simp
  rw [after0_12]
  unfold outsAt0
  frame_out
  canon_tiles x h
  · idx_vars x
    have he : ((View.whole main_v16_1).slice (win0_12.rect t)).emb y =
        (ix3 ⟨t.val % 8, by omega⟩ ⟨t.val / 8 * 512 + x1.val, by have := tile_lt t; omega⟩ ⟨2944 + x2.val, by omega⟩ : S8x4096x3072.Idx) := by
      blk_ext [idx t]
    refine Eq.trans ?_ (congrArg (REFX m c) he.symm)
    obtain rfl : x0 = 0 := Subsingleton.elim (α := Fin 1) _ _
    refine (congrFun (out23 _ _ _ _ _ _ _ _ _) _).trans ?_
    refine conv_tile m c t 2560 2944 inb_S1024x3072_S1024x512_0_2560 x1 x2 ⟨384 + x2.val, by omega⟩ _ (by show 2944 + x2.val = 2560 + (384 + x2.val); omega) rfl _ _ _ _ _ _ _ _ _ _ _ _ _ _ rfl rfl rfl rfl rfl ?_ ?_ ?_ ?_
    · exact slab23 (CL t) (CR t) (UU m c t) _ _ _ _ 6 _ _ (by omega) x1 x2
    · exact slab23 (CL t) (CR t) (UU m c t) _ _ _ _ 7 _ _ (by omega) x1 x2
    · exact slab23 (CL t) (CR t) (UU m c t) _ _ _ _ 8 _ _ (by omega) x1 x2
    · exact slab23 (CL t) (CR t) (UU m c t) _ _ _ _ 9 _ _ (by omega) x1 x2
  · idx_vars x
    have he : ((View.whole main_v16_1).slice (win0_12.rect t)).emb y =
        (ix3 ⟨t.val % 8, by omega⟩ ⟨t.val / 8 * 512 + x1.val, by have := tile_lt t; omega⟩ ⟨2816 + x2.val, by omega⟩ : S8x4096x3072.Idx) := by
      blk_ext [idx t]
    refine Eq.trans ?_ (congrArg (REFX m c) he.symm)
    obtain rfl : x0 = 0 := Subsingleton.elim (α := Fin 1) _ _
    refine (congrFun (out22 _ _ _ _ _ _ _ _ _) _).trans ?_
    refine conv_tile m c t 2560 2816 inb_S1024x3072_S1024x512_0_2560 x1 x2 ⟨256 + x2.val, by omega⟩ _ (by show 2816 + x2.val = 2560 + (256 + x2.val); omega) rfl _ _ _ _ _ _ _ _ _ _ _ _ _ _ rfl rfl rfl rfl rfl ?_ ?_ ?_ ?_
    · rw [View.readCov_skip _ _ _ _ _ (by rfl), View.readCov_skip _ _ _ _ _ (by rfl), View.readCov_skip _ _ _ _ _ (by rfl)]; exact slab22 (CL t) (CR t) (UU m c t) _ _ _ _ 6 _ _ (by omega) x1 x2
    · rw [View.readCov_skip _ _ _ _ _ (by rfl), View.readCov_skip _ _ _ _ _ (by rfl), View.readCov_skip _ _ _ _ _ (by rfl)]; exact slab22 (CL t) (CR t) (UU m c t) _ _ _ _ 7 _ _ (by omega) x1 x2
    · rw [View.readCov_skip _ _ _ _ _ (by rfl), View.readCov_skip _ _ _ _ _ (by rfl), View.readCov_skip _ _ _ _ _ (by rfl)]; exact slab22 (CL t) (CR t) (UU m c t) _ _ _ _ 8 _ _ (by omega) x1 x2
    · rw [View.readCov_skip _ _ _ _ _ (by rfl), View.readCov_skip _ _ _ _ _ (by rfl), View.readCov_skip _ _ _ _ _ (by rfl)]; exact slab22 (CL t) (CR t) (UU m c t) _ _ _ _ 9 _ _ (by omega) x1 x2
  · idx_vars x
    have he : ((View.whole main_v16_1).slice (win0_12.rect t)).emb y =
        (ix3 ⟨t.val % 8, by omega⟩ ⟨t.val / 8 * 512 + x1.val, by have := tile_lt t; omega⟩ ⟨2688 + x2.val, by omega⟩ : S8x4096x3072.Idx) := by
      blk_ext [idx t]
    refine Eq.trans ?_ (congrArg (REFX m c) he.symm)
    obtain rfl : x0 = 0 := Subsingleton.elim (α := Fin 1) _ _
    refine (congrFun (out21 _ _ _ _ _ _ _ _ _) _).trans ?_
    refine conv_tile m c t 2560 2688 inb_S1024x3072_S1024x512_0_2560 x1 x2 ⟨128 + x2.val, by omega⟩ _ (by show 2688 + x2.val = 2560 + (128 + x2.val); omega) rfl _ _ _ _ _ _ _ _ _ _ _ _ _ _ rfl rfl rfl rfl rfl ?_ ?_ ?_ ?_
    · rw [View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl)]; exact slab21 (CL t) (CR t) (UU m c t) _ _ _ _ 6 _ _ (by omega) x1 x2
    · rw [View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl)]; exact slab21 (CL t) (CR t) (UU m c t) _ _ _ _ 7 _ _ (by omega) x1 x2
    · rw [View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl)]; exact slab21 (CL t) (CR t) (UU m c t) _ _ _ _ 8 _ _ (by omega) x1 x2
    · rw [View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl)]; exact slab21 (CL t) (CR t) (UU m c t) _ _ _ _ 9 _ _ (by omega) x1 x2
  · idx_vars x
    have he : ((View.whole main_v16_1).slice (win0_12.rect t)).emb y =
        (ix3 ⟨t.val % 8, by omega⟩ ⟨t.val / 8 * 512 + x1.val, by have := tile_lt t; omega⟩ ⟨2560 + x2.val, by omega⟩ : S8x4096x3072.Idx) := by
      blk_ext [idx t]
    refine Eq.trans ?_ (congrArg (REFX m c) he.symm)
    obtain rfl : x0 = 0 := Subsingleton.elim (α := Fin 1) _ _
    refine (congrFun (out20 _ _ _ _ _ _ _ _ _) _).trans ?_
    refine conv_tile m c t 2560 2560 inb_S1024x3072_S1024x512_0_2560 x1 x2 ⟨x2.val, by omega⟩ _ (by show 2560 + x2.val = 2560 + (x2.val); omega) rfl _ _ _ _ _ _ _ _ _ _ _ _ _ _ rfl rfl rfl rfl rfl ?_ ?_ ?_ ?_
    · rw [View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl)]; exact slab20 (CL t) (CR t) (UU m c t) _ _ _ _ 6 _ _ (by omega) x1 x2
    · rw [View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl)]; exact slab20 (CL t) (CR t) (UU m c t) _ _ _ _ 7 _ _ (by omega) x1 x2
    · rw [View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl)]; exact slab20 (CL t) (CR t) (UU m c t) _ _ _ _ 8 _ _ (by omega) x1 x2
    · rw [View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl)]; exact slab20 (CL t) (CR t) (UU m c t) _ _ _ _ 9 _ _ (by omega) x1 x2
  · idx_vars x
    have he : ((View.whole main_v16_1).slice (win0_12.rect t)).emb y =
        (ix3 ⟨t.val % 8, by omega⟩ ⟨t.val / 8 * 512 + x1.val, by have := tile_lt t; omega⟩ ⟨2432 + x2.val, by omega⟩ : S8x4096x3072.Idx) := by
      blk_ext [idx t]
    refine Eq.trans ?_ (congrArg (REFX m c) he.symm)
    obtain rfl : x0 = 0 := Subsingleton.elim (α := Fin 1) _ _
    refine (congrFun (out19 _ _ _ _ _ _ _ _ _) _).trans ?_
    refine conv_tile m c t 2048 2432 inb_S1024x3072_S1024x512_0_2048 x1 x2 ⟨384 + x2.val, by omega⟩ _ (by show 2432 + x2.val = 2048 + (384 + x2.val); omega) rfl _ _ _ _ _ _ _ _ _ _ _ _ _ _ rfl rfl rfl rfl rfl ?_ ?_ ?_ ?_
    · exact slab19 (CL t) (CR t) (UU m c t) _ _ _ _ 6 _ _ (by omega) x1 x2
    · exact slab19 (CL t) (CR t) (UU m c t) _ _ _ _ 7 _ _ (by omega) x1 x2
    · exact slab19 (CL t) (CR t) (UU m c t) _ _ _ _ 8 _ _ (by omega) x1 x2
    · exact slab19 (CL t) (CR t) (UU m c t) _ _ _ _ 9 _ _ (by omega) x1 x2
  · idx_vars x
    have he : ((View.whole main_v16_1).slice (win0_12.rect t)).emb y =
        (ix3 ⟨t.val % 8, by omega⟩ ⟨t.val / 8 * 512 + x1.val, by have := tile_lt t; omega⟩ ⟨2304 + x2.val, by omega⟩ : S8x4096x3072.Idx) := by
      blk_ext [idx t]
    refine Eq.trans ?_ (congrArg (REFX m c) he.symm)
    obtain rfl : x0 = 0 := Subsingleton.elim (α := Fin 1) _ _
    refine (congrFun (out18 _ _ _ _ _ _ _ _ _) _).trans ?_
    refine conv_tile m c t 2048 2304 inb_S1024x3072_S1024x512_0_2048 x1 x2 ⟨256 + x2.val, by omega⟩ _ (by show 2304 + x2.val = 2048 + (256 + x2.val); omega) rfl _ _ _ _ _ _ _ _ _ _ _ _ _ _ rfl rfl rfl rfl rfl ?_ ?_ ?_ ?_
    · rw [View.readCov_skip _ _ _ _ _ (by rfl), View.readCov_skip _ _ _ _ _ (by rfl), View.readCov_skip _ _ _ _ _ (by rfl)]; exact slab18 (CL t) (CR t) (UU m c t) _ _ _ _ 6 _ _ (by omega) x1 x2
    · rw [View.readCov_skip _ _ _ _ _ (by rfl), View.readCov_skip _ _ _ _ _ (by rfl), View.readCov_skip _ _ _ _ _ (by rfl)]; exact slab18 (CL t) (CR t) (UU m c t) _ _ _ _ 7 _ _ (by omega) x1 x2
    · rw [View.readCov_skip _ _ _ _ _ (by rfl), View.readCov_skip _ _ _ _ _ (by rfl), View.readCov_skip _ _ _ _ _ (by rfl)]; exact slab18 (CL t) (CR t) (UU m c t) _ _ _ _ 8 _ _ (by omega) x1 x2
    · rw [View.readCov_skip _ _ _ _ _ (by rfl), View.readCov_skip _ _ _ _ _ (by rfl), View.readCov_skip _ _ _ _ _ (by rfl)]; exact slab18 (CL t) (CR t) (UU m c t) _ _ _ _ 9 _ _ (by omega) x1 x2
  · idx_vars x
    have he : ((View.whole main_v16_1).slice (win0_12.rect t)).emb y =
        (ix3 ⟨t.val % 8, by omega⟩ ⟨t.val / 8 * 512 + x1.val, by have := tile_lt t; omega⟩ ⟨2176 + x2.val, by omega⟩ : S8x4096x3072.Idx) := by
      blk_ext [idx t]
    refine Eq.trans ?_ (congrArg (REFX m c) he.symm)
    obtain rfl : x0 = 0 := Subsingleton.elim (α := Fin 1) _ _
    refine (congrFun (out17 _ _ _ _ _ _ _ _ _) _).trans ?_
    refine conv_tile m c t 2048 2176 inb_S1024x3072_S1024x512_0_2048 x1 x2 ⟨128 + x2.val, by omega⟩ _ (by show 2176 + x2.val = 2048 + (128 + x2.val); omega) rfl _ _ _ _ _ _ _ _ _ _ _ _ _ _ rfl rfl rfl rfl rfl ?_ ?_ ?_ ?_
    · rw [View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl)]; exact slab17 (CL t) (CR t) (UU m c t) _ _ _ _ 6 _ _ (by omega) x1 x2
    · rw [View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl)]; exact slab17 (CL t) (CR t) (UU m c t) _ _ _ _ 7 _ _ (by omega) x1 x2
    · rw [View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl)]; exact slab17 (CL t) (CR t) (UU m c t) _ _ _ _ 8 _ _ (by omega) x1 x2
    · rw [View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl)]; exact slab17 (CL t) (CR t) (UU m c t) _ _ _ _ 9 _ _ (by omega) x1 x2
  · idx_vars x
    have he : ((View.whole main_v16_1).slice (win0_12.rect t)).emb y =
        (ix3 ⟨t.val % 8, by omega⟩ ⟨t.val / 8 * 512 + x1.val, by have := tile_lt t; omega⟩ ⟨2048 + x2.val, by omega⟩ : S8x4096x3072.Idx) := by
      blk_ext [idx t]
    refine Eq.trans ?_ (congrArg (REFX m c) he.symm)
    obtain rfl : x0 = 0 := Subsingleton.elim (α := Fin 1) _ _
    refine (congrFun (out16 _ _ _ _ _ _ _ _ _) _).trans ?_
    refine conv_tile m c t 2048 2048 inb_S1024x3072_S1024x512_0_2048 x1 x2 ⟨x2.val, by omega⟩ _ (by show 2048 + x2.val = 2048 + (x2.val); omega) rfl _ _ _ _ _ _ _ _ _ _ _ _ _ _ rfl rfl rfl rfl rfl ?_ ?_ ?_ ?_
    · rw [View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl)]; exact slab16 (CL t) (CR t) (UU m c t) _ _ _ _ 6 _ _ (by omega) x1 x2
    · rw [View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl)]; exact slab16 (CL t) (CR t) (UU m c t) _ _ _ _ 7 _ _ (by omega) x1 x2
    · rw [View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl)]; exact slab16 (CL t) (CR t) (UU m c t) _ _ _ _ 8 _ _ (by omega) x1 x2
    · rw [View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl)]; exact slab16 (CL t) (CR t) (UU m c t) _ _ _ _ 9 _ _ (by omega) x1 x2
  · idx_vars x
    have he : ((View.whole main_v16_1).slice (win0_12.rect t)).emb y =
        (ix3 ⟨t.val % 8, by omega⟩ ⟨t.val / 8 * 512 + x1.val, by have := tile_lt t; omega⟩ ⟨1920 + x2.val, by omega⟩ : S8x4096x3072.Idx) := by
      blk_ext [idx t]
    refine Eq.trans ?_ (congrArg (REFX m c) he.symm)
    obtain rfl : x0 = 0 := Subsingleton.elim (α := Fin 1) _ _
    refine (congrFun (out15 _ _ _ _ _ _ _ _ _) _).trans ?_
    refine conv_tile m c t 1536 1920 inb_S1024x3072_S1024x512_0_1536 x1 x2 ⟨384 + x2.val, by omega⟩ _ (by show 1920 + x2.val = 1536 + (384 + x2.val); omega) rfl _ _ _ _ _ _ _ _ _ _ _ _ _ _ rfl rfl rfl rfl rfl ?_ ?_ ?_ ?_
    · exact slab15 (CL t) (CR t) (UU m c t) _ _ _ _ 6 _ _ (by omega) x1 x2
    · exact slab15 (CL t) (CR t) (UU m c t) _ _ _ _ 7 _ _ (by omega) x1 x2
    · exact slab15 (CL t) (CR t) (UU m c t) _ _ _ _ 8 _ _ (by omega) x1 x2
    · exact slab15 (CL t) (CR t) (UU m c t) _ _ _ _ 9 _ _ (by omega) x1 x2
  · idx_vars x
    have he : ((View.whole main_v16_1).slice (win0_12.rect t)).emb y =
        (ix3 ⟨t.val % 8, by omega⟩ ⟨t.val / 8 * 512 + x1.val, by have := tile_lt t; omega⟩ ⟨1792 + x2.val, by omega⟩ : S8x4096x3072.Idx) := by
      blk_ext [idx t]
    refine Eq.trans ?_ (congrArg (REFX m c) he.symm)
    obtain rfl : x0 = 0 := Subsingleton.elim (α := Fin 1) _ _
    refine (congrFun (out14 _ _ _ _ _ _ _ _ _) _).trans ?_
    refine conv_tile m c t 1536 1792 inb_S1024x3072_S1024x512_0_1536 x1 x2 ⟨256 + x2.val, by omega⟩ _ (by show 1792 + x2.val = 1536 + (256 + x2.val); omega) rfl _ _ _ _ _ _ _ _ _ _ _ _ _ _ rfl rfl rfl rfl rfl ?_ ?_ ?_ ?_
    · rw [View.readCov_skip _ _ _ _ _ (by rfl), View.readCov_skip _ _ _ _ _ (by rfl), View.readCov_skip _ _ _ _ _ (by rfl)]; exact slab14 (CL t) (CR t) (UU m c t) _ _ _ _ 6 _ _ (by omega) x1 x2
    · rw [View.readCov_skip _ _ _ _ _ (by rfl), View.readCov_skip _ _ _ _ _ (by rfl), View.readCov_skip _ _ _ _ _ (by rfl)]; exact slab14 (CL t) (CR t) (UU m c t) _ _ _ _ 7 _ _ (by omega) x1 x2
    · rw [View.readCov_skip _ _ _ _ _ (by rfl), View.readCov_skip _ _ _ _ _ (by rfl), View.readCov_skip _ _ _ _ _ (by rfl)]; exact slab14 (CL t) (CR t) (UU m c t) _ _ _ _ 8 _ _ (by omega) x1 x2
    · rw [View.readCov_skip _ _ _ _ _ (by rfl), View.readCov_skip _ _ _ _ _ (by rfl), View.readCov_skip _ _ _ _ _ (by rfl)]; exact slab14 (CL t) (CR t) (UU m c t) _ _ _ _ 9 _ _ (by omega) x1 x2
  · idx_vars x
    have he : ((View.whole main_v16_1).slice (win0_12.rect t)).emb y =
        (ix3 ⟨t.val % 8, by omega⟩ ⟨t.val / 8 * 512 + x1.val, by have := tile_lt t; omega⟩ ⟨1664 + x2.val, by omega⟩ : S8x4096x3072.Idx) := by
      blk_ext [idx t]
    refine Eq.trans ?_ (congrArg (REFX m c) he.symm)
    obtain rfl : x0 = 0 := Subsingleton.elim (α := Fin 1) _ _
    refine (congrFun (out13 _ _ _ _ _ _ _ _ _) _).trans ?_
    refine conv_tile m c t 1536 1664 inb_S1024x3072_S1024x512_0_1536 x1 x2 ⟨128 + x2.val, by omega⟩ _ (by show 1664 + x2.val = 1536 + (128 + x2.val); omega) rfl _ _ _ _ _ _ _ _ _ _ _ _ _ _ rfl rfl rfl rfl rfl ?_ ?_ ?_ ?_
    · rw [View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl)]; exact slab13 (CL t) (CR t) (UU m c t) _ _ _ _ 6 _ _ (by omega) x1 x2
    · rw [View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl)]; exact slab13 (CL t) (CR t) (UU m c t) _ _ _ _ 7 _ _ (by omega) x1 x2
    · rw [View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl)]; exact slab13 (CL t) (CR t) (UU m c t) _ _ _ _ 8 _ _ (by omega) x1 x2
    · rw [View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl)]; exact slab13 (CL t) (CR t) (UU m c t) _ _ _ _ 9 _ _ (by omega) x1 x2
  · idx_vars x
    have he : ((View.whole main_v16_1).slice (win0_12.rect t)).emb y =
        (ix3 ⟨t.val % 8, by omega⟩ ⟨t.val / 8 * 512 + x1.val, by have := tile_lt t; omega⟩ ⟨1536 + x2.val, by omega⟩ : S8x4096x3072.Idx) := by
      blk_ext [idx t]
    refine Eq.trans ?_ (congrArg (REFX m c) he.symm)
    obtain rfl : x0 = 0 := Subsingleton.elim (α := Fin 1) _ _
    refine (congrFun (out12 _ _ _ _ _ _ _ _ _) _).trans ?_
    refine conv_tile m c t 1536 1536 inb_S1024x3072_S1024x512_0_1536 x1 x2 ⟨x2.val, by omega⟩ _ (by show 1536 + x2.val = 1536 + (x2.val); omega) rfl _ _ _ _ _ _ _ _ _ _ _ _ _ _ rfl rfl rfl rfl rfl ?_ ?_ ?_ ?_
    · rw [View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl)]; exact slab12 (CL t) (CR t) (UU m c t) _ _ _ _ 6 _ _ (by omega) x1 x2
    · rw [View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl)]; exact slab12 (CL t) (CR t) (UU m c t) _ _ _ _ 7 _ _ (by omega) x1 x2
    · rw [View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl)]; exact slab12 (CL t) (CR t) (UU m c t) _ _ _ _ 8 _ _ (by omega) x1 x2
    · rw [View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl)]; exact slab12 (CL t) (CR t) (UU m c t) _ _ _ _ 9 _ _ (by omega) x1 x2
  · idx_vars x
    have he : ((View.whole main_v16_1).slice (win0_12.rect t)).emb y =
        (ix3 ⟨t.val % 8, by omega⟩ ⟨t.val / 8 * 512 + x1.val, by have := tile_lt t; omega⟩ ⟨1408 + x2.val, by omega⟩ : S8x4096x3072.Idx) := by
      blk_ext [idx t]
    refine Eq.trans ?_ (congrArg (REFX m c) he.symm)
    obtain rfl : x0 = 0 := Subsingleton.elim (α := Fin 1) _ _
    refine (congrFun (out11 _ _ _ _ _ _ _ _ _) _).trans ?_
    refine conv_tile m c t 1024 1408 inb_S1024x3072_S1024x512_0_1024 x1 x2 ⟨384 + x2.val, by omega⟩ _ (by show 1408 + x2.val = 1024 + (384 + x2.val); omega) rfl _ _ _ _ _ _ _ _ _ _ _ _ _ _ rfl rfl rfl rfl rfl ?_ ?_ ?_ ?_
    · exact slab11 (CL t) (CR t) (UU m c t) _ _ _ _ 6 _ _ (by omega) x1 x2
    · exact slab11 (CL t) (CR t) (UU m c t) _ _ _ _ 7 _ _ (by omega) x1 x2
    · exact slab11 (CL t) (CR t) (UU m c t) _ _ _ _ 8 _ _ (by omega) x1 x2
    · exact slab11 (CL t) (CR t) (UU m c t) _ _ _ _ 9 _ _ (by omega) x1 x2
  · idx_vars x
    have he : ((View.whole main_v16_1).slice (win0_12.rect t)).emb y =
        (ix3 ⟨t.val % 8, by omega⟩ ⟨t.val / 8 * 512 + x1.val, by have := tile_lt t; omega⟩ ⟨1280 + x2.val, by omega⟩ : S8x4096x3072.Idx) := by
      blk_ext [idx t]
    refine Eq.trans ?_ (congrArg (REFX m c) he.symm)
    obtain rfl : x0 = 0 := Subsingleton.elim (α := Fin 1) _ _
    refine (congrFun (out10 _ _ _ _ _ _ _ _ _) _).trans ?_
    refine conv_tile m c t 1024 1280 inb_S1024x3072_S1024x512_0_1024 x1 x2 ⟨256 + x2.val, by omega⟩ _ (by show 1280 + x2.val = 1024 + (256 + x2.val); omega) rfl _ _ _ _ _ _ _ _ _ _ _ _ _ _ rfl rfl rfl rfl rfl ?_ ?_ ?_ ?_
    · rw [View.readCov_skip _ _ _ _ _ (by rfl), View.readCov_skip _ _ _ _ _ (by rfl), View.readCov_skip _ _ _ _ _ (by rfl)]; exact slab10 (CL t) (CR t) (UU m c t) _ _ _ _ 6 _ _ (by omega) x1 x2
    · rw [View.readCov_skip _ _ _ _ _ (by rfl), View.readCov_skip _ _ _ _ _ (by rfl), View.readCov_skip _ _ _ _ _ (by rfl)]; exact slab10 (CL t) (CR t) (UU m c t) _ _ _ _ 7 _ _ (by omega) x1 x2
    · rw [View.readCov_skip _ _ _ _ _ (by rfl), View.readCov_skip _ _ _ _ _ (by rfl), View.readCov_skip _ _ _ _ _ (by rfl)]; exact slab10 (CL t) (CR t) (UU m c t) _ _ _ _ 8 _ _ (by omega) x1 x2
    · rw [View.readCov_skip _ _ _ _ _ (by rfl), View.readCov_skip _ _ _ _ _ (by rfl), View.readCov_skip _ _ _ _ _ (by rfl)]; exact slab10 (CL t) (CR t) (UU m c t) _ _ _ _ 9 _ _ (by omega) x1 x2
  · idx_vars x
    have he : ((View.whole main_v16_1).slice (win0_12.rect t)).emb y =
        (ix3 ⟨t.val % 8, by omega⟩ ⟨t.val / 8 * 512 + x1.val, by have := tile_lt t; omega⟩ ⟨1152 + x2.val, by omega⟩ : S8x4096x3072.Idx) := by
      blk_ext [idx t]
    refine Eq.trans ?_ (congrArg (REFX m c) he.symm)
    obtain rfl : x0 = 0 := Subsingleton.elim (α := Fin 1) _ _
    refine (congrFun (out9 _ _ _ _ _ _ _ _ _) _).trans ?_
    refine conv_tile m c t 1024 1152 inb_S1024x3072_S1024x512_0_1024 x1 x2 ⟨128 + x2.val, by omega⟩ _ (by show 1152 + x2.val = 1024 + (128 + x2.val); omega) rfl _ _ _ _ _ _ _ _ _ _ _ _ _ _ rfl rfl rfl rfl rfl ?_ ?_ ?_ ?_
    · rw [View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl)]; exact slab9 (CL t) (CR t) (UU m c t) _ _ _ _ 6 _ _ (by omega) x1 x2
    · rw [View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl)]; exact slab9 (CL t) (CR t) (UU m c t) _ _ _ _ 7 _ _ (by omega) x1 x2
    · rw [View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl)]; exact slab9 (CL t) (CR t) (UU m c t) _ _ _ _ 8 _ _ (by omega) x1 x2
    · rw [View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl)]; exact slab9 (CL t) (CR t) (UU m c t) _ _ _ _ 9 _ _ (by omega) x1 x2
  · idx_vars x
    have he : ((View.whole main_v16_1).slice (win0_12.rect t)).emb y =
        (ix3 ⟨t.val % 8, by omega⟩ ⟨t.val / 8 * 512 + x1.val, by have := tile_lt t; omega⟩ ⟨1024 + x2.val, by omega⟩ : S8x4096x3072.Idx) := by
      blk_ext [idx t]
    refine Eq.trans ?_ (congrArg (REFX m c) he.symm)
    obtain rfl : x0 = 0 := Subsingleton.elim (α := Fin 1) _ _
    refine (congrFun (out8 _ _ _ _ _ _ _ _ _) _).trans ?_
    refine conv_tile m c t 1024 1024 inb_S1024x3072_S1024x512_0_1024 x1 x2 ⟨x2.val, by omega⟩ _ (by show 1024 + x2.val = 1024 + (x2.val); omega) rfl _ _ _ _ _ _ _ _ _ _ _ _ _ _ rfl rfl rfl rfl rfl ?_ ?_ ?_ ?_
    · rw [View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl)]; exact slab8 (CL t) (CR t) (UU m c t) _ _ _ _ 6 _ _ (by omega) x1 x2
    · rw [View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl)]; exact slab8 (CL t) (CR t) (UU m c t) _ _ _ _ 7 _ _ (by omega) x1 x2
    · rw [View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl)]; exact slab8 (CL t) (CR t) (UU m c t) _ _ _ _ 8 _ _ (by omega) x1 x2
    · rw [View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl)]; exact slab8 (CL t) (CR t) (UU m c t) _ _ _ _ 9 _ _ (by omega) x1 x2
  · idx_vars x
    have he : ((View.whole main_v16_1).slice (win0_12.rect t)).emb y =
        (ix3 ⟨t.val % 8, by omega⟩ ⟨t.val / 8 * 512 + x1.val, by have := tile_lt t; omega⟩ ⟨896 + x2.val, by omega⟩ : S8x4096x3072.Idx) := by
      blk_ext [idx t]
    refine Eq.trans ?_ (congrArg (REFX m c) he.symm)
    obtain rfl : x0 = 0 := Subsingleton.elim (α := Fin 1) _ _
    refine (congrFun (out7 _ _ _ _ _ _ _ _ _) _).trans ?_
    refine conv_tile m c t 512 896 inb_S1024x3072_S1024x512_0_512 x1 x2 ⟨384 + x2.val, by omega⟩ _ (by show 896 + x2.val = 512 + (384 + x2.val); omega) rfl _ _ _ _ _ _ _ _ _ _ _ _ _ _ rfl rfl rfl rfl rfl ?_ ?_ ?_ ?_
    · exact slab7 (CL t) (CR t) (UU m c t) _ _ _ _ 6 _ _ (by omega) x1 x2
    · exact slab7 (CL t) (CR t) (UU m c t) _ _ _ _ 7 _ _ (by omega) x1 x2
    · exact slab7 (CL t) (CR t) (UU m c t) _ _ _ _ 8 _ _ (by omega) x1 x2
    · exact slab7 (CL t) (CR t) (UU m c t) _ _ _ _ 9 _ _ (by omega) x1 x2
  · idx_vars x
    have he : ((View.whole main_v16_1).slice (win0_12.rect t)).emb y =
        (ix3 ⟨t.val % 8, by omega⟩ ⟨t.val / 8 * 512 + x1.val, by have := tile_lt t; omega⟩ ⟨768 + x2.val, by omega⟩ : S8x4096x3072.Idx) := by
      blk_ext [idx t]
    refine Eq.trans ?_ (congrArg (REFX m c) he.symm)
    obtain rfl : x0 = 0 := Subsingleton.elim (α := Fin 1) _ _
    refine (congrFun (out6 _ _ _ _ _ _ _ _ _) _).trans ?_
    refine conv_tile m c t 512 768 inb_S1024x3072_S1024x512_0_512 x1 x2 ⟨256 + x2.val, by omega⟩ _ (by show 768 + x2.val = 512 + (256 + x2.val); omega) rfl _ _ _ _ _ _ _ _ _ _ _ _ _ _ rfl rfl rfl rfl rfl ?_ ?_ ?_ ?_
    · rw [View.readCov_skip _ _ _ _ _ (by rfl), View.readCov_skip _ _ _ _ _ (by rfl), View.readCov_skip _ _ _ _ _ (by rfl)]; exact slab6 (CL t) (CR t) (UU m c t) _ _ _ _ 6 _ _ (by omega) x1 x2
    · rw [View.readCov_skip _ _ _ _ _ (by rfl), View.readCov_skip _ _ _ _ _ (by rfl), View.readCov_skip _ _ _ _ _ (by rfl)]; exact slab6 (CL t) (CR t) (UU m c t) _ _ _ _ 7 _ _ (by omega) x1 x2
    · rw [View.readCov_skip _ _ _ _ _ (by rfl), View.readCov_skip _ _ _ _ _ (by rfl), View.readCov_skip _ _ _ _ _ (by rfl)]; exact slab6 (CL t) (CR t) (UU m c t) _ _ _ _ 8 _ _ (by omega) x1 x2
    · rw [View.readCov_skip _ _ _ _ _ (by rfl), View.readCov_skip _ _ _ _ _ (by rfl), View.readCov_skip _ _ _ _ _ (by rfl)]; exact slab6 (CL t) (CR t) (UU m c t) _ _ _ _ 9 _ _ (by omega) x1 x2
  · idx_vars x
    have he : ((View.whole main_v16_1).slice (win0_12.rect t)).emb y =
        (ix3 ⟨t.val % 8, by omega⟩ ⟨t.val / 8 * 512 + x1.val, by have := tile_lt t; omega⟩ ⟨640 + x2.val, by omega⟩ : S8x4096x3072.Idx) := by
      blk_ext [idx t]
    refine Eq.trans ?_ (congrArg (REFX m c) he.symm)
    obtain rfl : x0 = 0 := Subsingleton.elim (α := Fin 1) _ _
    refine (congrFun (out5 _ _ _ _ _ _ _ _ _) _).trans ?_
    refine conv_tile m c t 512 640 inb_S1024x3072_S1024x512_0_512 x1 x2 ⟨128 + x2.val, by omega⟩ _ (by show 640 + x2.val = 512 + (128 + x2.val); omega) rfl _ _ _ _ _ _ _ _ _ _ _ _ _ _ rfl rfl rfl rfl rfl ?_ ?_ ?_ ?_
    · rw [View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl)]; exact slab5 (CL t) (CR t) (UU m c t) _ _ _ _ 6 _ _ (by omega) x1 x2
    · rw [View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl)]; exact slab5 (CL t) (CR t) (UU m c t) _ _ _ _ 7 _ _ (by omega) x1 x2
    · rw [View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl)]; exact slab5 (CL t) (CR t) (UU m c t) _ _ _ _ 8 _ _ (by omega) x1 x2
    · rw [View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl)]; exact slab5 (CL t) (CR t) (UU m c t) _ _ _ _ 9 _ _ (by omega) x1 x2
  · idx_vars x
    have he : ((View.whole main_v16_1).slice (win0_12.rect t)).emb y =
        (ix3 ⟨t.val % 8, by omega⟩ ⟨t.val / 8 * 512 + x1.val, by have := tile_lt t; omega⟩ ⟨512 + x2.val, by omega⟩ : S8x4096x3072.Idx) := by
      blk_ext [idx t]
    refine Eq.trans ?_ (congrArg (REFX m c) he.symm)
    obtain rfl : x0 = 0 := Subsingleton.elim (α := Fin 1) _ _
    refine (congrFun (out4 _ _ _ _ _ _ _ _ _) _).trans ?_
    refine conv_tile m c t 512 512 inb_S1024x3072_S1024x512_0_512 x1 x2 ⟨x2.val, by omega⟩ _ (by show 512 + x2.val = 512 + (x2.val); omega) rfl _ _ _ _ _ _ _ _ _ _ _ _ _ _ rfl rfl rfl rfl rfl ?_ ?_ ?_ ?_
    · rw [View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl)]; exact slab4 (CL t) (CR t) (UU m c t) _ _ _ _ 6 _ _ (by omega) x1 x2
    · rw [View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl)]; exact slab4 (CL t) (CR t) (UU m c t) _ _ _ _ 7 _ _ (by omega) x1 x2
    · rw [View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl)]; exact slab4 (CL t) (CR t) (UU m c t) _ _ _ _ 8 _ _ (by omega) x1 x2
    · rw [View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl)]; exact slab4 (CL t) (CR t) (UU m c t) _ _ _ _ 9 _ _ (by omega) x1 x2
  · idx_vars x
    have he : ((View.whole main_v16_1).slice (win0_12.rect t)).emb y =
        (ix3 ⟨t.val % 8, by omega⟩ ⟨t.val / 8 * 512 + x1.val, by have := tile_lt t; omega⟩ ⟨384 + x2.val, by omega⟩ : S8x4096x3072.Idx) := by
      blk_ext [idx t]
    refine Eq.trans ?_ (congrArg (REFX m c) he.symm)
    obtain rfl : x0 = 0 := Subsingleton.elim (α := Fin 1) _ _
    refine (congrFun (out3 _ _ _ _ _ _ _ _ _) _).trans ?_
    refine conv_tile m c t 0 384 inb_S1024x3072_S1024x512_0_0 x1 x2 ⟨384 + x2.val, by omega⟩ _ (by show 384 + x2.val = 0 + (384 + x2.val); omega) rfl _ _ _ _ _ _ _ _ _ _ _ _ _ _ rfl rfl rfl rfl rfl ?_ ?_ ?_ ?_
    · exact slab3 (CL t) (CR t) (UU m c t) _ _ _ _ 6 _ _ (by omega) x1 x2
    · exact slab3 (CL t) (CR t) (UU m c t) _ _ _ _ 7 _ _ (by omega) x1 x2
    · exact slab3 (CL t) (CR t) (UU m c t) _ _ _ _ 8 _ _ (by omega) x1 x2
    · exact slab3 (CL t) (CR t) (UU m c t) _ _ _ _ 9 _ _ (by omega) x1 x2
  · idx_vars x
    have he : ((View.whole main_v16_1).slice (win0_12.rect t)).emb y =
        (ix3 ⟨t.val % 8, by omega⟩ ⟨t.val / 8 * 512 + x1.val, by have := tile_lt t; omega⟩ ⟨256 + x2.val, by omega⟩ : S8x4096x3072.Idx) := by
      blk_ext [idx t]
    refine Eq.trans ?_ (congrArg (REFX m c) he.symm)
    obtain rfl : x0 = 0 := Subsingleton.elim (α := Fin 1) _ _
    refine (congrFun (out2 _ _ _ _ _ _ _ _ _) _).trans ?_
    refine conv_tile m c t 0 256 inb_S1024x3072_S1024x512_0_0 x1 x2 ⟨256 + x2.val, by omega⟩ _ (by show 256 + x2.val = 0 + (256 + x2.val); omega) rfl _ _ _ _ _ _ _ _ _ _ _ _ _ _ rfl rfl rfl rfl rfl ?_ ?_ ?_ ?_
    · rw [View.readCov_skip _ _ _ _ _ (by rfl), View.readCov_skip _ _ _ _ _ (by rfl), View.readCov_skip _ _ _ _ _ (by rfl)]; exact slab2 (CL t) (CR t) (UU m c t) _ _ _ _ 6 _ _ (by omega) x1 x2
    · rw [View.readCov_skip _ _ _ _ _ (by rfl), View.readCov_skip _ _ _ _ _ (by rfl), View.readCov_skip _ _ _ _ _ (by rfl)]; exact slab2 (CL t) (CR t) (UU m c t) _ _ _ _ 7 _ _ (by omega) x1 x2
    · rw [View.readCov_skip _ _ _ _ _ (by rfl), View.readCov_skip _ _ _ _ _ (by rfl), View.readCov_skip _ _ _ _ _ (by rfl)]; exact slab2 (CL t) (CR t) (UU m c t) _ _ _ _ 8 _ _ (by omega) x1 x2
    · rw [View.readCov_skip _ _ _ _ _ (by rfl), View.readCov_skip _ _ _ _ _ (by rfl), View.readCov_skip _ _ _ _ _ (by rfl)]; exact slab2 (CL t) (CR t) (UU m c t) _ _ _ _ 9 _ _ (by omega) x1 x2
  · idx_vars x
    have he : ((View.whole main_v16_1).slice (win0_12.rect t)).emb y =
        (ix3 ⟨t.val % 8, by omega⟩ ⟨t.val / 8 * 512 + x1.val, by have := tile_lt t; omega⟩ ⟨128 + x2.val, by omega⟩ : S8x4096x3072.Idx) := by
      blk_ext [idx t]
    refine Eq.trans ?_ (congrArg (REFX m c) he.symm)
    obtain rfl : x0 = 0 := Subsingleton.elim (α := Fin 1) _ _
    refine (congrFun (out1 _ _ _ _ _ _ _ _ _) _).trans ?_
    refine conv_tile m c t 0 128 inb_S1024x3072_S1024x512_0_0 x1 x2 ⟨128 + x2.val, by omega⟩ _ (by show 128 + x2.val = 0 + (128 + x2.val); omega) rfl _ _ _ _ _ _ _ _ _ _ _ _ _ _ rfl rfl rfl rfl rfl ?_ ?_ ?_ ?_
    · rw [View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl)]; exact slab1 (CL t) (CR t) (UU m c t) _ _ _ _ 6 _ _ (by omega) x1 x2
    · rw [View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl)]; exact slab1 (CL t) (CR t) (UU m c t) _ _ _ _ 7 _ _ (by omega) x1 x2
    · rw [View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl)]; exact slab1 (CL t) (CR t) (UU m c t) _ _ _ _ 8 _ _ (by omega) x1 x2
    · rw [View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl)]; exact slab1 (CL t) (CR t) (UU m c t) _ _ _ _ 9 _ _ (by omega) x1 x2
  · idx_vars x
    have he : ((View.whole main_v16_1).slice (win0_12.rect t)).emb y =
        (ix3 ⟨t.val % 8, by omega⟩ ⟨t.val / 8 * 512 + x1.val, by have := tile_lt t; omega⟩ ⟨0 + x2.val, by omega⟩ : S8x4096x3072.Idx) := by
      blk_ext [idx t]
    refine Eq.trans ?_ (congrArg (REFX m c) he.symm)
    obtain rfl : x0 = 0 := Subsingleton.elim (α := Fin 1) _ _
    refine (congrFun (out0 _ _ _ _ _ _ _ _ _) _).trans ?_
    refine conv_tile m c t 0 0 inb_S1024x3072_S1024x512_0_0 x1 x2 ⟨x2.val, by omega⟩ _ (by show 0 + x2.val = 0 + (x2.val); omega) (by show 0 + x2.val = 0 + x2.val; rfl) _ _ _ _ _ _ _ _ _ _ _ _ _ _ rfl rfl rfl rfl rfl ?_ ?_ ?_ ?_
    · rw [View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl)]; exact slab0 (CL t) (CR t) (UU m c t) _ _ _ _ 6 _ _ (by omega) x1 x2
    · rw [View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl)]; exact slab0 (CL t) (CR t) (UU m c t) _ _ _ _ 7 _ _ (by omega) x1 x2
    · rw [View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl)]; exact slab0 (CL t) (CR t) (UU m c t) _ _ _ _ 8 _ _ (by omega) x1 x2
    · rw [View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl)]; exact slab0 (CL t) (CR t) (UU m c t) _ _ _ _ 9 _ _ (by omega) x1 x2

end Cert.Proof.Inproj

end
-- ==== Proof.Inproj.Claim.lean ====
module

public import proofs.«01_k».proof.Defs
public import proofs.«01_k».proof.Proof.Gen.Kernel2.Frame
public import proofs.«01_k».proof.Proof.Gen.Reference2Ideal.Run
public import proofs.«01_k».proof.Proof.Inproj.Gate
public import proofs.«01_k».proof.Proof.Inproj.Scan

@[expose] public section

set_option maxRecDepth 16384

noncomputable section

namespace Cert.Proof.Inproj

open Idealize.ShloMosaic Idealize.SL.Sem

/-- The kernel terminates without a fault, leaves its arguments as they are and every semaphore at zero. -/
theorem frame_kernel : Cert.quiescent_Kernel2 (hKernel2 := Cert.Kernel2.Gen.facts) :=
  fun m ρ _ => Cert.Kernel2.Gen.frame m ρ

/-- The same of the kernel over the reals with infinities. -/
theorem frame_ideal : Cert.quiescent_Kernel2Ideal (hKernel2Ideal := Cert.Kernel2Ideal.Gen.facts) :=
  fun m ρ _ => Cert.Kernel2Ideal.Gen.frame m ρ

/-- The reference, a line of host operations without a semaphore, leaves its arguments as they are. -/
theorem frame_reference : Cert.quiescent_Reference2Ideal (hReference2Ideal := Cert.Reference2Ideal.Gen.facts) :=
  fun m ρ _ => (θ_run Cert.Reference2Ideal.defs _ _).mono
    (fun r h => ⟨fun c => (h c).2.2.2, Idealize.ShloMosaic.sem_eq_zero_of_no_sems (by decide) r.2⟩)
    (Cert.Reference2Ideal.Value.run m ρ)

set_option maxHeartbeats 1600000 in
/-- Over the reals with infinities, kernel and reference compute the same three arrays from the same arguments: the gate, the
scan's convolved input and its steps. -/
theorem algebraic : Cert.algebraic_Kernel2Ideal_Reference2Ideal (hKernel2Ideal := Cert.Kernel2Ideal.Gen.facts)
    (hReference2Ideal := Cert.Reference2Ideal.Gen.facts) := by
  pair_intro
  · run_from Cert.Kernel2Ideal.Gen.run_main m g & Cert.Kernel2Ideal.Gen.unchanged m g
  · run_from Cert.Reference2Ideal.Value.run m' g'
    all_goals obtain ⟨h0, h1, h2, h3, h4, h5, h6⟩ := hagree c
    · refine ((res_eq m' c).trans ?_).trans (final_gate m c).symm
      rw [h0, h1, h2, h3]
    · refine ((res_eq1 m' c).trans ?_).trans (final_scan m c).symm
      rw [h0, h1, h2, h3, h4, h5]
    · refine ((res_eq2 m' c).trans ?_).trans (final_step m c).symm
      rw [h0, h1, h2, h3, h6]

end Cert.Proof.Inproj

end
-- ==== Proof.Outproj.Row.lean ====
module

public import proofs.«01_k».proof.Proof.Finish.Row
public import proofs.«01_k».proof.Proof.Shared.Silu

@[expose] public section

noncomputable section

namespace Cert.Proof.Outproj

open Idealize.ShloMosaic Idealize.SL.Sem
open Cert.Proof.Finish (rms resid)

/-- One entry of the recurrent path: both scans, times the gate's silu. -/
def entR (a b g : EReal) : EReal := (a + b) * silu g

/-- One entry of the attention's path: the normed head, times the gate's silu. -/
def entD (o g : EReal) : EReal := o * silu g

/-- Channel `l` of chunk `c` of a path's 512 channels. -/
def ch (c : Fin 2) (l : Fin 256) : Fin 512 := ⟨c.val * 256 + l.val, by omega⟩

/-- A channel of the first path among the projection's 1024 rows. -/
def lo (k : Fin 512) : Fin 1024 := ⟨k.val, by omega⟩

/-- A channel of the second path among the projection's 1024 rows. -/
def hi (k : Fin 512) : Fin 1024 := ⟨512 + k.val, by omega⟩

/-- A chunk of the first path times its rows of the weights. -/
def partR (u : Fin 512 → EReal) (W : Fin 1024 → Fin 1024 → EReal) (c : Fin 2) (d : Fin 1024) : EReal :=
  ∑ l : Fin 256, u (ch c l) * W (lo (ch c l)) d

/-- A chunk of the second path times its rows of the weights. -/
def partD (v : Fin 512 → EReal) (W : Fin 1024 → Fin 1024 → EReal) (c : Fin 2) (d : Fin 1024) : EReal :=
  ∑ l : Fin 256, v (ch c l) * W (hi (ch c l)) d

/-- The projected row: both paths, chunk by chunk. -/
def proj (u v : Fin 512 → EReal) (W : Fin 1024 → Fin 1024 → EReal) (d : Fin 1024) : EReal :=
  partR u W 0 d + partR u W 1 d + (partD v W 0 d + partD v W 1 d)

/-- A result entry of the whole call, from the row's operands. -/
def entry (a b g o q : Fin 512 → EReal) (W : Fin 1024 → Fin 1024 → EReal) (h gt p : EReal) (d : Fin 1024) : EReal :=
  resid (proj (fun k => entR (a k) (b k) (g k)) (fun k => entD (o k) (q k)) W) h gt p d

end Cert.Proof.Outproj

end
-- ==== Proof.Outproj.Body.lean ====
module

public import proofs.«01_k».proof.Proof.Gen.Kernel3Ideal.Skeleton
public import proofs.«01_k».proof.Proof.Outproj.Row

@[expose] public section

set_option maxRecDepth 16384

noncomputable section

namespace Cert.Proof.Outproj

open Idealize.ShloMosaic Idealize.SL.Sem
open Cert.Kernel3Ideal Cert.Kernel3Ideal.Gen
open Cert.Proof.Finish (rms resid)

/-- The recurrent path's block, read at a row and a channel. -/
theorem pay3_at (a b g : FVec Ideal S1x256x256 .bf16) (r l : Fin 256) :
    k0_pay3 (F := Ideal) a b g (ix2 r l) = entR (a (ix3 0 r l)) (b (ix3 0 r l)) (g (ix3 0 r l)) := by
  pointwise [k0_pay3]
  rw [half_word]
  exact congrArg _ (siluT_eq _)

/-- The attention path's block, read at a row and a channel. -/
theorem pay4_at (o q : FVec Ideal S1x256x256 .bf16) (r l : Fin 256) :
    k0_pay4 (F := Ideal) o q (ix2 r l) = entD (o (ix3 0 r l)) (q (ix3 0 r l)) := by
  pointwise [k0_pay4]
  rw [half_word]
  exact congrArg _ (siluT_eq _)

/-- Two chunks' products with their rows of the weights, added, read at an entry. -/
theorem pay5_at (A B : FVec Ideal S256x256 .bf16) (V W : FVec Ideal S256x1024 .bf16) (r : Fin 256) (d : Fin 1024) :
    k0_pay5 (F := Ideal) A B V W (ix2 r d) =
      ∑ l : Fin 256, A (ix2 r l) * V (ix2 l d) + ∑ l : Fin 256, B (ix2 r l) * W (ix2 l d) := by
  pointwise [k0_pay5]

/-- What one half of the block stores, read at an entry: the residual of the projected row. -/
theorem pay19_at (gt : FVec Ideal S1x1024 .f32) (o : FVec Ideal S256x1024 .f32) (h : FVec Ideal S1x256x1024 .f32)
    (g : FVec Ideal S1x1024 .f32) (u : Fin 1) (r : Fin 256) (d : Fin 1024) :
    k0_pay19 (F := Ideal) gt o h g (ix3 u r d) =
      resid (fun k : Fin 1024 => o (ix2 r k)) (h (ix3 0 r d)) (gt (ix2 0 d)) (g (ix2 0 d)) d := by
  pointwise [k0_pay19]
  rfl

/-- The second half is stored by the same operations. -/
theorem pay1_eq (gt : FVec Ideal S1x1024 .f32) (o : FVec Ideal S256x1024 .f32) (h : FVec Ideal S1x256x1024 .f32)
    (g : FVec Ideal S1x1024 .f32) : k0_pay1 (F := Ideal) gt o h g = k0_pay19 (F := Ideal) gt o h g := rfl

/-- One chunk of both paths, from the loaded blocks. -/
def grp (a b g o q : FVec Ideal S1x256x256 .bf16) (V W : FVec Ideal S256x1024 .bf16) : FVec Ideal S256x1024 .f32 :=
  k0_pay5 (F := Ideal) (k0_pay3 (F := Ideal) a b g) (k0_pay4 (F := Ideal) o q) V W

/-- Two chunks, added: the projected rows of one half of the block. -/
def sum2 (s t : FVec Ideal S256x1024 .f32) : FVec Ideal S256x1024 .f32 := addf s t

theorem sum2_at (s t : FVec Ideal S256x1024 .f32) (i : S256x1024.Idx) : sum2 s t i = s i + t i := by
  pointwise [sum2]

/-- The payloads of the first half are the two chunks, added. -/
theorem acc_eq {a0 b0 g0 o0 q0 a1 b1 g1 o1 q1 : FVec Ideal S1x256x256 .bf16} {V0 W0 V1 W1 : FVec Ideal S256x1024 .bf16} :
    k0_pay14 (F := Ideal) (k0_pay5 (F := Ideal) (k0_pay3 (F := Ideal) a0 b0 g0) (k0_pay4 (F := Ideal) o0 q0) V0 W0)
      (k0_pay10 (F := Ideal) a1 b1 g1) (k0_pay11 (F := Ideal) o1) (k0_pay12 (F := Ideal) q1) (k0_pay13 (F := Ideal) q1) V1 W1 =
    sum2 (grp a0 b0 g0 o0 q0 V0 W0) (grp a1 b1 g1 o1 q1 V1 W1) := rfl

/-- The payloads of the second half likewise. -/
theorem acc_eq' {a0 b0 g0 o0 q0 a1 b1 g1 o1 q1 : FVec Ideal S1x256x256 .bf16} {V0 W0 V1 W1 : FVec Ideal S256x1024 .bf16} :
    k0_pay18 (F := Ideal) (k0_pay9 (F := Ideal) (k0_pay6 (F := Ideal) a0 b0 g0) (k0_pay7 (F := Ideal) o0) (k0_pay8 (F := Ideal) q0) V0 W0)
      (k0_pay15 (F := Ideal) a1 b1 g1) (k0_pay16 (F := Ideal) o1) (k0_pay17 (F := Ideal) q1) V1 W1 =
    sum2 (grp a0 b0 g0 o0 q0 V0 W0) (grp a1 b1 g1 o1 q1 V1 W1) := rfl

/-- One chunk read at an entry, the loaded blocks being chunk `c` of the row's operands. -/
theorem grp_at {a b g o q : Fin 512 → EReal} {W : Fin 1024 → Fin 1024 → EReal} (c : Fin 2) (r : Fin 256)
    {va vb vg vo vq : FVec Ideal S1x256x256 .bf16} {vV vW : FVec Ideal S256x1024 .bf16}
    (ha : ∀ l, va (ix3 0 r l) = a (ch c l)) (hb : ∀ l, vb (ix3 0 r l) = b (ch c l))
    (hg : ∀ l, vg (ix3 0 r l) = g (ch c l)) (ho : ∀ l, vo (ix3 0 r l) = o (ch c l))
    (hq : ∀ l, vq (ix3 0 r l) = q (ch c l)) (hV : ∀ l d, vV (ix2 l d) = W (lo (ch c l)) d)
    (hW : ∀ l d, vW (ix2 l d) = W (hi (ch c l)) d) (d : Fin 1024) :
    grp va vb vg vo vq vV vW (ix2 r d) =
      partR (fun k => entR (a k) (b k) (g k)) W c d + partD (fun k => entD (o k) (q k)) W c d := by
  unfold grp partR partD
  rw [pay5_at]
  simp only [pay3_at, pay4_at, ha, hb, hg, ho, hq, hV, hW]

/-- One half of a block at an entry, its chunks being those of one row: the call's result entry. -/
theorem half_at {a b g o q : Fin 512 → EReal} {W : Fin 1024 → Fin 1024 → EReal} {h gt p : EReal} (u : Fin 1) (r : Fin 256)
    (d : Fin 1024) {t0 t1 : FVec Ideal S256x1024 .f32} {vh : FVec Ideal S1x256x1024 .f32} {vgt vp : FVec Ideal S1x1024 .f32}
    (h0 : ∀ d, t0 (ix2 r d) = partR (fun k => entR (a k) (b k) (g k)) W 0 d + partD (fun k => entD (o k) (q k)) W 0 d)
    (h1 : ∀ d, t1 (ix2 r d) = partR (fun k => entR (a k) (b k) (g k)) W 1 d + partD (fun k => entD (o k) (q k)) W 1 d)
    (hh : vh (ix3 0 r d) = h) (hgt : vgt (ix2 0 d) = gt) (hp : vp (ix2 0 d) = p) :
    k0_pay19 (F := Ideal) vgt (sum2 t0 t1) vh vp (ix3 u r d) = entry a b g o q W h gt p d := by
  rw [pay19_at, hh, hgt, hp]
  unfold entry
  congr 1
  funext k
  rw [sum2_at, h0, h1]
  exact add_add_add_comm _ _ _ _

end Cert.Proof.Outproj

end
-- ==== Proof.Outproj.RefRow.lean ====
module

public import proofs.«01_k».proof.Proof.Gen.Reference3Ideal.Run
public import proofs.«01_k».proof.Proof.Outproj.Row

@[expose] public section

set_option maxRecDepth 16384

noncomputable section

namespace Cert.Proof.Outproj

open Idealize.ShloMosaic Idealize.ShloMosaic.TcCoe Idealize.SL.Sem
open Cert.Reference3Ideal Cert.Reference3Ideal.Gen
open Cert.Proof.Finish (rms resid)

/-- The reference's gate: the silu of a gate's array. -/
def refSilu (g : FVec Ideal S8x4096x512 .bf16) : FVec Ideal S8x4096x512 .f32 :=
  mulf (extf .f32 g bitsLt_bf16_f32) (Host.divf (broadcastInDim S8x4096x512 ![] bcast_S_S8x4096x512 (constant S_ .f32 0x3F800000#32))
    (addf (broadcastInDim S8x4096x512 ![] bcast_S_S8x4096x512 (constant S_ .f32 0x3F800000#32)) (Host.exp (Host.negf (extf .f32 g bitsLt_bf16_f32)))))

/-- The reference's recurrent path. -/
def refR (hf hb : FVec Ideal S8x4352x512 .bf16) (g : FVec Ideal S8x4096x512 .bf16) : FVec Ideal S8x4096x512 .f32 :=
  mulf (addf (extf .f32 (extractStridedSlice S8x4096x512 ![0, 256, 0] hf slices_S8x4352x512_S8x4096x512_0_256_0) bitsLt_bf16_f32)
    (extf .f32 (extractStridedSlice S8x4096x512 ![0, 256, 0] hb slices_S8x4352x512_S8x4096x512_0_256_0) bitsLt_bf16_f32)) (refSilu g)

/-- The reference's attention path. -/
def refD (o q : FVec Ideal S8x4096x512 .bf16) : FVec Ideal S8x4096x512 .f32 :=
  mulf (extf .f32 o bitsLt_bf16_f32) (refSilu q)

/-- The reference's two paths side by side. -/
def refY (u v : FVec Ideal S8x4096x512 .f32) : FVec Ideal S8x4096x1024 .f32 :=
  concatenate S8x4096x1024 2 [⟨S8x4096x512, u⟩, ⟨S8x4096x512, v⟩] concatenates_S8x4096x512_S8x4096x512_S8x4096x1024_d2

/-- The reference's output projection. -/
def refProj (y : FVec Ideal S8x4096x1024 .f32) (w : FVec Ideal S1x1024x1024 .f32) : FVec Ideal S8x4096x1024 .f32 :=
  Host.dotGeneral dot_S8x4096x1024_S1024x1024_S8x4096x1024_2_0_01_1_n_n none y (shapeCast _ w shapeCasts_S1x1024x1024_S1024x1024)

/-- The reference's normalisation, gate and residual. -/
def refRes (o h : FVec Ideal S8x4096x1024 .f32) (mod : FVec Ideal S2x16x3072 .f32) (gp : FVec Ideal S2x1024 .f32) :
    FVec Ideal S8x4096x1024 .f32 :=
  addf h (mulf (broadcastInDim S8x4096x1024 ![0, 1, 2] bcast_S8x1x1024_S8x4096x1024_0_1_2 (broadcastInDim S8x1x1024 ![0, 2] bcast_S8x1024_S8x1x1024_0_2 (extractStridedSlice S8x1024 ![0, 2048] (shapeCast _ (extractStridedSlice S1x8x3072 ![0, 0, 0] mod slices_S2x16x3072_S1x8x3072_0_0_0) shapeCasts_S1x8x3072_S8x3072) slices_S8x3072_S8x1024_0_2048)))
    (mulf (mulf o (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf o o) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32))))))
      (broadcastInDim S8x4096x1024 ![0, 1, 2] bcast_S1x1x1024_S8x4096x1024_0_1_2 (broadcastInDim S1x1x1024 ![2] bcast_S1024_S1x1x1024_2 (shapeCast _ (extractStridedSlice S1x1024 ![0, 0] gp slices_S2x1024_S1x1024_0_0) shapeCasts_S1x1024_S1024)))))

/-- The recurrent path read at a channel. -/
theorem refR_at (hf hb : FVec Ideal S8x4352x512 .bf16) (g : FVec Ideal S8x4096x512 .bf16) (b : Fin 8) (t : Fin 4096) (k : Fin 512) :
    refR hf hb g (ix3 b t k) = entR (hf (ix3 b ⟨256 + t.val, by omega⟩ k)) (hb (ix3 b ⟨256 + t.val, by omega⟩ k)) (g (ix3 b t k)) := by
  pointwise [refR, refSilu]
  rfl

/-- The attention path read at a channel. -/
theorem refD_at (o q : FVec Ideal S8x4096x512 .bf16) (b : Fin 8) (t : Fin 4096) (k : Fin 512) :
    refD o q (ix3 b t k) = entD (o (ix3 b t k)) (q (ix3 b t k)) := by
  pointwise [refD, refSilu]
  rfl

/-- The first 512 channels are the recurrent path's. -/
theorem refY_lo (u v : FVec Ideal S8x4096x512 .f32) (b : Fin 8) (t : Fin 4096) (k : Fin 512) :
    refY u v (ix3 b t (lo k)) = u (ix3 b t k) := by
  have h : (lo k).val < 512 := k.isLt
  pointwise [refY, h]
  rfl

/-- The last 512 channels are the attention path's. -/
theorem refY_hi (u v : FVec Ideal S8x4096x512 .f32) (b : Fin 8) (t : Fin 4096) (k : Fin 512) :
    refY u v (ix3 b t (hi k)) = v (ix3 b t k) := by
  have h : ¬ (hi k).val < 512 := by simp only [hi]; omega
  pointwise [refY, h]
  exact congrArg (fun j => v (ix3 b t j)) (Fin.ext (by simp [hi]))

/-- The projection read at an entry, its rows path by path and chunk by chunk. -/
theorem refProj_at (u v : FVec Ideal S8x4096x512 .f32) (w : FVec Ideal S1x1024x1024 .f32) (b : Fin 8) (t : Fin 4096)
    (d : Fin 1024) :
    refProj (refY u v) w (ix3 b t d) =
      proj (fun k => u (ix3 b t k)) (fun k => v (ix3 b t k)) (fun k e => w (ix3 0 k e)) d := by
  have e : refProj (refY u v) w (ix3 b t d) = ∑ c : Fin 4, ∑ l : Fin 256,
      refY u v (ix3 b t ⟨c.val * 256 + l.val, by omega⟩) * w (ix3 0 ⟨c.val * 256 + l.val, by omega⟩ d) := by
    pointwise [refProj]
    exact Fin.sum_univ_tiles 4 256 rfl fun k : Fin 1024 => refY u v (ix3 b t k) * w (ix3 0 k d)
  rw [e, Fin.sum_univ_four, add_assoc (_ + _)]
  unfold proj partR partD
  have k0 : ∀ l : Fin 256, (⟨(0 : Fin 4).val * 256 + l.val, by omega⟩ : Fin 1024) = lo (ch 0 l) := fun l => Fin.ext (by simp [lo, ch])
  have k1 : ∀ l : Fin 256, (⟨(1 : Fin 4).val * 256 + l.val, by omega⟩ : Fin 1024) = lo (ch 1 l) := fun l => Fin.ext (by simp [lo, ch])
  have k2 : ∀ l : Fin 256, (⟨(2 : Fin 4).val * 256 + l.val, by omega⟩ : Fin 1024) = hi (ch 0 l) := fun l => Fin.ext (by simp [hi, ch])
  have k3 : ∀ l : Fin 256, (⟨(3 : Fin 4).val * 256 + l.val, by omega⟩ : Fin 1024) = hi (ch 1 l) := fun l => Fin.ext (by simp [hi, ch]; omega)
  simp only [k0, k1, k2, k3, refY_lo, refY_hi]

/-- The residual read at an entry. -/
theorem refRes_at (o h : FVec Ideal S8x4096x1024 .f32) (mod : FVec Ideal S2x16x3072 .f32) (gp : FVec Ideal S2x1024 .f32)
    (b : Fin 8) (t : Fin 4096) (d : Fin 1024) :
    refRes o h mod gp (ix3 b t d) =
      resid (fun k : Fin 1024 => o (ix3 b t k)) (h (ix3 b t d))
        (mod (ix3 0 ⟨b.val, by omega⟩ ⟨2048 + d.val, by omega⟩)) (gp (ix2 0 d)) d := by
  pointwise [refRes]
  rfl

/-- The reference's whole result in the pieces above. -/
theorem res_eq (m : (ℓ : Loc nD τ sig) → Buf (Elt Ideal) ℓ) (c : Dev nD) :
    Cert.Reference3Ideal.Value.res_out0 (F := Ideal) m c =
      refRes (refProj (refY (refR (m ((c.tc : Thread nD τ).loc main_arg0)) (m ((c.tc : Thread nD τ).loc main_arg1))
        (m ((c.tc : Thread nD τ).loc main_arg2))) (refD (m ((c.tc : Thread nD τ).loc main_arg3)) (m ((c.tc : Thread nD τ).loc main_arg4))))
        (m ((c.tc : Thread nD τ).loc main_arg8)))
        (m ((c.tc : Thread nD τ).loc main_arg5)) (m ((c.tc : Thread nD τ).loc main_arg6)) (m ((c.tc : Thread nD τ).loc main_arg7)) := rfl

/-- THE REFERENCE AT AN ENTRY: the call's result entry of its arguments. -/
theorem ref_at (hf hb : FVec Ideal S8x4352x512 .bf16) (g o q : FVec Ideal S8x4096x512 .bf16)
    (h : FVec Ideal S8x4096x1024 .f32) (mod : FVec Ideal S2x16x3072 .f32)
    (gp : FVec Ideal S2x1024 .f32) (w : FVec Ideal S1x1024x1024 .f32) (b : Fin 8) (t : Fin 4096) (d : Fin 1024) :
    refRes (refProj (refY (refR hf hb g) (refD o q)) w) h mod gp (ix3 b t d) =
      entry (fun k => hf (ix3 b ⟨256 + t.val, by omega⟩ k)) (fun k => hb (ix3 b ⟨256 + t.val, by omega⟩ k))
        (fun k => g (ix3 b t k)) (fun k => o (ix3 b t k)) (fun k => q (ix3 b t k)) (fun k e => w (ix3 0 k e)) (h (ix3 b t d))
        (mod (ix3 0 ⟨b.val, by omega⟩ ⟨2048 + d.val, by omega⟩)) (gp (ix2 0 d)) d := by
  rw [refRes_at]
  simp only [refProj_at, refR_at, refD_at]
  rfl

end Cert.Proof.Outproj

end
-- ==== Proof.Outproj.Reads.lean ====
module

public import proofs.«01_k».proof.Proof.Gen.Kernel3Ideal.Value
public import Idealize.ShloMosaic.Lib.Claim
public import Idealize.ShloMosaic.Lib.Pipeline.ValueKit

@[expose] public section

set_option maxRecDepth 16384

noncomputable section

namespace Cert.Proof.Outproj

open Idealize.ShloMosaic Idealize.ShloMosaic.TcCoe Idealize.SL.Sem
open Idealize.ShloMosaic.Pipeline (Dat)
open Cert.Kernel3Ideal Cert.Kernel3Ideal.Gen

variable (m : (ℓ : Loc nD τ sig) → Buf (Elt Ideal) ℓ)

/-- The block each window reads or writes at a grid point: row tile `t / 8` of batch `t % 8`. -/
theorem idx : ∀ t : Fin cfg0.N, win0_0.index t = ![t.val % 8, 256 + t.val / 8 * 512, 0] ∧
    win0_1.index t = ![t.val % 8, 256 + t.val / 8 * 512, 0] ∧ win0_2.index t = ![t.val % 8, t.val / 8, 0] ∧
    win0_3.index t = ![t.val % 8, t.val / 8, 0] ∧ win0_4.index t = ![t.val % 8, t.val / 8, 0] ∧
    win0_5.index t = ![t.val % 8, t.val / 8, 0] ∧ win0_6.index t = ![t.val % 8, 0, 0] ∧ win0_7.index t = ![0, 0] ∧
    win0_8.index t = ![0, 0] ∧ win0_9.index t = ![t.val % 8, t.val / 8, 0] ∧ t.val / 8 < 8 :=
  (by decide +kernel : ∀ t : Fin grid0.N, _)

section reads
variable (c : Dev nD) (t : Fin cfg0.N)

/-- The grid point's row tile is one of 8. -/
theorem tile_lt : t.val / 8 < 8 := (idx t).2.2.2.2.2.2.2.2.2.2

/-- The first scan's window (element-indexed: rows start after the 256 context rows) at a row and a channel. -/
theorem rd0 (i : Fin 512) (j k : Fin 512) (h : j.val = k.val) : (iblk m c 0 t : FVec Ideal S1x512x512 .bf16) (ix3 0 i j) =
    (m ((c.tc : Thread nD τ).loc main_arg0) : FVec Ideal S8x4352x512 .bf16) (ix3 ⟨t.val % 8, by omega⟩ ⟨256 + (t.val / 8 * 512 + i.val), by have := tile_lt t; omega⟩ k) := by
  obtain rfl : j = k := Fin.ext h
  have h := (idx t).1
  blk_ext [iblk, V]
  · exact (Pipeline.Window.rect_emb_val_off win0_0 t (ix3 0 i j) 0).trans (by rw [h]; simp [Pipeline.WinKind.off])
  · exact (Pipeline.Window.rect_emb_val_off win0_0 t (ix3 0 i j) 1).trans (by rw [h]; simp [Pipeline.WinKind.off]; omega)
  · exact (Pipeline.Window.rect_emb_val_off win0_0 t (ix3 0 i j) 2).trans (by rw [h]; simp [Pipeline.WinKind.off])

/-- The second scan's window likewise. -/
theorem rd1 (i : Fin 512) (j k : Fin 512) (h : j.val = k.val) : (iblk m c 1 t : FVec Ideal S1x512x512 .bf16) (ix3 0 i j) =
    (m ((c.tc : Thread nD τ).loc main_arg1) : FVec Ideal S8x4352x512 .bf16) (ix3 ⟨t.val % 8, by omega⟩ ⟨256 + (t.val / 8 * 512 + i.val), by have := tile_lt t; omega⟩ k) := by
  obtain rfl : j = k := Fin.ext h
  have h := (idx t).2.1
  blk_ext [iblk, V]
  · exact (Pipeline.Window.rect_emb_val_off win0_1 t (ix3 0 i j) 0).trans (by rw [h]; simp [Pipeline.WinKind.off])
  · exact (Pipeline.Window.rect_emb_val_off win0_1 t (ix3 0 i j) 1).trans (by rw [h]; simp [Pipeline.WinKind.off]; omega)
  · exact (Pipeline.Window.rect_emb_val_off win0_1 t (ix3 0 i j) 2).trans (by rw [h]; simp [Pipeline.WinKind.off])

/-- The recurrent path's gate at a row and a channel. -/
theorem rd2 (i : Fin 512) (j k : Fin 512) (h : j.val = k.val) : (iblk m c 2 t : FVec Ideal S1x512x512 .bf16) (ix3 0 i j) =
    (m ((c.tc : Thread nD τ).loc main_arg2) : FVec Ideal S8x4096x512 .bf16) (ix3 ⟨t.val % 8, by omega⟩ ⟨t.val / 8 * 512 + i.val, by have := tile_lt t; omega⟩ k) := by
  obtain rfl : j = k := Fin.ext h
  blk_ext [iblk, V, idx t]

/-- The attention heads' window at a row and a channel. -/
theorem rd3 (i : Fin 512) (j k : Fin 512) (h : j.val = k.val) : (iblk m c 3 t : FVec Ideal S1x512x512 .bf16) (ix3 0 i j) =
    (m ((c.tc : Thread nD τ).loc main_arg3) : FVec Ideal S8x4096x512 .bf16) (ix3 ⟨t.val % 8, by omega⟩ ⟨t.val / 8 * 512 + i.val, by have := tile_lt t; omega⟩ k) := by
  obtain rfl : j = k := Fin.ext h
  blk_ext [iblk, V, idx t]

/-- The attention path's gate at a row and a channel. -/
theorem rd4 (i : Fin 512) (j k : Fin 512) (h : j.val = k.val) : (iblk m c 4 t : FVec Ideal S1x512x512 .bf16) (ix3 0 i j) =
    (m ((c.tc : Thread nD τ).loc main_arg4) : FVec Ideal S8x4096x512 .bf16) (ix3 ⟨t.val % 8, by omega⟩ ⟨t.val / 8 * 512 + i.val, by have := tile_lt t; omega⟩ k) := by
  obtain rfl : j = k := Fin.ext h
  blk_ext [iblk, V, idx t]

/-- The residual input's window at a row and a column. -/
theorem rd5 (i : Fin 512) (j k : Fin 1024) (h : j.val = k.val) : (iblk m c 5 t : FVec Ideal S1x512x1024 .f32) (ix3 0 i j) =
    (m ((c.tc : Thread nD τ).loc main_arg5) : FVec Ideal S8x4096x1024 .f32) (ix3 ⟨t.val % 8, by omega⟩ ⟨t.val / 8 * 512 + i.val, by have := tile_lt t; omega⟩ k) := by
  obtain rfl : j = k := Fin.ext h
  blk_ext [iblk, V, idx t]

/-- The modulation's window: the first layer's row of the batch. -/
theorem rd6 (j k : Fin 3072) (h : j.val = k.val) : (iblk m c 6 t : FVec Ideal S1x1x3072 .f32) (ix3 0 0 j) =
    (m ((c.tc : Thread nD τ).loc main_arg6) : FVec Ideal S2x16x3072 .f32) (ix3 0 ⟨t.val % 8, by omega⟩ k) := by
  obtain rfl : j = k := Fin.ext h
  blk_point [iblk, idx t]

/-- The norm's weights. -/
theorem rd7 (d : Fin 1024) : (iblk m c 7 t : FVec Ideal S1x1024 .f32) (ix2 0 d) =
    (m ((c.tc : Thread nD τ).loc main_arg7) : FVec Ideal S2x1024 .f32) (ix2 0 d) := by
  blk_point [iblk, idx t]

/-- The output projection's weights. -/
theorem rd8 (j k : Fin 1024) (d : Fin 1024) (h : j.val = k.val) : (iblk m c 8 t : FVec Ideal S1024x1024 .bf16) (ix2 j d) =
    (m ((c.tc : Thread nD τ).loc main_arg8) : FVec Ideal S1x1024x1024 .f32) (ix3 0 k d) := by
  obtain rfl : j = k := Fin.ext h
  blk_point [iblk, idx t]

end reads

end Cert.Proof.Outproj

end
-- ==== Proof.Outproj.Final.lean ====
module

public import proofs.«01_k».proof.Proof.Gen.Kernel3Ideal.Value
public import proofs.«01_k».proof.Proof.Outproj.Body
public import proofs.«01_k».proof.Proof.Outproj.RefRow
public import proofs.«01_k».proof.Proof.Outproj.Reads
public import Idealize.ShloMosaic.Lib.Claim
public import Idealize.ShloMosaic.Lib.Pipeline.ValueKit

@[expose] public section

set_option maxRecDepth 16384

noncomputable section

namespace Cert.Proof.Outproj

open Idealize.ShloMosaic Idealize.ShloMosaic.TcCoe Idealize.SL.Sem
open Idealize.ShloMosaic.Pipeline (Dat)
open Cert.Kernel3Ideal Cert.Kernel3Ideal.Gen

variable (m : (ℓ : Loc nD τ sig) → Buf (Elt Ideal) ℓ)

/-- The reference's result over the kernel's argument arrays. -/
abbrev REF (c : Dev nD) : FVec Ideal S8x4096x1024 .f32 :=
  refRes (refProj (refY (refR (m ((c.tc : Thread nD τ).loc main_arg0)) (m ((c.tc : Thread nD τ).loc main_arg1)) (m ((c.tc : Thread nD τ).loc main_arg2)))
    (refD (m ((c.tc : Thread nD τ).loc main_arg3)) (m ((c.tc : Thread nD τ).loc main_arg4)))) (m ((c.tc : Thread nD τ).loc main_arg8)))
    (m ((c.tc : Thread nD τ).loc main_arg5)) (m ((c.tc : Thread nD τ).loc main_arg6)) (m ((c.tc : Thread nD τ).loc main_arg7))

set_option maxHeartbeats 1600000 in
/-- THE RESULT ARRAY after the kernel's run is the reference's result of the same arguments. -/
theorem final (c : Dev nD) : (dats m 0 c).arrAt 9 (cfgs 0).N = REF m c := by
  refine (dats m 0 c).arrAt_eq_of_covers 9 _ (by decide +kernel) fun t _ y => ?_
  blk_simp
  rw [after0_9]
  unfold out0_9
  frame_out
  canon_tiles x h
  · idx_vars x
    have he : ((View.whole main_v8).slice (win0_9.rect t)).emb y =
        (ix3 ⟨t.val % 8, by omega⟩ ⟨t.val / 8 * 512 + (256 + x1.val), by have := tile_lt t; omega⟩ x2 : S8x4096x1024.Idx) := by
      blk_ext [idx t]
    rw [he, pay1_eq, acc_eq']
    refine Eq.trans ?_ (ref_at _ _ _ _ _ _ _ _ _ _ _ _).symm
    refine half_at x0 x1 x2 (grp_at 0 x1 ?_ ?_ ?_ ?_ ?_ ?_ ?_) (grp_at 1 x1 ?_ ?_ ?_ ?_ ?_ ?_ ?_) ?_ ?_ ?_
    · intro l; pointwise; exact rd0 m c t _ _ _ (by simp [ch])
    · intro l; pointwise; exact rd1 m c t _ _ _ (by simp [ch])
    · intro l; pointwise; exact rd2 m c t _ _ _ (by simp [ch])
    · intro l; pointwise; exact rd3 m c t _ _ _ (by simp [ch])
    · intro l; pointwise; exact rd4 m c t _ _ _ (by simp [ch])
    · intro l d; pointwise; exact rd8 m c t _ _ d (by simp [ch, lo])
    · intro l d; pointwise; exact rd8 m c t _ _ d (by simp [ch, hi] <;> omega)
    · intro l; pointwise; exact rd0 m c t _ _ _ (by simp [ch])
    · intro l; pointwise; exact rd1 m c t _ _ _ (by simp [ch])
    · intro l; pointwise; exact rd2 m c t _ _ _ (by simp [ch])
    · intro l; pointwise; exact rd3 m c t _ _ _ (by simp [ch])
    · intro l; pointwise; exact rd4 m c t _ _ _ (by simp [ch])
    · intro l d; pointwise; exact rd8 m c t _ _ d (by simp [ch, lo])
    · intro l d; pointwise; exact rd8 m c t _ _ d (by simp [ch, hi] <;> omega)
    · pointwise; exact rd5 m c t _ _ _ rfl
    · pointwise [k0_pay20, k0_pay2]; exact rd6 m c t _ _ rfl
    · exact rd7 m c t x2
  · idx_vars x
    have he : ((View.whole main_v8).slice (win0_9.rect t)).emb y =
        (ix3 ⟨t.val % 8, by omega⟩ ⟨t.val / 8 * 512 + (x1.val), by have := tile_lt t; omega⟩ x2 : S8x4096x1024.Idx) := by
      blk_ext [idx t]
    rw [he, acc_eq]
    refine Eq.trans ?_ (ref_at _ _ _ _ _ _ _ _ _ _ _ _).symm
    refine half_at x0 x1 x2 (grp_at 0 x1 ?_ ?_ ?_ ?_ ?_ ?_ ?_) (grp_at 1 x1 ?_ ?_ ?_ ?_ ?_ ?_ ?_) ?_ ?_ ?_
    · intro l; pointwise; exact rd0 m c t _ _ _ (by simp [ch])
    · intro l; pointwise; exact rd1 m c t _ _ _ (by simp [ch])
    · intro l; pointwise; exact rd2 m c t _ _ _ (by simp [ch])
    · intro l; pointwise; exact rd3 m c t _ _ _ (by simp [ch])
    · intro l; pointwise; exact rd4 m c t _ _ _ (by simp [ch])
    · intro l d; pointwise; exact rd8 m c t _ _ d (by simp [ch, lo])
    · intro l d; pointwise; exact rd8 m c t _ _ d (by simp [ch, hi] <;> omega)
    · intro l; pointwise; exact rd0 m c t _ _ _ (by simp [ch])
    · intro l; pointwise; exact rd1 m c t _ _ _ (by simp [ch])
    · intro l; pointwise; exact rd2 m c t _ _ _ (by simp [ch])
    · intro l; pointwise; exact rd3 m c t _ _ _ (by simp [ch])
    · intro l; pointwise; exact rd4 m c t _ _ _ (by simp [ch])
    · intro l d; pointwise; exact rd8 m c t _ _ d (by simp [ch, lo])
    · intro l d; pointwise; exact rd8 m c t _ _ d (by simp [ch, hi] <;> omega)
    · pointwise; exact rd5 m c t _ _ _ rfl
    · pointwise [k0_pay20, k0_pay2]; exact rd6 m c t _ _ rfl
    · exact rd7 m c t x2

end Cert.Proof.Outproj

end
-- ==== Proof.Outproj.Claim.lean ====
module

public import proofs.«01_k».proof.Defs
public import proofs.«01_k».proof.Proof.Gen.Kernel3.Frame
public import proofs.«01_k».proof.Proof.Gen.Reference3Ideal.Run
public import proofs.«01_k».proof.Proof.Outproj.Final

@[expose] public section

set_option maxRecDepth 16384

noncomputable section

namespace Cert.Proof.Outproj

open Idealize.ShloMosaic Idealize.SL.Sem

/-- The kernel terminates without a fault, leaves its arguments as they are and every semaphore at zero. -/
theorem frame_kernel : Cert.quiescent_Kernel3 (hKernel3 := Cert.Kernel3.Gen.facts) :=
  fun m ρ _ => Cert.Kernel3.Gen.frame m ρ

/-- The same of the kernel over the reals with infinities. -/
theorem frame_ideal : Cert.quiescent_Kernel3Ideal (hKernel3Ideal := Cert.Kernel3Ideal.Gen.facts) :=
  fun m ρ _ => Cert.Kernel3Ideal.Gen.frame m ρ

/-- The reference, a line of host operations without a semaphore, leaves its arguments as they are. -/
theorem frame_reference : Cert.quiescent_Reference3Ideal (hReference3Ideal := Cert.Reference3Ideal.Gen.facts) :=
  fun m ρ _ => (θ_run Cert.Reference3Ideal.defs _ _).mono
    (fun r h => ⟨fun c => (h c).2, Idealize.ShloMosaic.sem_eq_zero_of_no_sems (by decide) r.2⟩)
    (Cert.Reference3Ideal.Value.run m ρ)

set_option maxHeartbeats 1600000 in
/-- Over the reals with infinities, kernel and reference compute the same array from the same arguments. -/
theorem algebraic : Cert.algebraic_Kernel3Ideal_Reference3Ideal (hKernel3Ideal := Cert.Kernel3Ideal.Gen.facts)
    (hReference3Ideal := Cert.Reference3Ideal.Gen.facts) := by
  pair_intro
  · run_from Cert.Kernel3Ideal.Gen.run_main m g
  · run_from Cert.Reference3Ideal.Value.run m' g'
    obtain ⟨h0, h1, h2, h3, h4, h5, h6, h7, h8⟩ := hagree c
    refine ((res_eq m' c).trans ?_).trans (final m c).symm
    rw [h0, h1, h2, h3, h4, h5, h6, h7, h8]

end Cert.Proof.Outproj

end
-- ==== Proof.Inproj0.Reads.lean ====
module

public import proofs.«01_k».proof.Proof.Gen.Kernel4Ideal.Value
public import Idealize.ShloMosaic.Lib.Claim
public import Idealize.ShloMosaic.Lib.Pipeline.ValueKit

@[expose] public section

set_option maxRecDepth 16384

noncomputable section

namespace Cert.Proof.Inproj0

open Idealize.ShloMosaic Idealize.ShloMosaic.TcCoe Idealize.SL.Sem
open Idealize.ShloMosaic.Pipeline (Dat)
open Cert.Kernel4Ideal Cert.Kernel4Ideal.Gen

variable (m : (ℓ : Loc nD τ sig) → Buf (Elt Ideal) ℓ)

/-- The block each window reads or writes at a grid point: row tile `t / 8` of batch `t % 8`, and the groups of 8 rows before and
after that tile (the tile's own first or last group at the ends of the sequence). -/
theorem idx : ∀ t : Fin cfg0.N, win0_0.index t = ![t.val % 8, t.val / 8, 0] ∧
    win0_1.index t = ![t.val % 8, 64 * (t.val / 8) - 1, 0] ∧ win0_2.index t = ![t.val % 8, min (64 * (t.val / 8) + 64) 511, 0] ∧
    win0_3.index t = ![t.val % 8, 0, 0] ∧ win0_4.index t = ![0, 0] ∧ win0_5.index t = ![0, 0] ∧ win0_6.index t = ![0, 0] ∧
    win0_7.index t = ![0, 0] ∧ win0_8.index t = ![t.val / 8, 0] ∧ win0_9.index t = ![t.val / 8, 0] ∧ win0_10.index t = ![t.val / 8, 0] ∧
    win0_11.index t = ![t.val % 8, t.val / 8, 0] ∧ win0_12.index t = ![t.val % 8, t.val / 8, 0] ∧
    win0_13.index t = ![t.val % 8, t.val / 8, 0] ∧ win0_14.index t = ![t.val % 8, t.val / 8, 0] ∧
    win0_15.index t = ![t.val % 8, t.val / 8, 0] ∧ win0_16.index t = ![t.val % 8, t.val / 8, 0] ∧ t.val / 8 < 8 :=
  (by decide +kernel : ∀ t : Fin grid0.N, _)

/-- Four columns of tables side by side, twice: one table of 128 columns. -/
def tabArr (a b c d : FVec Ideal S4096x16 .f32) : FVec Ideal S4096x128 .f32 :=
  shapeCast S4096x128 (broadcastInDim S1x4096x2x64 ![0, 1, 2, 3] bcast_S1x4096x1x64_S1x4096x2x64_0_1_2_3
    (shapeCast S1x4096x1x64 (concatenate S4096x64 1 [⟨S4096x16, a⟩, ⟨S4096x16, b⟩, ⟨S4096x16, c⟩, ⟨S4096x16, d⟩] concatenates_S4096x16_S4096x16_S4096x16_S4096x16_S4096x64_d1 : FVec Ideal S4096x64 .f32)
      shapeCasts_S4096x64_S1x4096x1x64)) shapeCasts_S1x4096x2x64_S4096x128

/-- The zeros among them. -/
def zeros : FVec Ideal S4096x16 .f32 := broadcastInDim S4096x16 ![] bcast_S_S4096x16 (constant S_ .f32 0x00000000#32)

/-- A table's columns of the rows' angles, -/
def colA (x : FVec Ideal S4096x32 .f32) : FVec Ideal S4096x16 .f32 := extractStridedSlice S4096x16 ![0, 0] x slices_S4096x32_S4096x16_0_0
/-- and of the columns'. -/
def colB (x : FVec Ideal S4096x32 .f32) : FVec Ideal S4096x16 .f32 := extractStridedSlice S4096x16 ![0, 16] x slices_S4096x32_S4096x16_0_16

/-- The zeros read at an entry. -/
theorem zeros_at (t : Fin 4096) (e : Fin 16) : zeros (ix2 t e) = (0 : EReal) := by
  pointwise [zeros]

/-- A negated table read at an entry. -/
theorem neg_at (x : FVec Ideal S4096x16 .f32) (t : Fin 4096) (e : Fin 16) : (Host.negf x : FVec Ideal S4096x16 .f32) (ix2 t e) = -(x (ix2 t e) : EReal) := by
  pointwise

/-- The rows' angles read at an entry. -/
theorem colA_at (x : FVec Ideal S4096x32 .f32) (t : Fin 4096) (e : Fin 16) (j : Fin 32) (h : j.val = e.val) : colA x (ix2 t e) = x (ix2 t j) := by
  have ej : j = ⟨e.val, by omega⟩ := Fin.ext h
  rw [ej]
  pointwise [colA]

/-- The columns' angles read at an entry. -/
theorem colB_at (x : FVec Ideal S4096x32 .f32) (t : Fin 4096) (e : Fin 16) (j : Fin 32) (h : j.val = 16 + e.val) : colB x (ix2 t e) = x (ix2 t j) := by
  have ej : j = ⟨16 + e.val, by omega⟩ := Fin.ext h
  rw [ej]
  pointwise [colB]

/-- Four tables side by side read at a column. -/
theorem cat4_at (a b c d : FVec Ideal S4096x16 .f32) (t : Fin 4096) (l : Fin 64) :
    (concatenate S4096x64 1 [⟨S4096x16, a⟩, ⟨S4096x16, b⟩, ⟨S4096x16, c⟩, ⟨S4096x16, d⟩] concatenates_S4096x16_S4096x16_S4096x16_S4096x16_S4096x64_d1 : FVec Ideal S4096x64 .f32) (ix2 t l) =
      if l.val < 16 then a (ix2 t ⟨l.val % 16, by omega⟩) else if l.val < 32 then b (ix2 t ⟨l.val % 16, by omega⟩)
        else if l.val < 48 then c (ix2 t ⟨l.val % 16, by omega⟩) else d (ix2 t ⟨l.val % 16, by omega⟩) := by
  have hl := l.isLt
  by_cases h1 : l.val < 16
  · have e : l.val % 16 = l.val := by omega
    rw [if_pos h1]
    pointwise [h1, e]
  · rw [if_neg h1]
    by_cases h2 : l.val - 16 < 16
    · have e : l.val % 16 = l.val - 16 := by omega
      rw [if_pos (by omega)]
      pointwise [h1, h2, e]
    · rw [if_neg (by omega)]
      by_cases h3 : l.val - 16 - 16 < 16
      · have e : l.val % 16 = l.val - 16 - 16 := by omega
        rw [if_pos (by omega)]
        pointwise [h1, h2, h3, e]
      · have e : l.val % 16 = l.val - 16 - 16 - 16 := by omega
        rw [if_neg (by omega)]
        pointwise [h1, h2, h3, e]

/-- A table of 64 columns, twice, read at a column. -/
theorem twice_at (x : FVec Ideal S4096x64 .f32) (t : Fin 4096) (l : Fin 128) :
    shapeCast S4096x128 (broadcastInDim S1x4096x2x64 ![0, 1, 2, 3] bcast_S1x4096x1x64_S1x4096x2x64_0_1_2_3
      (shapeCast S1x4096x1x64 x shapeCasts_S4096x64_S1x4096x1x64)) shapeCasts_S1x4096x2x64_S4096x128 (ix2 t l) = x (ix2 t ⟨l.val % 64, by omega⟩) := by
  refine (shapeCast_apply _ _ _ (ix4 0 t ⟨l.val / 64, by omega⟩ ⟨l.val % 64, by omega⟩) ?_).trans ?_
  · rw [Shape.rowMajor_val_two, Shape.rowMajor_val_four]
    show ((0 * 4096 + t.val) * 2 + l.val / 64) * 64 + l.val % 64 = t.val * 128 + l.val
    omega
  · pointwise

/-- The table of 128 columns read at an entry. -/
theorem tabArr_at (a b c d : FVec Ideal S4096x16 .f32) (t : Fin 4096) (l : Fin 128) (e : Fin 16) (h : e.val = l.val % 16) :
    tabArr a b c d (ix2 t l) = if l.val % 64 < 16 then a (ix2 t e) else if l.val % 64 < 32 then b (ix2 t e)
        else if l.val % 64 < 48 then c (ix2 t e) else d (ix2 t e) := by
  have ee : e = ⟨l.val % 64 % 16, by omega⟩ := Fin.ext (by show e.val = l.val % 64 % 16; omega)
  rw [ee]
  exact (twice_at _ t l).trans (cat4_at a b c d t ⟨l.val % 64, by omega⟩)

/-- The cosines' table read at an entry, -/
theorem tabC_at (x : FVec Ideal S4096x32 .f32) (t : Fin 4096) (l : Fin 128) (j : Fin 32) (h : j.val = l.val % 64 / 32 * 16 + l.val % 16) :
    tabArr (colA x) (colA x) (colB x) (colB x) (ix2 t l) = x (ix2 t j) := by
  rw [tabArr_at _ _ _ _ t l ⟨l.val % 16, by omega⟩ rfl]
  by_cases h1 : l.val % 64 < 16
  · rw [if_pos h1]; exact colA_at _ _ _ _ (by show j.val = l.val % 16; omega)
  · rw [if_neg h1]
    by_cases h2 : l.val % 64 < 32
    · rw [if_pos h2]; exact colA_at _ _ _ _ (by show j.val = l.val % 16; omega)
    · rw [if_neg h2]
      split
      · exact colB_at _ _ _ _ (by show j.val = 16 + l.val % 16; omega)
      · exact colB_at _ _ _ _ (by show j.val = 16 + l.val % 16; omega)

/-- The first of the sines' tables at an entry: minus the sine in the first half of a head's part, and zero in the second. -/
def sinA (x : FVec Ideal S4096x32 .f32) (t : Fin 4096) (l : Fin 128) (j : Fin 32) : EReal := if l.val % 32 < 16 then -(x (ix2 t j) : EReal) else 0
/-- The second: zero in the first half and the sine in the second. -/
def sinB (x : FVec Ideal S4096x32 .f32) (t : Fin 4096) (l : Fin 128) (j : Fin 32) : EReal := if l.val % 32 < 16 then (0 : EReal) else x (ix2 t j)

/-- the first of the sines' -/
theorem tabS_at (x : FVec Ideal S4096x32 .f32) (t : Fin 4096) (l : Fin 128) (j : Fin 32) (h : j.val = l.val % 64 / 32 * 16 + l.val % 16) :
    tabArr (Host.negf (colA x)) zeros (Host.negf (colB x)) zeros (ix2 t l) = sinA x t l j := by
  unfold sinA
  rw [tabArr_at _ _ _ _ t l ⟨l.val % 16, by omega⟩ rfl]
  by_cases h1 : l.val % 64 < 16
  · rw [if_pos h1, if_pos (by omega), neg_at]; exact congrArg Neg.neg (colA_at _ _ _ _ (by show j.val = l.val % 16; omega))
  · rw [if_neg h1]
    by_cases h2 : l.val % 64 < 32
    · rw [if_pos h2, if_neg (by omega)]; exact zeros_at _ _
    · rw [if_neg h2]
      by_cases h3 : l.val % 64 < 48
      · rw [if_pos h3, if_pos (by omega), neg_at]; exact congrArg Neg.neg (colB_at _ _ _ _ (by show j.val = 16 + l.val % 16; omega))
      · rw [if_neg h3, if_neg (by omega)]; exact zeros_at _ _

/-- and the second. -/
theorem tabT_at (x : FVec Ideal S4096x32 .f32) (t : Fin 4096) (l : Fin 128) (j : Fin 32) (h : j.val = l.val % 64 / 32 * 16 + l.val % 16) :
    tabArr zeros (colA x) zeros (colB x) (ix2 t l) = sinB x t l j := by
  unfold sinB
  rw [tabArr_at _ _ _ _ t l ⟨l.val % 16, by omega⟩ rfl]
  by_cases h1 : l.val % 64 < 16
  · rw [if_pos h1, if_pos (by omega)]; exact zeros_at _ _
  · rw [if_neg h1]
    by_cases h2 : l.val % 64 < 32
    · rw [if_pos h2, if_neg (by omega)]; exact colA_at _ _ _ _ (by show j.val = l.val % 16; omega)
    · rw [if_neg h2]
      by_cases h3 : l.val % 64 < 48
      · rw [if_pos h3, if_pos (by omega)]; exact zeros_at _ _
      · rw [if_neg h3, if_neg (by omega)]; exact colB_at _ _ _ _ (by show j.val = 16 + l.val % 16; omega)

/-- The modulation as the kernel takes it: the first layer's rows. -/
theorem V_v2 (c : Dev nD) : V m c main_v2 = (shapeCast S16x1x3072 (shapeCast S16x3072 (extractStridedSlice S1x16x3072 ![0, 0, 0] (m ((c.tc : Thread nD τ).loc main_arg1) : FVec Ideal S2x16x3072 .f32) slices_S2x16x3072_S1x16x3072_0_0_0) shapeCasts_S1x16x3072_S16x3072) shapeCasts_S16x3072_S16x1x3072 : FVec Ideal S16x1x3072 .f32) := by
  simp only [V, hostOps0]
  after_results
  rfl

/-- The norm's weights. -/
theorem V_v28 (c : Dev nD) : V m c main_v28 = (shapeCast S1x1024 (shapeCast S1024 (extractStridedSlice S1x1024 ![0, 0] (m ((c.tc : Thread nD τ).loc main_arg2) : FVec Ideal S2x1024 .f32) slices_S2x1024_S1x1024_0_0) shapeCasts_S1x1024_S1024) shapeCasts_S1024_S1x1024 : FVec Ideal S1x1024 .f32) := by
  simp only [V, hostOps0]
  after_results
  rfl

/-- The weights, cast. -/
theorem V_v6 (c : Dev nD) : V m c main_v6 = (truncf .bf16 (shapeCast S1024x3072 (m ((c.tc : Thread nD τ).loc main_arg3) : FVec Ideal S1x1024x3072 .f32) shapeCasts_S1x1024x3072_S1024x3072) bitsLt_bf16_f32 : FVec Ideal S1024x3072 .bf16) := by
  simp only [V, hostOps0]
  after_results
  rfl

/-- The convolution's weights. -/
theorem V_v7 (c : Dev nD) : V m c main_v7 = (shapeCast S4x512 (m ((c.tc : Thread nD τ).loc main_arg4) : FVec Ideal S1x4x512 .f32) shapeCasts_S1x4x512_S4x512 : FVec Ideal S4x512 .f32) := by
  simp only [V, hostOps0]
  after_results
  rfl

/-- The convolution's bias. -/
theorem V_v29 (c : Dev nD) : V m c main_v29 = (shapeCast S1x512 (shapeCast S512 (m ((c.tc : Thread nD τ).loc main_arg5) : FVec Ideal S1x512 .f32) shapeCasts_S1x512_S512) shapeCasts_S512_S1x512 : FVec Ideal S1x512 .f32) := by
  simp only [V, hostOps0]
  after_results
  rfl

/-- The cosines' table. -/
theorem V_v21 (c : Dev nD) : V m c main_v21 = (tabArr (colA (m ((c.tc : Thread nD τ).loc main_arg6) : FVec Ideal S4096x32 .f32)) (colA (m ((c.tc : Thread nD τ).loc main_arg6) : FVec Ideal S4096x32 .f32)) (colB (m ((c.tc : Thread nD τ).loc main_arg6) : FVec Ideal S4096x32 .f32)) (colB (m ((c.tc : Thread nD τ).loc main_arg6) : FVec Ideal S4096x32 .f32)) : FVec Ideal S4096x128 .f32) := by
  simp only [V, hostOps0]
  after_results
  rfl

/-- The first of the sines' tables. -/
theorem V_v24 (c : Dev nD) : V m c main_v24 = (tabArr (Host.negf (colA (m ((c.tc : Thread nD τ).loc main_arg7) : FVec Ideal S4096x32 .f32))) zeros (Host.negf (colB (m ((c.tc : Thread nD τ).loc main_arg7) : FVec Ideal S4096x32 .f32))) zeros : FVec Ideal S4096x128 .f32) := by
  simp only [V, hostOps0]
  after_results
  rfl

/-- The second. -/
theorem V_v27 (c : Dev nD) : V m c main_v27 = (tabArr zeros (colA (m ((c.tc : Thread nD τ).loc main_arg7) : FVec Ideal S4096x32 .f32)) zeros (colB (m ((c.tc : Thread nD τ).loc main_arg7) : FVec Ideal S4096x32 .f32)) : FVec Ideal S4096x128 .f32) := by
  simp only [V, hostOps0]
  after_results
  rfl

/-- The cast weights read at an entry. -/
theorem cast_at (x : FVec Ideal S1x1024x3072 .f32) (k : Fin 1024) (j : Fin 3072) :
    (truncf .bf16 (shapeCast S1024x3072 x shapeCasts_S1x1024x3072_S1024x3072) bitsLt_bf16_f32 : FVec Ideal S1024x3072 .bf16) (ix2 k j) = x (ix3 0 k j) := by
  pointwise

/-- The convolution's bias as one row. -/
theorem row_at (x : FVec Ideal S1x512 .f32) (d : Fin 512) :
    shapeCast S1x512 (shapeCast S512 x shapeCasts_S1x512_S512) shapeCasts_S512_S1x512 (ix2 0 d) = x (ix2 0 d) := by
  pointwise

/-- The convolution's weights as a matrix. -/
theorem taps_at (x : FVec Ideal S1x4x512 .f32) (k : Fin 4) (d : Fin 512) :
    shapeCast S4x512 x shapeCasts_S1x4x512_S4x512 (ix2 k d) = x (ix3 0 k d) := by
  pointwise

section reads
variable (c : Dev nD) (t : Fin cfg0.N)

/-- The grid point's row tile is one of 8. -/
theorem tile_lt : t.val / 8 < 8 := (idx t).2.2.2.2.2.2.2.2.2.2.2.2.2.2.2.2.2

/-- The block's own rows. -/
theorem rd0 (i : Fin 512) (k : Fin 1024) : (iblk m c 0 t : FVec Ideal S1x512x1024 .f32) (ix3 0 i k) =
    (m ((c.tc : Thread nD τ).loc main_arg0) : FVec Ideal S8x4096x1024 .f32) (ix3 ⟨t.val % 8, by omega⟩ ⟨t.val / 8 * 512 + i.val, by have := tile_lt t; omega⟩ k) := by
  blk_ext [iblk, V, idx t]

/-- The 8 rows before the block (when it is not the first). -/
theorem rd1 (h : 1 ≤ t.val / 8) (i : Fin 8) (k : Fin 1024) : (iblk m c 1 t : FVec Ideal S1x8x1024 .f32) (ix3 0 i k) =
    (m ((c.tc : Thread nD τ).loc main_arg0) : FVec Ideal S8x4096x1024 .f32) (ix3 ⟨t.val % 8, by omega⟩ ⟨t.val / 8 * 512 + i.val - 8, by have := tile_lt t; omega⟩ k) := by
  blk_ext [iblk, V, idx t]

/-- The 8 rows after the block (when it is not the last). -/
theorem rd2 (h : t.val / 8 < 7) (i : Fin 8) (k : Fin 1024) : (iblk m c 2 t : FVec Ideal S1x8x1024 .f32) (ix3 0 i k) =
    (m ((c.tc : Thread nD τ).loc main_arg0) : FVec Ideal S8x4096x1024 .f32) (ix3 ⟨t.val % 8, by omega⟩ ⟨t.val / 8 * 512 + 512 + i.val, by have := tile_lt t; omega⟩ k) := by
  blk_ext [iblk, V, idx t]

/-- The modulation's window: the first layer's row of the batch. -/
theorem rd3 (j k : Fin 3072) (h : j.val = k.val) : (iblk m c 3 t : FVec Ideal S1x1x3072 .f32) (ix3 0 0 j) =
    (m ((c.tc : Thread nD τ).loc main_arg1) : FVec Ideal S2x16x3072 .f32) (ix3 0 ⟨t.val % 8, by omega⟩ k) := by
  obtain rfl : j = k := Fin.ext h
  have e : ((View.whole main_v2).slice (win0_3.rect t)).emb (ix3 0 0 j) = (ix3 ⟨t.val % 8, by omega⟩ 0 j : S16x1x3072.Idx) := by
    blk_ext [idx t]
  refine (congrArg (V m c main_v2) e).trans ?_
  rw [V_v2]
  pointwise

/-- The norm's weights. -/
theorem rd4 (d : Fin 1024) : (iblk m c 4 t : FVec Ideal S1x1024 .f32) (ix2 0 d) =
    (m ((c.tc : Thread nD τ).loc main_arg2) : FVec Ideal S2x1024 .f32) (ix2 0 d) := by
  have e : ((View.whole main_v28).slice (win0_4.rect t)).emb (ix2 0 d) = (ix2 0 d : S1x1024.Idx) := by
    blk_ext [idx t]
  refine (congrArg (V m c main_v28) e).trans ?_
  rw [V_v28]
  pointwise

/-- The weights. -/
theorem rd5 (k : Fin 1024) (j : Fin 3072) : (iblk m c 5 t : FVec Ideal S1024x3072 .bf16) (ix2 k j) =
    (m ((c.tc : Thread nD τ).loc main_arg3) : FVec Ideal S1x1024x3072 .f32) (ix3 0 k j) := by
  have e : ((View.whole main_v6).slice (win0_5.rect t)).emb (ix2 k j) = (ix2 k j : S1024x3072.Idx) := by
    blk_ext [idx t]
  refine (congrArg (V m c main_v6) e).trans ?_
  rw [V_v6]
  exact cast_at _ k j

/-- The convolution's weights. -/
theorem rd6 (k : Fin 4) (j : Fin 512) : (iblk m c 6 t : FVec Ideal S4x512 .f32) (ix2 k j) =
    (m ((c.tc : Thread nD τ).loc main_arg4) : FVec Ideal S1x4x512 .f32) (ix3 0 k j) := by
  have e : ((View.whole main_v7).slice (win0_6.rect t)).emb (ix2 k j) = (ix2 k j : S4x512.Idx) := by
    blk_ext [idx t]
  refine (congrArg (V m c main_v7) e).trans ?_
  rw [V_v7]
  exact taps_at _ k j

/-- The convolution's bias. -/
theorem rd7 (j : Fin 512) : (iblk m c 7 t : FVec Ideal S1x512 .f32) (ix2 0 j) =
    (m ((c.tc : Thread nD τ).loc main_arg5) : FVec Ideal S1x512 .f32) (ix2 0 j) := by
  have e : ((View.whole main_v29).slice (win0_7.rect t)).emb (ix2 0 j) = (ix2 0 j : S1x512.Idx) := by
    blk_ext [idx t]
  refine (congrArg (V m c main_v29) e).trans ?_
  rw [V_v29]
  exact row_at _ j

/-- The cosines of the block's rows. -/
theorem rd8 (r : Fin 512) (l : Fin 128) (j : Fin 32) (h : j.val = l.val % 64 / 32 * 16 + l.val % 16) : (iblk m c 8 t : FVec Ideal S512x128 .f32) (ix2 r l) =
    (m ((c.tc : Thread nD τ).loc main_arg6) : FVec Ideal S4096x32 .f32) (ix2 ⟨t.val / 8 * 512 + r.val, by have := tile_lt t; omega⟩ j) := by
  have e : ((View.whole main_v21).slice (win0_8.rect t)).emb (ix2 r l) = (ix2 ⟨t.val / 8 * 512 + r.val, by have := tile_lt t; omega⟩ l : S4096x128.Idx) := by
    blk_ext [idx t]
  refine (congrArg (V m c main_v21) e).trans ?_
  rw [V_v21]
  exact tabC_at _ _ l j h

/-- The first of their sines' tables. -/
theorem rd9 (r : Fin 512) (l : Fin 128) (j : Fin 32) (h : j.val = l.val % 64 / 32 * 16 + l.val % 16) : (iblk m c 9 t : FVec Ideal S512x128 .f32) (ix2 r l) =
    sinA (m ((c.tc : Thread nD τ).loc main_arg7) : FVec Ideal S4096x32 .f32) ⟨t.val / 8 * 512 + r.val, by have := tile_lt t; omega⟩ l j := by
  have e : ((View.whole main_v24).slice (win0_9.rect t)).emb (ix2 r l) = (ix2 ⟨t.val / 8 * 512 + r.val, by have := tile_lt t; omega⟩ l : S4096x128.Idx) := by
    blk_ext [idx t]
  refine (congrArg (V m c main_v24) e).trans ?_
  rw [V_v24]
  exact tabS_at _ _ l j h

/-- The second. -/
theorem rd10 (r : Fin 512) (l : Fin 128) (j : Fin 32) (h : j.val = l.val % 64 / 32 * 16 + l.val % 16) : (iblk m c 10 t : FVec Ideal S512x128 .f32) (ix2 r l) =
    sinB (m ((c.tc : Thread nD τ).loc main_arg7) : FVec Ideal S4096x32 .f32) ⟨t.val / 8 * 512 + r.val, by have := tile_lt t; omega⟩ l j := by
  have e : ((View.whole main_v27).slice (win0_10.rect t)).emb (ix2 r l) = (ix2 ⟨t.val / 8 * 512 + r.val, by have := tile_lt t; omega⟩ l : S4096x128.Idx) := by
    blk_ext [idx t]
  refine (congrArg (V m c main_v27) e).trans ?_
  rw [V_v27]
  exact tabT_at _ _ l j h

end reads

end Cert.Proof.Inproj0

end
-- ==== Proof.Inproj0.Body.lean ====
module

public import proofs.«01_k».proof.Proof.Gen.Kernel4Ideal.Skeleton
public import proofs.«01_k».proof.Proof.Inproj.Body
public import Idealize.ShloMosaic.Lib.Pipeline.ValueKit
public import Idealize.ShloMosaic.Lib.Pipeline.ReadBack

@[expose] public section

set_option maxRecDepth 16384

noncomputable section

namespace Cert.Proof.Inproj0

open Idealize.ShloMosaic Idealize.SL.Sem
open Cert.Kernel4Ideal Cert.Kernel4Ideal.Gen
open Cert.Proof.Finish (rms)
open Cert.Proof.Inproj (nrm dot conv slab slab_congr)

/-- The 528 rows a step works on: 8 before the block, the block's 512, 8 after it. -/
def hext (hl hr : FVec Ideal S1x8x1024 .f32) (hm : FVec Ideal S1x512x1024 .f32) (e : Fin 528) (d : Fin 1024) : EReal :=
  if h : e.val < 8 then hl (ix3 0 ⟨e.val, h⟩ d)
  else if h' : e.val - 8 < 512 then hm (ix3 0 ⟨e.val - 8, by omega⟩ d) else hr (ix3 0 ⟨e.val - 8 - 512, by omega⟩ d)

/-- The step's modulated rows read at an entry. -/
theorem pay2_at (hl : FVec Ideal S1x8x1024 .f32) (hm : FVec Ideal S1x512x1024 .f32) (hr : FVec Ideal S1x8x1024 .f32)
    (sh sc : FVec Ideal S1x1x1024 .f32) (g : FVec Ideal S1x1024 .f32) (e : Fin 528) (d : Fin 1024) :
    k0_pay2 (F := Ideal) hl hm hr sh sc g (ix2 e d) =
      nrm (hext hl hr hm e) (fun k => sh (ix3 0 0 k)) (fun k => sc (ix3 0 0 k)) (fun k => g (ix2 0 k)) d := by
  pointwise [k0_pay2]
  rfl

/-- The block's own rows among them. -/
theorem pay3_at (hl : FVec Ideal S1x8x1024 .f32) (hm : FVec Ideal S1x512x1024 .f32) (hr : FVec Ideal S1x8x1024 .f32)
    (sh sc : FVec Ideal S1x1x1024 .f32) (g : FVec Ideal S1x1024 .f32) (r : Fin 512) (d : Fin 1024) :
    k0_pay3 (F := Ideal) hl hm hr sh sc g (ix2 r d) = k0_pay2 (F := Ideal) hl hm hr sh sc g (ix2 ⟨8 + r.val, by omega⟩ d) := by
  pointwise [k0_pay3]

/-- The block's rows times a chunk of 512 columns, read at an entry: the gates' columns -/
theorem pay33_at (u : FVec Ideal S512x1024 .bf16) (w : FVec Ideal S1024x512 .bf16) (r l : Fin 512) :
    k0_pay33 (F := Ideal) u (k0_pay32 (F := Ideal) w) (ix3 0 r l) = dot (fun k => u (ix2 r k)) (fun k => w (ix2 k l)) := by
  pointwise [k0_pay33, k0_pay32]
  rfl

/-- the values', -/
theorem pay37_at (u : FVec Ideal S512x1024 .bf16) (w : FVec Ideal S1024x512 .bf16) (r l : Fin 512) :
    k0_pay37 (F := Ideal) u w (ix3 0 r l) = dot (fun k => u (ix2 r k)) (fun k => w (ix2 k l)) := by
  pointwise [k0_pay37]
  rfl

/-- and the second gate's. -/
theorem pay38_at (u : FVec Ideal S512x1024 .bf16) (w : FVec Ideal S1024x512 .bf16) (r l : Fin 512) :
    k0_pay1 (F := Ideal) (k0_pay38 (F := Ideal) u w) (ix3 0 r l) = dot (fun k => u (ix2 r k)) (fun k => w (ix2 k l)) := by
  pointwise [k0_pay1, k0_pay38]
  rfl

/-- The keys' products before the rope. -/
theorem pay35_at (u : FVec Ideal S512x1024 .bf16) (w : FVec Ideal S1024x512 .bf16) (r l : Fin 512) :
    k0_pay35 (F := Ideal) u w (ix2 r l) = dot (fun k => u (ix2 r k)) (fun k => w (ix2 k l)) := by
  pointwise [k0_pay35]
  rfl

/-- One row's rope as the kernel forms it: the row times one table, plus the row turned by 16 either way times two others. -/
def ropeK (f : Fin 512 → EReal) (c s1 s2 : Fin 128 → EReal) (d : Fin 512) : EReal :=
  f d * c ⟨d.val % 128, by omega⟩ + f ⟨(d.val + 16) % 512, by omega⟩ * s1 ⟨d.val % 128, by omega⟩
    + f ⟨(d.val + 496) % 512, by omega⟩ * s2 ⟨d.val % 128, by omega⟩

/-- Four copies of a table side by side, read at a column. -/
theorem four_at (x : FVec Ideal S512x128 .f32) (r l : Fin 512) :
    (concatenate S512x512 1 [⟨S512x128, x⟩, ⟨S512x128, x⟩, ⟨S512x128, x⟩, ⟨S512x128, x⟩] concatenates_S512x128_S512x128_S512x128_S512x128_S512x512_d1 : FVec Ideal S512x512 .f32) (ix2 r l) =
      x (ix2 r ⟨l.val % 128, by omega⟩) := by
  have hl := l.isLt
  by_cases h1 : l.val < 128
  · have e : l.val % 128 = l.val := by omega
    pointwise [h1, e]
  · by_cases h2 : l.val - 128 < 128
    · have e : l.val % 128 = l.val - 128 := by omega
      pointwise [h1, h2, e]
    · by_cases h3 : l.val - 128 - 128 < 128
      · have e : l.val % 128 = l.val - 128 - 128 := by omega
        pointwise [h1, h2, h3, e]
      · have e : l.val % 128 = l.val - 128 - 128 - 128 := by omega
        pointwise [h1, h2, h3, e]

/-- An array turned along its columns, read at an entry: by 496 -/
theorem rotA_at (x : FVec Ideal S512x512 .f32) (r l : Fin 512) :
    dynamicRotate 1 496#32 none x rotates_S512x512_d1 (ix2 r l) = x (ix2 r ⟨(l.val + 16) % 512, by omega⟩) := by
  pointwise
  exact congrArg (fun k => x (ix2 r k)) (Fin.ext (by show (l.val + 512 - 496) % 512 = (l.val + 16) % 512; omega))

/-- and by 16. -/
theorem rotB_at (x : FVec Ideal S512x512 .f32) (r l : Fin 512) :
    dynamicRotate 1 16#32 none x rotates_S512x512_d1 (ix2 r l) = x (ix2 r ⟨(l.val + 496) % 512, by omega⟩) := by
  pointwise
  exact congrArg (fun k => x (ix2 r k)) (Fin.ext (by show (l.val + 512 - 16) % 512 = (l.val + 496) % 512; omega))

/-- The rope of an array of rows, as the kernel forms it. -/
def ropeArr (x : FVec Ideal S512x512 .f32) (c s1 s2 : FVec Ideal S512x128 .f32) : FVec Ideal S512x512 .f32 :=
  addf (addf (mulf x (concatenate S512x512 1 [⟨S512x128, c⟩, ⟨S512x128, c⟩, ⟨S512x128, c⟩, ⟨S512x128, c⟩] concatenates_S512x128_S512x128_S512x128_S512x128_S512x512_d1))
      (mulf (dynamicRotate 1 496#32 none x rotates_S512x512_d1) (concatenate S512x512 1 [⟨S512x128, s1⟩, ⟨S512x128, s1⟩, ⟨S512x128, s1⟩, ⟨S512x128, s1⟩] concatenates_S512x128_S512x128_S512x128_S512x128_S512x512_d1)))
    (mulf (dynamicRotate 1 16#32 none x rotates_S512x512_d1) (concatenate S512x512 1 [⟨S512x128, s2⟩, ⟨S512x128, s2⟩, ⟨S512x128, s2⟩, ⟨S512x128, s2⟩] concatenates_S512x128_S512x128_S512x128_S512x128_S512x512_d1))

/-- It read at an entry. -/
theorem ropeArr_at (x : FVec Ideal S512x512 .f32) (c s1 s2 : FVec Ideal S512x128 .f32) (r l : Fin 512) :
    ropeArr x c s1 s2 (ix2 r l) = ropeK (fun d => x (ix2 r d)) (fun j => c (ix2 r j)) (fun j => s1 (ix2 r j)) (fun j => s2 (ix2 r j)) l := by
  have h1 := four_at c r l
  have h2 := four_at s1 r l
  have h3 := four_at s2 r l
  have h4 := rotA_at x r l
  have h5 := rotB_at x r l
  unfold ropeArr ropeK
  generalize (concatenate S512x512 1 [⟨S512x128, c⟩, ⟨S512x128, c⟩, ⟨S512x128, c⟩, ⟨S512x128, c⟩] _ : FVec Ideal S512x512 .f32) = t1 at h1 ⊢
  generalize (concatenate S512x512 1 [⟨S512x128, s1⟩, ⟨S512x128, s1⟩, ⟨S512x128, s1⟩, ⟨S512x128, s1⟩] _ : FVec Ideal S512x512 .f32) = t2 at h2 ⊢
  generalize (concatenate S512x512 1 [⟨S512x128, s2⟩, ⟨S512x128, s2⟩, ⟨S512x128, s2⟩, ⟨S512x128, s2⟩] _ : FVec Ideal S512x512 .f32) = t3 at h3 ⊢
  generalize dynamicRotate 1 496#32 none x rotates_S512x512_d1 = t4 at h4 ⊢
  generalize dynamicRotate 1 16#32 none x rotates_S512x512_d1 = t5 at h5 ⊢
  pointwise
  rw [h1, h2, h3, h4, h5]

/-- The keys of a block of rows, from their products, read at an entry, -/
theorem pay36_at (x : FVec Ideal S512x512 .f32) (c s1 s2 : FVec Ideal S512x128 .f32) (r l : Fin 512) :
    k0_pay36 (F := Ideal) x c s1 s2 (ix3 0 r l) =
      ropeK (fun d => x (ix2 r d)) (fun j => c (ix2 r j)) (fun j => s1 (ix2 r j)) (fun j => s2 (ix2 r j)) l := by
  have e : k0_pay36 (F := Ideal) x c s1 s2 = shapeCast S1x512x512 (truncf .bf16 (ropeArr x (shapeCast S512x128 c shapeCasts_S512x128_S512x128) (shapeCast S512x128 s1 shapeCasts_S512x128_S512x128) (shapeCast S512x128 s2 shapeCasts_S512x128_S512x128)) bitsLt_bf16_f32 : FVec Ideal S512x512 .bf16) shapeCasts_S512x512_S1x512x512 := rfl
  rw [e, shapeCast_self, shapeCast_self, shapeCast_self, ← ropeArr_at]
  generalize ropeArr x c s1 s2 = y
  pointwise

/-- and its queries, scaled. -/
theorem pay34_at (u : FVec Ideal S512x1024 .bf16) (w : FVec Ideal S1024x512 .bf16) (c s1 s2 : FVec Ideal S512x128 .f32) (r l : Fin 512) :
    k0_pay34 (F := Ideal) u w c s1 s2 (ix3 0 r l) =
      ropeK (fun d => dot (fun k => u (ix2 r k)) (fun k => w (ix2 k d))) (fun j => c (ix2 r j)) (fun j => s1 (ix2 r j)) (fun j => s2 (ix2 r j)) l
        * Ideal.ofBits .f32 0x3E38AA3B#32 := by
  have e : k0_pay34 (F := Ideal) u w c s1 s2 = shapeCast S1x512x512 (truncf .bf16 (mulf (ropeArr (k0_pay35 (F := Ideal) u w) (shapeCast S512x128 c shapeCasts_S512x128_S512x128) (shapeCast S512x128 s1 shapeCasts_S512x128_S512x128) (shapeCast S512x128 s2 shapeCasts_S512x128_S512x128)) (broadcast S512x512 (Scalar.ofBits .f32 0x3E38AA3B#32))) bitsLt_bf16_f32 : FVec Ideal S512x512 .bf16) shapeCasts_S512x512_S1x512x512 := rfl
  have e' := funext (pay35_at u w r)
  rw [e, shapeCast_self, shapeCast_self, shapeCast_self, ← e', ← ropeArr_at]
  generalize ropeArr (k0_pay35 (F := Ideal) u w) c s1 s2 = y
  pointwise

/-- One slab's convolution, from the four taps' rows, weights and the bias. -/
def convPay (b w0 : FVec Ideal S1x128 .f32) (x0 : FVec Ideal S1x512x128 .f32) (w1 : FVec Ideal S1x128 .f32) (x1 : FVec Ideal S1x512x128 .f32)
    (w2 : FVec Ideal S1x128 .f32) (x2 : FVec Ideal S1x512x128 .f32) (w3 : FVec Ideal S1x128 .f32) (x3 : FVec Ideal S1x512x128 .f32) :
    FVec Ideal S1x512x128 .f32 :=
  k0_pay25 (F := Ideal) (k0_pay24 (F := Ideal) b) w0 x0 w1 x1 w2 x2 w3 x3

/-- It read at an entry. -/
theorem convPay_at (b w0 : FVec Ideal S1x128 .f32) (x0 : FVec Ideal S1x512x128 .f32) (w1 : FVec Ideal S1x128 .f32) (x1 : FVec Ideal S1x512x128 .f32)
    (w2 : FVec Ideal S1x128 .f32) (x2 : FVec Ideal S1x512x128 .f32) (w3 : FVec Ideal S1x128 .f32) (x3 : FVec Ideal S1x512x128 .f32)
    (r : Fin 512) (l : Fin 128) :
    convPay b w0 x0 w1 x1 w2 x2 w3 x3 (ix3 0 r l) =
      conv (b (ix2 0 l)) (w0 (ix2 0 l)) (w1 (ix2 0 l)) (w2 (ix2 0 l)) (w3 (ix2 0 l)) (x0 (ix3 0 r l)) (x1 (ix3 0 r l))
        (x2 (ix3 0 r l)) (x3 (ix3 0 r l)) := by
  pointwise [convPay, k0_pay25, k0_pay24]
  rfl

/-- The products of the step's rows with the convolved columns. -/
theorem pay5_at (u : FVec Ideal S528x1024 .bf16) (w : FVec Ideal S1024x512 .bf16) (e : Fin 528) (l : Fin 512) :
    k0_pay5 (F := Ideal) u (k0_pay4 (F := Ideal) w) (ix2 e l) = dot (fun k => u (ix2 e k)) (fun k => w (ix2 k l)) := by
  pointwise [k0_pay5, k0_pay4]
  rfl

/-- Slab 0's rows before the block: zeros unless the condition holds. -/
def left0 (c : BitVec 1) (x : FVec Ideal S528x512 .f32) : FVec Ideal S1x8x128 .f32 :=
  shapeCast S1x8x128 (Scalar.select c (extractStridedSlice S8x128 ![0, 0] (extractStridedSlice S528x128 ![0, 0] x slices_S528x512_o0_0_S528x128) slices_S528x128_o0_0_S8x128) (k0_pay6 (F := Ideal))) shapeCasts_S8x128_S1x8x128
/-- Its rows of the block. -/
def mid0 (x : FVec Ideal S528x512 .f32) : FVec Ideal S1x512x128 .f32 :=
  shapeCast S1x512x128 (extractStridedSlice S512x128 ![8, 0] (extractStridedSlice S528x128 ![0, 0] x slices_S528x512_o0_0_S528x128) slices_S528x128_o8_0_S512x128) shapeCasts_S512x128_S1x512x128
/-- Its rows after the block: zeros unless the condition holds. -/
def right0 (c : BitVec 1) (x : FVec Ideal S528x512 .f32) : FVec Ideal S1x8x128 .f32 :=
  shapeCast S1x8x128 (Scalar.select c (extractStridedSlice S8x128 ![520, 0] (extractStridedSlice S528x128 ![0, 0] x slices_S528x512_o0_0_S528x128) slices_S528x128_o520_0_S8x128) (k0_pay6 (F := Ideal))) shapeCasts_S8x128_S1x8x128

/-- Slab 1's rows before the block: zeros unless the condition holds. -/
def left1 (c : BitVec 1) (x : FVec Ideal S528x512 .f32) : FVec Ideal S1x8x128 .f32 :=
  shapeCast S1x8x128 (Scalar.select c (extractStridedSlice S8x128 ![0, 0] (extractStridedSlice S528x128 ![0, 128] x slices_S528x512_o0_128_S528x128) slices_S528x128_o0_0_S8x128) (k0_pay6 (F := Ideal))) shapeCasts_S8x128_S1x8x128
/-- Its rows of the block. -/
def mid1 (x : FVec Ideal S528x512 .f32) : FVec Ideal S1x512x128 .f32 :=
  shapeCast S1x512x128 (extractStridedSlice S512x128 ![8, 0] (extractStridedSlice S528x128 ![0, 128] x slices_S528x512_o0_128_S528x128) slices_S528x128_o8_0_S512x128) shapeCasts_S512x128_S1x512x128
/-- Its rows after the block: zeros unless the condition holds. -/
def right1 (c : BitVec 1) (x : FVec Ideal S528x512 .f32) : FVec Ideal S1x8x128 .f32 :=
  shapeCast S1x8x128 (Scalar.select c (extractStridedSlice S8x128 ![520, 0] (extractStridedSlice S528x128 ![0, 128] x slices_S528x512_o0_128_S528x128) slices_S528x128_o520_0_S8x128) (k0_pay6 (F := Ideal))) shapeCasts_S8x128_S1x8x128

/-- Slab 2's rows before the block: zeros unless the condition holds. -/
def left2 (c : BitVec 1) (x : FVec Ideal S528x512 .f32) : FVec Ideal S1x8x128 .f32 :=
  shapeCast S1x8x128 (Scalar.select c (extractStridedSlice S8x128 ![0, 0] (extractStridedSlice S528x128 ![0, 256] x slices_S528x512_o0_256_S528x128) slices_S528x128_o0_0_S8x128) (k0_pay6 (F := Ideal))) shapeCasts_S8x128_S1x8x128
/-- Its rows of the block. -/
def mid2 (x : FVec Ideal S528x512 .f32) : FVec Ideal S1x512x128 .f32 :=
  shapeCast S1x512x128 (extractStridedSlice S512x128 ![8, 0] (extractStridedSlice S528x128 ![0, 256] x slices_S528x512_o0_256_S528x128) slices_S528x128_o8_0_S512x128) shapeCasts_S512x128_S1x512x128
/-- Its rows after the block: zeros unless the condition holds. -/
def right2 (c : BitVec 1) (x : FVec Ideal S528x512 .f32) : FVec Ideal S1x8x128 .f32 :=
  shapeCast S1x8x128 (Scalar.select c (extractStridedSlice S8x128 ![520, 0] (extractStridedSlice S528x128 ![0, 256] x slices_S528x512_o0_256_S528x128) slices_S528x128_o520_0_S8x128) (k0_pay6 (F := Ideal))) shapeCasts_S8x128_S1x8x128

/-- Slab 3's rows before the block: zeros unless the condition holds. -/
def left3 (c : BitVec 1) (x : FVec Ideal S528x512 .f32) : FVec Ideal S1x8x128 .f32 :=
  shapeCast S1x8x128 (Scalar.select c (extractStridedSlice S8x128 ![0, 0] (extractStridedSlice S528x128 ![0, 384] x slices_S528x512_o0_384_S528x128) slices_S528x128_o0_0_S8x128) (k0_pay6 (F := Ideal))) shapeCasts_S8x128_S1x8x128
/-- Its rows of the block. -/
def mid3 (x : FVec Ideal S528x512 .f32) : FVec Ideal S1x512x128 .f32 :=
  shapeCast S1x512x128 (extractStridedSlice S512x128 ![8, 0] (extractStridedSlice S528x128 ![0, 384] x slices_S528x512_o0_384_S528x128) slices_S528x128_o8_0_S512x128) shapeCasts_S512x128_S1x512x128
/-- Its rows after the block: zeros unless the condition holds. -/
def right3 (c : BitVec 1) (x : FVec Ideal S528x512 .f32) : FVec Ideal S1x8x128 .f32 :=
  shapeCast S1x8x128 (Scalar.select c (extractStridedSlice S8x128 ![520, 0] (extractStridedSlice S528x128 ![0, 384] x slices_S528x512_o0_384_S528x128) slices_S528x128_o520_0_S8x128) (k0_pay6 (F := Ideal))) shapeCasts_S8x128_S1x8x128

/-- Slab 0 read at an entry, before the block, -/
theorem left0_at (c c' : BitVec 1) (x : FVec Ideal S528x512 .f32) (i : Fin 8) (l : Fin 128) :
    left0 c x (ix3 0 i l) = slab c c' (fun e => x (ix2 e ⟨l.val, by omega⟩)) ⟨i.val, by omega⟩ := by
  have h : i.val < 8 := i.isLt
  unfold slab
  rw [if_pos h]
  pointwise [left0, k0_pay6]

/-- … in it, -/
theorem mid0_at (c c' : BitVec 1) (x : FVec Ideal S528x512 .f32) (i : Fin 512) (l : Fin 128) :
    mid0 x (ix3 0 i l) = slab c c' (fun e => x (ix2 e ⟨l.val, by omega⟩)) ⟨8 + i.val, by omega⟩ := by
  have h : ¬ 8 + i.val < 8 := by omega
  have h' : 8 + i.val < 520 := by omega
  unfold slab
  rw [if_neg h, if_pos h']
  pointwise [mid0, k0_pay6]

/-- … and after it. -/
theorem right0_at (c c' : BitVec 1) (x : FVec Ideal S528x512 .f32) (i : Fin 8) (l : Fin 128) :
    right0 c' x (ix3 0 i l) = slab c c' (fun e => x (ix2 e ⟨l.val, by omega⟩)) ⟨520 + i.val, by omega⟩ := by
  have h : ¬ 520 + i.val < 8 := by omega
  have h' : ¬ 520 + i.val < 520 := by omega
  unfold slab
  rw [if_neg h, if_neg h']
  pointwise [right0, k0_pay6]

/-- Slab 1 read at an entry, before the block, -/
theorem left1_at (c c' : BitVec 1) (x : FVec Ideal S528x512 .f32) (i : Fin 8) (l : Fin 128) :
    left1 c x (ix3 0 i l) = slab c c' (fun e => x (ix2 e ⟨128 + l.val, by omega⟩)) ⟨i.val, by omega⟩ := by
  have h : i.val < 8 := i.isLt
  unfold slab
  rw [if_pos h]
  pointwise [left1, k0_pay6]

/-- … in it, -/
theorem mid1_at (c c' : BitVec 1) (x : FVec Ideal S528x512 .f32) (i : Fin 512) (l : Fin 128) :
    mid1 x (ix3 0 i l) = slab c c' (fun e => x (ix2 e ⟨128 + l.val, by omega⟩)) ⟨8 + i.val, by omega⟩ := by
  have h : ¬ 8 + i.val < 8 := by omega
  have h' : 8 + i.val < 520 := by omega
  unfold slab
  rw [if_neg h, if_pos h']
  pointwise [mid1, k0_pay6]

/-- … and after it. -/
theorem right1_at (c c' : BitVec 1) (x : FVec Ideal S528x512 .f32) (i : Fin 8) (l : Fin 128) :
    right1 c' x (ix3 0 i l) = slab c c' (fun e => x (ix2 e ⟨128 + l.val, by omega⟩)) ⟨520 + i.val, by omega⟩ := by
  have h : ¬ 520 + i.val < 8 := by omega
  have h' : ¬ 520 + i.val < 520 := by omega
  unfold slab
  rw [if_neg h, if_neg h']
  pointwise [right1, k0_pay6]

/-- Slab 2 read at an entry, before the block, -/
theorem left2_at (c c' : BitVec 1) (x : FVec Ideal S528x512 .f32) (i : Fin 8) (l : Fin 128) :
    left2 c x (ix3 0 i l) = slab c c' (fun e => x (ix2 e ⟨256 + l.val, by omega⟩)) ⟨i.val, by omega⟩ := by
  have h : i.val < 8 := i.isLt
  unfold slab
  rw [if_pos h]
  pointwise [left2, k0_pay6]

/-- … in it, -/
theorem mid2_at (c c' : BitVec 1) (x : FVec Ideal S528x512 .f32) (i : Fin 512) (l : Fin 128) :
    mid2 x (ix3 0 i l) = slab c c' (fun e => x (ix2 e ⟨256 + l.val, by omega⟩)) ⟨8 + i.val, by omega⟩ := by
  have h : ¬ 8 + i.val < 8 := by omega
  have h' : 8 + i.val < 520 := by omega
  unfold slab
  rw [if_neg h, if_pos h']
  pointwise [mid2, k0_pay6]

/-- … and after it. -/
theorem right2_at (c c' : BitVec 1) (x : FVec Ideal S528x512 .f32) (i : Fin 8) (l : Fin 128) :
    right2 c' x (ix3 0 i l) = slab c c' (fun e => x (ix2 e ⟨256 + l.val, by omega⟩)) ⟨520 + i.val, by omega⟩ := by
  have h : ¬ 520 + i.val < 8 := by omega
  have h' : ¬ 520 + i.val < 520 := by omega
  unfold slab
  rw [if_neg h, if_neg h']
  pointwise [right2, k0_pay6]

/-- Slab 3 read at an entry, before the block, -/
theorem left3_at (c c' : BitVec 1) (x : FVec Ideal S528x512 .f32) (i : Fin 8) (l : Fin 128) :
    left3 c x (ix3 0 i l) = slab c c' (fun e => x (ix2 e ⟨384 + l.val, by omega⟩)) ⟨i.val, by omega⟩ := by
  have h : i.val < 8 := i.isLt
  unfold slab
  rw [if_pos h]
  pointwise [left3, k0_pay6]

/-- … in it, -/
theorem mid3_at (c c' : BitVec 1) (x : FVec Ideal S528x512 .f32) (i : Fin 512) (l : Fin 128) :
    mid3 x (ix3 0 i l) = slab c c' (fun e => x (ix2 e ⟨384 + l.val, by omega⟩)) ⟨8 + i.val, by omega⟩ := by
  have h : ¬ 8 + i.val < 8 := by omega
  have h' : 8 + i.val < 520 := by omega
  unfold slab
  rw [if_neg h, if_pos h']
  pointwise [mid3, k0_pay6]

/-- … and after it. -/
theorem right3_at (c c' : BitVec 1) (x : FVec Ideal S528x512 .f32) (i : Fin 8) (l : Fin 128) :
    right3 c' x (ix3 0 i l) = slab c c' (fun e => x (ix2 e ⟨384 + l.val, by omega⟩)) ⟨520 + i.val, by omega⟩ := by
  have h : ¬ 520 + i.val < 8 := by omega
  have h' : ¬ 520 + i.val < 520 := by omega
  unfold slab
  rw [if_neg h, if_neg h']
  pointwise [right3, k0_pay6]

/-- What a tap reads of a slab after its three stores: 512 of the slab's 528 rows, from row `o` on. -/
theorem readSlab {sig : RefSig} {κ : Kind} {sp : Space} {w : View sig κ sp S4x528x128 .f32} (s : Nat)
    (pl pr : FVec Ideal S1x8x128 .f32) (pm : FVec Ideal S1x512x128 .f32)
    (c c' : BitVec 1) (G : Fin 528 → Fin 128 → EReal)
    (hl : ∀ i l, pl (ix3 0 i l) = slab c c' (fun e => G e l) ⟨i.val, by omega⟩)
    (hm : ∀ i l, pm (ix3 0 i l) = slab c c' (fun e => G e l) ⟨8 + i.val, by omega⟩)
    (hr : ∀ i l, pr (ix3 0 i l) = slab c c' (fun e => G e l) ⟨520 + i.val, by omega⟩)
    (i1 i2 i3) (o : Nat) (i4 : ∀ a : Fin S4x528x128.rank, ![s, o, 0] a + ![1, 512, 128] a ≤ S4x528x128.size a)
    (L : List (View.Piece (Elt Ideal) S4x528x128 .f32)) (ho : o ≤ 16) (r : Fin 512) (l : Fin 128) :
    w.readCov (Val := Elt Ideal) (⟨Rect.unit (s := S4x528x128) ![s, 520, 0] ![1, 8, 128] i1, pr⟩ ::
      ⟨Rect.unit (s := S4x528x128) ![s, 8, 0] ![1, 512, 128] i2, pm⟩ ::
      ⟨Rect.unit (s := S4x528x128) ![s, 0, 0] ![1, 8, 128] i3, pl⟩ :: L)
      (Rect.unit (s := S4x528x128) ![s, o, 0] ![1, 512, 128] i4).toLoadRect (ix3 0 r l) = slab c c' (fun e => G e l) ⟨o + r.val, by omega⟩ := by
  rw [View.readCov_eq_canon']
  refine (View.canon_append_of_piecesOf (fun y => slab c c' (fun e => G e ⟨(y 2).val, (y 2).isLt⟩) ⟨(y 1).val, (y 1).isLt⟩) L
    [⟨Rect.unit (s := S4x528x128) ![s, 520, 0] ![1, 8, 128] i1, pr⟩, ⟨Rect.unit (s := S4x528x128) ![s, 8, 0] ![1, 512, 128] i2, pm⟩,
     ⟨Rect.unit (s := S4x528x128) ![s, 0, 0] ![1, 8, 128] i3, pl⟩] ⟨?_, ?_, ?_, trivial⟩ _ ?_).trans ?_
  · intro x
    idx_vars x
    refine (congrArg (fun k => pr (ix3 k x1 x2)) (Subsingleton.elim (α := Fin 1) x0 0)).trans ((hr x1 x2).trans (slab_congr _ _ _ ?_ ?_))
    · show x2.val = 0 + 1 * x2.val; omega
    · show 520 + x1.val = 520 + 1 * x1.val; omega
  · intro x
    idx_vars x
    refine (congrArg (fun k => pm (ix3 k x1 x2)) (Subsingleton.elim (α := Fin 1) x0 0)).trans ((hm x1 x2).trans (slab_congr _ _ _ ?_ ?_))
    · show x2.val = 0 + 1 * x2.val; omega
    · show 8 + x1.val = 8 + 1 * x1.val; omega
  · intro x
    idx_vars x
    refine (congrArg (fun k => pl (ix3 k x1 x2)) (Subsingleton.elim (α := Fin 1) x0 0)).trans ((hl x1 x2).trans (slab_congr _ _ _ ?_ ?_))
    · show x2.val = 0 + 1 * x2.val; omega
    · show x1.val = 0 + 1 * x1.val; omega
  · by_cases h1 : o + r.val < 8
    · refine ⟨_, List.mem_cons_of_mem _ (List.mem_cons_of_mem _ (List.mem_cons_self)), ?_⟩
      refine (Rect.mem_set_unit (inb := i3)).mpr ?_
      refine Fin.forall_fin_succ.mpr ⟨?_, Fin.forall_fin_succ.mpr ⟨?_, Fin.forall_fin_succ.mpr ⟨?_, fun a => a.elim0⟩⟩⟩
      · show s ≤ s + 1 * 0 ∧ s + 1 * 0 < s + 1; omega
      · show 0 ≤ o + 1 * r.val ∧ o + 1 * r.val < 0 + 8; omega
      · show 0 ≤ 0 + 1 * l.val ∧ 0 + 1 * l.val < 0 + 128; omega
    · by_cases h2 : o + r.val < 520
      · refine ⟨_, List.mem_cons_of_mem _ (List.mem_cons_self), ?_⟩
        refine (Rect.mem_set_unit (inb := i2)).mpr ?_
        refine Fin.forall_fin_succ.mpr ⟨?_, Fin.forall_fin_succ.mpr ⟨?_, Fin.forall_fin_succ.mpr ⟨?_, fun a => a.elim0⟩⟩⟩
        · show s ≤ s + 1 * 0 ∧ s + 1 * 0 < s + 1; omega
        · show 8 ≤ o + 1 * r.val ∧ o + 1 * r.val < 8 + 512; omega
        · show 0 ≤ 0 + 1 * l.val ∧ 0 + 1 * l.val < 0 + 128; omega
      · refine ⟨_, List.mem_cons_self, ?_⟩
        refine (Rect.mem_set_unit (inb := i1)).mpr ?_
        refine Fin.forall_fin_succ.mpr ⟨?_, Fin.forall_fin_succ.mpr ⟨?_, Fin.forall_fin_succ.mpr ⟨?_, fun a => a.elim0⟩⟩⟩
        · show s ≤ s + 1 * 0 ∧ s + 1 * 0 < s + 1; omega
        · show 520 ≤ o + 1 * r.val ∧ o + 1 * r.val < 520 + 8; omega
        · show 0 ≤ 0 + 1 * l.val ∧ 0 + 1 * l.val < 0 + 128; omega
  · refine slab_congr _ _ _ ?_ ?_
    · show 0 + 1 * l.val = l.val; omega
    · show o + 1 * r.val = o + r.val; omega

end Cert.Proof.Inproj0

end
-- ==== Proof.Inproj0.RefRow.lean ====
module

public import proofs.«01_k».proof.Proof.Gen.Reference4Ideal.Run
public import proofs.«01_k».proof.Proof.Inproj.Row
public import Idealize.ShloMosaic.Lib.KernelVsHost

@[expose] public section

set_option maxRecDepth 16384

noncomputable section

namespace Cert.Proof.Inproj0

open Idealize.ShloMosaic Idealize.ShloMosaic.TcCoe Idealize.SL.Sem
open Cert.Reference4Ideal Cert.Reference4Ideal.Gen
open Cert.Proof.Finish (rms)
open Cert.Proof.Inproj (nrm dot conv)

/-- The integer zero, converted. -/
theorem word_zero : (FloatOps.sitofp .f32 0#32 : Ideal .f32) = 0 := by
  simp [FloatOps.sitofp]

/-- The reference's normalised and modulated rows. -/
def refU (h : FVec Ideal S8x4096x1024 .f32) (mod : FVec Ideal S2x16x3072 .f32) (g : FVec Ideal S2x1024 .f32) :
    FVec Ideal S8x4096x1024 .f32 :=
  addf (mulf (mulf (mulf h (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf h h) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 (shapeCast _ (extractStridedSlice S1x1024 ![0, 0] g slices_S2x1024_S1x1024_0_0) shapeCasts_S1x1024_S1024)))) (broadcastInDim S8x4096x1024 ![0, 1, 2] bcast_S8x1x1024_S8x4096x1024_0_1_2 (addf (broadcastInDim S8x1x1024 ![] bcast_S_S8x1x1024 (constant S_ .f32 0x3F800000#32)) (broadcastInDim S8x1x1024 ![0, 2] bcast_S8x1024_S8x1x1024_0_2 (extractStridedSlice S8x1024 ![0, 1024] (shapeCast _ (extractStridedSlice S1x8x3072 ![0, 0, 0] mod slices_S2x16x3072_S1x8x3072_0_0_0) shapeCasts_S1x8x3072_S8x3072) slices_S8x3072_S8x1024_0_1024))))) (broadcastInDim S8x4096x1024 ![0, 1, 2] bcast_S8x1x1024_S8x4096x1024_0_1_2 (broadcastInDim S8x1x1024 ![0, 2] bcast_S8x1024_S8x1x1024_0_2 (extractStridedSlice S8x1024 ![0, 0] (shapeCast _ (extractStridedSlice S1x8x3072 ![0, 0, 0] mod slices_S2x16x3072_S1x8x3072_0_0_0) shapeCasts_S1x8x3072_S8x3072) slices_S8x3072_S8x1024_0_0)))

/-- The reference's projection: every row times every column of the weights. -/
def refP (u : FVec Ideal S8x4096x1024 .f32) (w : FVec Ideal S1x1024x3072 .f32) : FVec Ideal S8x4096x3072 .f32 :=
  Host.dotGeneral dot_S8x4096x1024_S1024x3072_S8x4096x3072_2_0_01_1_n_n none u (shapeCast _ w shapeCasts_S1x1024x3072_S1024x3072)

/-- The projection's first 512 columns with two rows of zeros before and one after. -/
def refX (p : FVec Ideal S8x4096x3072 .f32) : FVec Ideal S8x4099x512 .f32 :=
  pad S8x4099x512 ![0, 2, 0] ![0, 1, 0] ![0, 0, 0] (extractStridedSlice S8x4096x512 ![0, 0, 0] p slices_S8x4096x3072_S8x4096x512_0_0_0) (sitofp .f32 (constantI S_ 32 0#32)) pads_S8x4096x512_S8x4099x512_000_210_000 h_S_

/-- The reference's convolution of the padded columns. -/
def refConv (x : FVec Ideal S8x4099x512 .f32) (w : FVec Ideal S1x4x512 .f32) (b : FVec Ideal S1x512 .f32) : FVec Ideal S8x4096x512 .f32 :=
  addf (addf (addf (addf (mulf (extractStridedSlice S8x4096x512 ![0, 0, 0] x slices_S8x4099x512_S8x4096x512_0_0_0) (broadcastInDim S8x4096x512 ![0, 1, 2] bcast_S1x1x512_S8x4096x512_0_1_2 (broadcastInDim S1x1x512 ![2] bcast_S512_S1x1x512_2 (shapeCast _ (extractStridedSlice S1x512 ![0, 0] (shapeCast _ w shapeCasts_S1x4x512_S4x512) slices_S4x512_S1x512_0_0) shapeCasts_S1x512_S512)))) (mulf (extractStridedSlice S8x4096x512 ![0, 1, 0] x slices_S8x4099x512_S8x4096x512_0_1_0) (broadcastInDim S8x4096x512 ![0, 1, 2] bcast_S1x1x512_S8x4096x512_0_1_2 (broadcastInDim S1x1x512 ![2] bcast_S512_S1x1x512_2 (shapeCast _ (extractStridedSlice S1x512 ![1, 0] (shapeCast _ w shapeCasts_S1x4x512_S4x512) slices_S4x512_S1x512_1_0) shapeCasts_S1x512_S512))))) (mulf (extractStridedSlice S8x4096x512 ![0, 2, 0] x slices_S8x4099x512_S8x4096x512_0_2_0) (broadcastInDim S8x4096x512 ![0, 1, 2] bcast_S1x1x512_S8x4096x512_0_1_2 (broadcastInDim S1x1x512 ![2] bcast_S512_S1x1x512_2 (shapeCast _ (extractStridedSlice S1x512 ![2, 0] (shapeCast _ w shapeCasts_S1x4x512_S4x512) slices_S4x512_S1x512_2_0) shapeCasts_S1x512_S512))))) (mulf (extractStridedSlice S8x4096x512 ![0, 3, 0] x slices_S8x4099x512_S8x4096x512_0_3_0) (broadcastInDim S8x4096x512 ![0, 1, 2] bcast_S1x1x512_S8x4096x512_0_1_2 (broadcastInDim S1x1x512 ![2] bcast_S512_S1x1x512_2 (shapeCast _ (extractStridedSlice S1x512 ![3, 0] (shapeCast _ w shapeCasts_S1x4x512_S4x512) slices_S4x512_S1x512_3_0) shapeCasts_S1x512_S512))))) (broadcastInDim S8x4096x512 ![0, 1, 2] bcast_S1x1x512_S8x4096x512_0_1_2 (broadcastInDim S1x1x512 ![2] bcast_S512_S1x1x512_2 (shapeCast _ b shapeCasts_S1x512_S512)))

/-- The halves of heads rotated by their angles: pairs of entries 16 apart. -/
def refHalf (z : FVec Ideal S8x4096x16x2x32 .f32) (c s : FVec Ideal S4096x2x16 .f32) : FVec Ideal S8x4096x16x2x32 .f32 :=
  concatenate S8x4096x16x2x32 4 [⟨S8x4096x16x2x16, (subf (mulf (extractStridedSlice S8x4096x16x2x16 ![0, 0, 0, 0, 0] z slices_S8x4096x16x2x32_S8x4096x16x2x16_0_0_0_0_0) (broadcastInDim S8x4096x16x2x16 ![0, 1, 2, 3, 4] bcast_S1x4096x1x2x16_S8x4096x16x2x16_0_1_2_3_4 (broadcastInDim S1x4096x1x2x16 ![1, 3, 4] bcast_S4096x2x16_S1x4096x1x2x16_1_3_4 c))) (mulf (extractStridedSlice S8x4096x16x2x16 ![0, 0, 0, 0, 16] z slices_S8x4096x16x2x32_S8x4096x16x2x16_0_0_0_0_16) (broadcastInDim S8x4096x16x2x16 ![0, 1, 2, 3, 4] bcast_S1x4096x1x2x16_S8x4096x16x2x16_0_1_2_3_4 (broadcastInDim S1x4096x1x2x16 ![1, 3, 4] bcast_S4096x2x16_S1x4096x1x2x16_1_3_4 s))))⟩, ⟨S8x4096x16x2x16, (addf (mulf (extractStridedSlice S8x4096x16x2x16 ![0, 0, 0, 0, 0] z slices_S8x4096x16x2x32_S8x4096x16x2x16_0_0_0_0_0) (broadcastInDim S8x4096x16x2x16 ![0, 1, 2, 3, 4] bcast_S1x4096x1x2x16_S8x4096x16x2x16_0_1_2_3_4 (broadcastInDim S1x4096x1x2x16 ![1, 3, 4] bcast_S4096x2x16_S1x4096x1x2x16_1_3_4 s))) (mulf (extractStridedSlice S8x4096x16x2x16 ![0, 0, 0, 0, 16] z slices_S8x4096x16x2x32_S8x4096x16x2x16_0_0_0_0_16) (broadcastInDim S8x4096x16x2x16 ![0, 1, 2, 3, 4] bcast_S1x4096x1x2x16_S8x4096x16x2x16_0_1_2_3_4 (broadcastInDim S1x4096x1x2x16 ![1, 3, 4] bcast_S4096x2x16_S1x4096x1x2x16_1_3_4 c))))⟩] concatenates_S8x4096x16x2x16_S8x4096x16x2x16_S8x4096x16x2x32_d4

/-- The queries' and keys' columns of the projection as halves of heads. -/
def refY (p : FVec Ideal S8x4096x3072 .f32) : FVec Ideal S8x4096x16x2x32 .f32 :=
  shapeCast _ (extractStridedSlice S8x4096x1024 ![0, 0, 1024] p slices_S8x4096x3072_S8x4096x1024_0_0_1024) shapeCasts_S8x4096x1024_S8x4096x16x2x32

/-- A rope table split into the rows' angles and the columns'. -/
def refTab (x : FVec Ideal S4096x32 .f32) : FVec Ideal S4096x2x16 .f32 := shapeCast _ x shapeCasts_S4096x32_S4096x2x16

/-- The heads side by side again. -/
def flat (y : FVec Ideal S8x4096x16x2x32 .f32) : FVec Ideal S8x4096x1024 .f32 :=
  shapeCast _ y shapeCasts_S8x4096x16x2x32_S8x4096x1024

/-- The reference's axial rope of the queries and keys. -/
def refRope (p : FVec Ideal S8x4096x3072 .f32) (cos sin : FVec Ideal S4096x32 .f32) : FVec Ideal S8x4096x1024 .f32 :=
  flat (refHalf (refY p) (refTab cos) (refTab sin))

/-- The queries, scaled and cast. -/
def refQ (x : FVec Ideal S8x4096x1024 .f32) : FVec Ideal S8x4096x512 .bf16 :=
  truncf .bf16 (mulf (extractStridedSlice S8x4096x512 ![0, 0, 0] x slices_S8x4096x1024_S8x4096x512_0_0_0) (broadcastInDim S8x4096x512 ![] bcast_S_S8x4096x512 (constant S_ .f32 0x3E38AA3B#32))) bitsLt_bf16_f32

/-- The keys, cast. -/
def refK (x : FVec Ideal S8x4096x1024 .f32) : FVec Ideal S8x4096x512 .bf16 :=
  truncf .bf16 (extractStridedSlice S8x4096x512 ![0, 0, 512] x slices_S8x4096x1024_S8x4096x512_0_0_512) bitsLt_bf16_f32

/-- The projection's 512 columns from column 512 on, cast. -/
def refC1 (p : FVec Ideal S8x4096x3072 .f32) : FVec Ideal S8x4096x512 .bf16 :=
  truncf .bf16 (extractStridedSlice S8x4096x512 ![0, 0, 512] p slices_S8x4096x3072_S8x4096x512_0_0_512) bitsLt_bf16_f32

/-- The projection's 512 columns from column 2048 on, cast. -/
def refC4 (p : FVec Ideal S8x4096x3072 .f32) : FVec Ideal S8x4096x512 .bf16 :=
  truncf .bf16 (extractStridedSlice S8x4096x512 ![0, 0, 2048] p slices_S8x4096x3072_S8x4096x512_0_0_2048) bitsLt_bf16_f32

/-- The projection's 512 columns from column 2560 on, cast. -/
def refC5 (p : FVec Ideal S8x4096x3072 .f32) : FVec Ideal S8x4096x512 .bf16 :=
  truncf .bf16 (extractStridedSlice S8x4096x512 ![0, 0, 2560] p slices_S8x4096x3072_S8x4096x512_0_0_2560) bitsLt_bf16_f32

/-- A modulated row read at an entry. -/
theorem refU_at (h : FVec Ideal S8x4096x1024 .f32) (mod : FVec Ideal S2x16x3072 .f32) (g : FVec Ideal S2x1024 .f32)
    (b : Fin 8) (t : Fin 4096) (d : Fin 1024) :
    refU h mod g (ix3 b t d) = nrm (fun k => h (ix3 b t k)) (fun k => mod (ix3 0 ⟨b.val, by omega⟩ ⟨k.val, by omega⟩))
      (fun k => mod (ix3 0 ⟨b.val, by omega⟩ ⟨1024 + k.val, by omega⟩)) (fun k => g (ix2 0 k)) d := by
  pointwise [refU]
  rfl

/-- The projection read at an entry. -/
theorem refP_at (u : FVec Ideal S8x4096x1024 .f32) (w : FVec Ideal S1x1024x3072 .f32) (b : Fin 8) (t : Fin 4096) (d : Fin 3072) :
    refP u w (ix3 b t d) = dot (fun k => u (ix3 b t k)) (fun k => w (ix3 0 k d)) := by
  pointwise [refP]
  rfl

/-- The padded columns read inside: row `k` is the projection's row `t`, two rows further up. -/
theorem refX_in (p : FVec Ideal S8x4096x3072 .f32) (b : Fin 8) (k : Fin 4099) (d : Fin 512) (t : Fin 4096) (h : k.val = t.val + 2) :
    refX p (ix3 b k d) = p (ix3 b t ⟨d.val, by omega⟩) := by
  obtain ⟨k, hk⟩ := k
  obtain rfl : k = t.val + 2 := h
  have e : t.val + 2 - 2 < 4096 := by omega
  pointwise [refX]
  rw [dif_pos e]
  exact congrArg (fun k => p (ix3 b k _)) (Fin.ext (by show t.val + 2 - 2 = t.val; omega))

/-- … and on the rows of zeros. -/
theorem refX_out (p : FVec Ideal S8x4096x3072 .f32) (b : Fin 8) (k : Fin 4099) (d : Fin 512) (h : k.val < 2 ∨ 4098 ≤ k.val) :
    refX p (ix3 b k d) = 0 := by
  have e : ¬ (2 ≤ k.val ∧ k.val - 2 < 4096) := by omega
  pointwise [refX, e]
  exact word_zero

/-- The convolution read at an entry. -/
theorem refConv_at (x : FVec Ideal S8x4099x512 .f32) (w : FVec Ideal S1x4x512 .f32) (v : FVec Ideal S1x512 .f32) (b : Fin 8)
    (t : Fin 4096) (d : Fin 512) :
    refConv x w v (ix3 b t d) = conv (v (ix2 0 d)) (w (ix3 0 0 d)) (w (ix3 0 1 d)) (w (ix3 0 2 d)) (w (ix3 0 3 d))
      (x (ix3 b ⟨t.val, by omega⟩ d)) (x (ix3 b ⟨1 + t.val, by omega⟩ d)) (x (ix3 b ⟨2 + t.val, by omega⟩ d))
      (x (ix3 b ⟨3 + t.val, by omega⟩ d)) := by
  pointwise [refConv]
  unfold conv
  simp only [mul_comm (x _)]
  rw [add_comm _ (v (ix2 0 d))]
  simp only [← add_assoc]

/-- Axial rope of 8 heads of 64 side by side, at a column: within a head, halves of 32; within a half, entries 16 apart are turned
by the same angle. -/
def rope (f : Fin 512 → EReal) (cs sn : Fin 32 → EReal) (d : Fin 512) : EReal :=
  if h : d.val % 32 < 16 then
    f d * cs ⟨d.val % 64 / 32 * 16 + d.val % 16, by omega⟩ - f ⟨d.val + 16, by omega⟩ * sn ⟨d.val % 64 / 32 * 16 + d.val % 16, by omega⟩
  else f ⟨d.val - 16, by omega⟩ * sn ⟨d.val % 64 / 32 * 16 + d.val % 16, by omega⟩ + f d * cs ⟨d.val % 64 / 32 * 16 + d.val % 16, by omega⟩

/-- The rotated halves read among a half's first 16 entries, -/
theorem refHalf_lo (z : FVec Ideal S8x4096x16x2x32 .f32) (c s : FVec Ideal S4096x2x16 .f32) (b : Fin 8) (t : Fin 4096) (h : Fin 16) (i : Fin 2)
    (e : Fin 32) (he : e.val < 16) :
    refHalf z c s (ix5 b t h i e) = z (ix5 b t h i e) * c (ix3 t i ⟨e.val, he⟩) - z (ix5 b t h i ⟨16 + e.val, by omega⟩) * s (ix3 t i ⟨e.val, he⟩) := by
  pointwise [refHalf, he]

/-- … and among its last. -/
theorem refHalf_hi (z : FVec Ideal S8x4096x16x2x32 .f32) (c s : FVec Ideal S4096x2x16 .f32) (b : Fin 8) (t : Fin 4096) (h : Fin 16) (i : Fin 2)
    (e : Fin 32) (he : ¬ e.val < 16) :
    refHalf z c s (ix5 b t h i e) = z (ix5 b t h i ⟨e.val - 16, by omega⟩) * s (ix3 t i ⟨e.val - 16, by omega⟩) + z (ix5 b t h i e) * c (ix3 t i ⟨e.val - 16, by omega⟩) := by
  have e2 : 16 + (e.val - 16) = e.val := by omega
  pointwise [refHalf, he, e2]

/-- A split table read at an entry. -/
theorem refTab_at (x : FVec Ideal S4096x32 .f32) (t : Fin 4096) (i : Fin 2) (e : Fin 16) (j : Fin 32) (h : j.val = i.val * 16 + e.val) :
    refTab x (ix3 t i e) = x (ix2 t j) := by
  refine shapeCast_apply _ _ _ _ ?_
  rw [Shape.rowMajor_val_two, Shape.rowMajor_val_three]
  show t.val * 32 + j.val = (t.val * 2 + i.val) * 16 + e.val
  omega

/-- Heads side by side read at a column. -/
theorem flat_at (y : FVec Ideal S8x4096x16x2x32 .f32) (b : Fin 8) (t : Fin 4096) (d : Fin 1024) :
    flat y (ix3 b t d) = y (ix5 b t ⟨d.val / 64, by omega⟩ ⟨d.val / 32 % 2, by omega⟩ ⟨d.val % 32, by omega⟩) := by
  refine shapeCast_apply _ _ _ _ ?_
  rw [Shape.rowMajor_val_five, Shape.rowMajor_val_three]
  show (((b.val * 4096 + t.val) * 16 + d.val / 64) * 2 + d.val / 32 % 2) * 32 + d.val % 32 = (b.val * 4096 + t.val) * 1024 + d.val
  omega

/-- The heads' halves read at an entry. -/
theorem refY_at (p : FVec Ideal S8x4096x3072 .f32) (b : Fin 8) (t : Fin 4096) (h : Fin 16) (i : Fin 2) (e : Fin 32) (k : Fin 3072)
    (hk : k.val = 1024 + (h.val * 64 + i.val * 32 + e.val)) : refY p (ix5 b t h i e) = p (ix3 b t k) := by
  refine (shapeCast_apply _ _ _ (ix3 b t ⟨h.val * 64 + i.val * 32 + e.val, by omega⟩) ?_).trans ?_
  · rw [Shape.rowMajor_val_five, Shape.rowMajor_val_three]
    show (b.val * 4096 + t.val) * 1024 + (h.val * 64 + i.val * 32 + e.val) = (((b.val * 4096 + t.val) * 16 + h.val) * 2 + i.val) * 32 + e.val
    omega
  · have ek : k = ⟨1024 + (h.val * 64 + i.val * 32 + e.val), by omega⟩ := Fin.ext hk
    have h0 : extractStridedSlice S8x4096x1024 ![0, 0, 1024] p slices_S8x4096x3072_S8x4096x1024_0_0_1024 (ix3 b t ⟨h.val * 64 + i.val * 32 + e.val, by omega⟩) =
        p (ix3 b t ⟨1024 + (h.val * 64 + i.val * 32 + e.val), by omega⟩) := by pointwise
    exact h0.trans (congrArg (fun k => p (ix3 b t k)) ek.symm)

/-- The reference's rope is `rope` of the columns' 512 from `o` on. -/
theorem refRope_at (p : FVec Ideal S8x4096x3072 .f32) (cos sin : FVec Ideal S4096x32 .f32) (b : Fin 8) (t : Fin 4096) (f : Fin 512 → EReal) (o : Nat)
    (ho : o = 0 ∨ o = 512) (hf : ∀ (k : Fin 512) (j : Fin 3072), j.val = 1024 + (o + k.val) → f k = p (ix3 b t j)) (d : Fin 512) (e : Fin 1024)
    (h : e.val = o + d.val) :
    refRope p cos sin (ix3 b t e) = rope f (fun j => cos (ix2 t j)) (fun j => sin (ix2 t j)) d := by
  have hd := d.isLt
  unfold refRope
  rw [flat_at]
  have h1 : e.val % 32 = d.val % 32 := by omega
  have h2 : e.val / 32 % 2 * 16 + d.val % 16 = d.val % 64 / 32 * 16 + d.val % 16 := by omega
  have h3 : e.val = e.val / 64 * 64 + e.val / 32 % 2 * 32 + e.val % 32 := by omega
  unfold rope
  by_cases hc : d.val % 32 < 16
  · rw [dif_pos hc, refHalf_lo _ _ _ _ _ _ _ _ (by show e.val % 32 < 16; omega),
      refTab_at cos _ _ _ ⟨d.val % 64 / 32 * 16 + d.val % 16, by omega⟩ (by show d.val % 64 / 32 * 16 + d.val % 16 = e.val / 32 % 2 * 16 + e.val % 32; omega),
      refTab_at sin _ _ _ ⟨d.val % 64 / 32 * 16 + d.val % 16, by omega⟩ (by show d.val % 64 / 32 * 16 + d.val % 16 = e.val / 32 % 2 * 16 + e.val % 32; omega),
      refY_at p _ _ _ _ _ ⟨1024 + (o + d.val), by omega⟩ (by show 1024 + (o + d.val) = 1024 + (e.val / 64 * 64 + e.val / 32 % 2 * 32 + e.val % 32); omega),
      refY_at p _ _ _ _ _ ⟨1024 + (o + (d.val + 16)), by omega⟩ (by show 1024 + (o + (d.val + 16)) = 1024 + (e.val / 64 * 64 + e.val / 32 % 2 * 32 + (16 + e.val % 32)); omega),
      hf d ⟨1024 + (o + d.val), by omega⟩ rfl, hf ⟨d.val + 16, by omega⟩ ⟨1024 + (o + (d.val + 16)), by omega⟩ rfl]
  · rw [dif_neg hc, refHalf_hi _ _ _ _ _ _ _ _ (by show ¬ e.val % 32 < 16; omega),
      refTab_at cos _ _ _ ⟨d.val % 64 / 32 * 16 + d.val % 16, by omega⟩ (by show d.val % 64 / 32 * 16 + d.val % 16 = e.val / 32 % 2 * 16 + (e.val % 32 - 16); omega),
      refTab_at sin _ _ _ ⟨d.val % 64 / 32 * 16 + d.val % 16, by omega⟩ (by show d.val % 64 / 32 * 16 + d.val % 16 = e.val / 32 % 2 * 16 + (e.val % 32 - 16); omega),
      refY_at p _ _ _ _ _ ⟨1024 + (o + (d.val - 16)), by omega⟩ (by show 1024 + (o + (d.val - 16)) = 1024 + (e.val / 64 * 64 + e.val / 32 % 2 * 32 + (e.val % 32 - 16)); omega),
      refY_at p _ _ _ _ _ ⟨1024 + (o + d.val), by omega⟩ (by show 1024 + (o + d.val) = 1024 + (e.val / 64 * 64 + e.val / 32 % 2 * 32 + e.val % 32); omega),
      hf d ⟨1024 + (o + d.val), by omega⟩ rfl, hf ⟨d.val - 16, by omega⟩ ⟨1024 + (o + (d.val - 16)), by omega⟩ rfl]

/-- The queries read at an entry, -/
theorem refQ_at (x : FVec Ideal S8x4096x1024 .f32) (b : Fin 8) (t : Fin 4096) (d : Fin 512) :
    refQ x (ix3 b t d) = x (ix3 b t ⟨d.val, by omega⟩) * Ideal.ofBits .f32 0x3E38AA3B#32 := by
  pointwise [refQ]

/-- the keys -/
theorem refK_at (x : FVec Ideal S8x4096x1024 .f32) (b : Fin 8) (t : Fin 4096) (d : Fin 512) :
    refK x (ix3 b t d) = x (ix3 b t ⟨512 + d.val, by omega⟩) := by
  pointwise [refK]

/-- and the plain columns from 512 on. -/
theorem refC1_at (p : FVec Ideal S8x4096x3072 .f32) (b : Fin 8) (t : Fin 4096) (d : Fin 512) :
    refC1 p (ix3 b t d) = p (ix3 b t ⟨512 + d.val, by omega⟩) := by
  pointwise [refC1]

/-- and the plain columns from 2048 on. -/
theorem refC4_at (p : FVec Ideal S8x4096x3072 .f32) (b : Fin 8) (t : Fin 4096) (d : Fin 512) :
    refC4 p (ix3 b t d) = p (ix3 b t ⟨2048 + d.val, by omega⟩) := by
  pointwise [refC4]

/-- and the plain columns from 2560 on. -/
theorem refC5_at (p : FVec Ideal S8x4096x3072 .f32) (b : Fin 8) (t : Fin 4096) (d : Fin 512) :
    refC5 p (ix3 b t d) = p (ix3 b t ⟨2560 + d.val, by omega⟩) := by
  pointwise [refC5]

/-- The reference's first result in the pieces above, -/
theorem res_eq0 (m : (ℓ : Loc nD τ sig) → Buf (Elt Ideal) ℓ) (c : Dev nD) :
    Cert.Reference4Ideal.Value.res_out0 (F := Ideal) m c = refConv (refX (refP (refU (m ((c.tc : Thread nD τ).loc main_arg0)) (m ((c.tc : Thread nD τ).loc main_arg1)) (m ((c.tc : Thread nD τ).loc main_arg2))) (m ((c.tc : Thread nD τ).loc main_arg3)))) (m ((c.tc : Thread nD τ).loc main_arg4)) (m ((c.tc : Thread nD τ).loc main_arg5)) := rfl

/-- … the third, -/
theorem res_eq2 (m : (ℓ : Loc nD τ sig) → Buf (Elt Ideal) ℓ) (c : Dev nD) :
    Cert.Reference4Ideal.Value.res_out2 (F := Ideal) m c = refQ (refRope (refP (refU (m ((c.tc : Thread nD τ).loc main_arg0)) (m ((c.tc : Thread nD τ).loc main_arg1)) (m ((c.tc : Thread nD τ).loc main_arg2))) (m ((c.tc : Thread nD τ).loc main_arg3))) (m ((c.tc : Thread nD τ).loc main_arg6)) (m ((c.tc : Thread nD τ).loc main_arg7))) := rfl

/-- … and the fourth. -/
theorem res_eq3 (m : (ℓ : Loc nD τ sig) → Buf (Elt Ideal) ℓ) (c : Dev nD) :
    Cert.Reference4Ideal.Value.res_out3 (F := Ideal) m c = refK (refRope (refP (refU (m ((c.tc : Thread nD τ).loc main_arg0)) (m ((c.tc : Thread nD τ).loc main_arg1)) (m ((c.tc : Thread nD τ).loc main_arg2))) (m ((c.tc : Thread nD τ).loc main_arg3))) (m ((c.tc : Thread nD τ).loc main_arg6)) (m ((c.tc : Thread nD τ).loc main_arg7))) := rfl

end Cert.Proof.Inproj0

end
-- ==== Proof.Inproj0.Point.lean ====
module

public import proofs.«01_k».proof.Proof.Inproj0.Reads
public import proofs.«01_k».proof.Proof.Inproj0.Body
public import proofs.«01_k».proof.Proof.Inproj0.RefRow

@[expose] public section

set_option maxRecDepth 16384

noncomputable section

namespace Cert.Proof.Inproj0

open Idealize.ShloMosaic Idealize.ShloMosaic.TcCoe Idealize.SL.Sem
open Idealize.ShloMosaic.Pipeline (Dat)
open Cert.Kernel4Ideal Cert.Kernel4Ideal.Gen
open Cert.Proof.Inproj (nrm dot conv slab slab_congr)

variable (m : (ℓ : Loc nD τ sig) → Buf (Elt Ideal) ℓ)

/-- The reference's projection over the kernel's argument arrays. -/
abbrev PROJ (c : Dev nD) : FVec Ideal Cert.Reference4Ideal.S8x4096x3072 .f32 :=
  refP (refU (m ((c.tc : Thread nD τ).loc main_arg0)) (m ((c.tc : Thread nD τ).loc main_arg1))
    (m ((c.tc : Thread nD τ).loc main_arg2))) (m ((c.tc : Thread nD τ).loc main_arg3))

/-- The reference's six results over the kernel's argument arrays: the convolution, -/
abbrev REF0 (c : Dev nD) : FVec Ideal S8x4096x512 .f32 := refConv (refX (PROJ m c)) (m ((c.tc : Thread nD τ).loc main_arg4)) (m ((c.tc : Thread nD τ).loc main_arg5))
/-- the recurrence's gate, -/
abbrev REF1 (c : Dev nD) : FVec Ideal S8x4096x512 .bf16 := refC1 (PROJ m c)
/-- the queries, -/
abbrev REF2 (c : Dev nD) : FVec Ideal S8x4096x512 .bf16 := refQ (refRope (PROJ m c) (m ((c.tc : Thread nD τ).loc main_arg6)) (m ((c.tc : Thread nD τ).loc main_arg7)))
/-- the keys, -/
abbrev REF3 (c : Dev nD) : FVec Ideal S8x4096x512 .bf16 := refK (refRope (PROJ m c) (m ((c.tc : Thread nD τ).loc main_arg6)) (m ((c.tc : Thread nD τ).loc main_arg7)))
/-- the values -/
abbrev REF4 (c : Dev nD) : FVec Ideal S8x4096x512 .bf16 := refC4 (PROJ m c)
/-- and the attention's gate. -/
abbrev REF5 (c : Dev nD) : FVec Ideal S8x4096x512 .bf16 := refC5 (PROJ m c)

section point
variable (c : Dev nD) (t : Fin cfg0.N)

/-- The modulation's shift and scale at a grid point. -/
abbrev SH : FVec Ideal S1x1x1024 .f32 :=
  View.ld (iblk m c 3 t) (Rect.unit ![0, 0, 0] ![1, 1, 1024] inb_S1x1x3072_S1x1x1024_0_0_0)
/-- The scale at a grid point. -/
abbrev SC : FVec Ideal S1x1x1024 .f32 :=
  View.ld (iblk m c 3 t) (Rect.unit ![0, 0, 1024] ![1, 1, 1024] inb_S1x1x3072_S1x1x1024_0_0_1024)

/-- The 528 modulated rows of a grid point. -/
abbrev UU : FVec Ideal S528x1024 .bf16 := k0_pay2 (F := Ideal) (iblk m c 1 t) (iblk m c 0 t) (iblk m c 2 t) (SH m c t) (SC m c t) (iblk m c 4 t)
/-- The block's own 512 among them. -/
abbrev UM : FVec Ideal S512x1024 .bf16 := k0_pay3 (F := Ideal) (iblk m c 1 t) (iblk m c 0 t) (iblk m c 2 t) (SH m c t) (SC m c t) (iblk m c 4 t)

/-- The shift at a channel, in the reference's array. -/
theorem sh_at (k : Fin 1024) : SH m c t (ix3 0 0 k) =
    (m ((c.tc : Thread nD τ).loc main_arg1) : FVec Ideal S2x16x3072 .f32) (ix3 0 ⟨t.val % 8, by omega⟩ ⟨k.val, by omega⟩) := by
  refine Eq.trans ?_ (rd3 m c t ⟨k.val, by omega⟩ ⟨k.val, by omega⟩ rfl)
  unfold SH
  pointwise

/-- The scale at a channel, in the reference's array. -/
theorem sc_at (k : Fin 1024) : SC m c t (ix3 0 0 k) =
    (m ((c.tc : Thread nD τ).loc main_arg1) : FVec Ideal S2x16x3072 .f32) (ix3 0 ⟨t.val % 8, by omega⟩ ⟨1024 + k.val, by omega⟩) := by
  refine Eq.trans ?_ (rd3 m c t ⟨1024 + k.val, by omega⟩ ⟨1024 + k.val, by omega⟩ rfl)
  unfold SC
  pointwise

/-- The rows a grid point works on are the input's rows from 8 before its block on, as far as these exist. -/
theorem hext_at (e : Fin 528) (row : Fin 4096) (h : row.val + 8 = t.val / 8 * 512 + e.val) (k : Fin 1024) :
    hext (iblk m c 1 t) (iblk m c 2 t) (iblk m c 0 t) e k =
      (m ((c.tc : Thread nD τ).loc main_arg0) : FVec Ideal S8x4096x1024 .f32) (ix3 ⟨t.val % 8, by omega⟩ row k) := by
  have hr := row.isLt
  have he := e.isLt
  unfold hext
  split
  · refine (rd1 m c t (by omega) _ k).trans ?_
    exact congrArg (fun r => (m ((c.tc : Thread nD τ).loc main_arg0) : FVec Ideal S8x4096x1024 .f32) (ix3 _ r k)) (Fin.ext (by show t.val / 8 * 512 + e.val - 8 = row.val; omega))
  · split
    · refine (rd0 m c t _ k).trans ?_
      exact congrArg (fun r => (m ((c.tc : Thread nD τ).loc main_arg0) : FVec Ideal S8x4096x1024 .f32) (ix3 _ r k)) (Fin.ext (by show t.val / 8 * 512 + (e.val - 8) = row.val; omega))
    · refine (rd2 m c t (by omega) _ k).trans ?_
      exact congrArg (fun r => (m ((c.tc : Thread nD τ).loc main_arg0) : FVec Ideal S8x4096x1024 .f32) (ix3 _ r k)) (Fin.ext (by show t.val / 8 * 512 + 512 + (e.val - 8 - 512) = row.val; omega))

/-- So are the modulated rows the reference's. -/
theorem uu_at (e : Fin 528) (row : Fin 4096) (h : row.val + 8 = t.val / 8 * 512 + e.val) (d : Fin 1024) :
    UU m c t (ix2 e d) = refU (m ((c.tc : Thread nD τ).loc main_arg0)) (m ((c.tc : Thread nD τ).loc main_arg1))
      (m ((c.tc : Thread nD τ).loc main_arg2)) (ix3 ⟨t.val % 8, by omega⟩ row d) := by
  have e1 := funext (hext_at m c t e row h)
  have e2 := funext (sh_at m c t)
  have e3 := funext (sc_at m c t)
  have e4 := funext (rd4 m c t)
  refine (pay2_at _ _ _ _ _ _ e d).trans (Eq.trans ?_ (refU_at _ _ _ _ row d).symm)
  exact (congrArg (fun f => nrm f _ _ _ d) e1).trans ((congrArg (fun f => nrm _ f _ _ d) e2).trans
    ((congrArg (fun f => nrm _ _ f _ d) e3).trans (congrArg (fun f => nrm _ _ _ f d) e4)))

/-- A row of the products with columns `w` that are the reference's column `d` is the reference's projection there. -/
theorem dot_at (e : Fin 528) (row : Fin 4096) (h : row.val + 8 = t.val / 8 * 512 + e.val) (w : Fin 1024 → EReal) (d : Fin 3072)
    (hw : ∀ k, w k = (m ((c.tc : Thread nD τ).loc main_arg3) : FVec Ideal S1x1024x3072 .f32) (ix3 0 k d)) :
    dot (fun k => UU m c t (ix2 e k)) w = PROJ m c (ix3 ⟨t.val % 8, by omega⟩ row d) := by
  refine Eq.trans ?_ (refP_at _ _ _ row d).symm
  rw [funext (uu_at m c t e row h), funext hw]

/-- The same for the block's own rows. -/
theorem dotm_at (r : Fin 512) (row : Fin 4096) (h : row.val = t.val / 8 * 512 + r.val) (w : Fin 1024 → EReal) (d : Fin 3072)
    (hw : ∀ k, w k = (m ((c.tc : Thread nD τ).loc main_arg3) : FVec Ideal S1x1024x3072 .f32) (ix3 0 k d)) :
    dot (fun k => UM m c t (ix2 r k)) w = PROJ m c (ix3 ⟨t.val % 8, by omega⟩ row d) := by
  refine Eq.trans ?_ (dot_at m c t ⟨8 + r.val, by omega⟩ row (by show row.val + 8 = _ + (8 + r.val); omega) w d hw)
  exact congrArg (fun f => dot f w) (funext fun k => pay3_at _ _ _ _ _ _ r k)

/-- Whether rows before the block exist, as the kernel asks; -/
abbrev CL : BitVec 1 := Scalar.cmpi .sge (BitVec.ofNat 32 (grid0.coords t 0).val) 1#32
/-- and rows after it. -/
abbrev CR : BitVec 1 := Scalar.cmpi .sle (BitVec.ofNat 32 (grid0.coords t 0).val) 6#32

/-- The condition "not the first step" at a grid point. -/
theorem cl_eq : ∀ t : Fin cfg0.N, CL t = if 1 ≤ t.val / 8 then 1#1 else 0#1 :=
  (by decide +kernel : ∀ t : Fin grid0.N, _)
/-- The condition "not the last step" at a grid point. -/
theorem cr_eq : ∀ t : Fin cfg0.N, CR t = if t.val / 8 ≤ 6 then 1#1 else 0#1 :=
  (by decide +kernel : ∀ t : Fin grid0.N, _)

/-- A slab's rows are the padded projection's, zeros outside the sequence included. -/
theorem slab_ref (x : Fin 528 → EReal) (d : Fin 512)
    (hx : ∀ (e : Fin 528) (row : Fin 4096), row.val + 8 = t.val / 8 * 512 + e.val →
      x e = PROJ m c (ix3 ⟨t.val % 8, by omega⟩ row ⟨d.val, by omega⟩))
    (e : Fin 528) (k : Fin 4099) (h : k.val + 6 = t.val / 8 * 512 + e.val) :
    slab (CL t) (CR t) x e = refX (PROJ m c) (ix3 ⟨t.val % 8, by omega⟩ k d) := by
  have ht := tile_lt t
  have hk := k.isLt
  have he := e.isLt
  rw [cl_eq, cr_eq]
  unfold slab
  by_cases h1 : k.val < 2 ∨ 4098 ≤ k.val
  · refine Eq.trans ?_ (refX_out _ _ k d h1).symm
    rcases h1 with h1 | h1
    · rw [if_pos (by omega), if_neg (by omega)]
      rfl
    · rw [if_neg (by omega), if_neg (by omega), if_neg (by omega)]
      rfl
  · refine Eq.trans ?_ (refX_in _ _ k d ⟨k.val - 2, by omega⟩ (by show k.val = k.val - 2 + 2; omega)).symm
    refine Eq.trans ?_ (hx e ⟨k.val - 2, by omega⟩ (by show k.val - 2 + 8 = _; omega))
    by_cases h2 : e.val < 8
    · rw [if_pos h2, if_pos (by omega)]
      rfl
    · rw [if_neg h2]
      by_cases h3 : e.val < 520
      · rw [if_pos h3]
      · rw [if_neg h3, if_pos (by omega)]
        rfl

/-- One entry of the first result, from what the four taps, the weights and the bias read. -/
theorem conv_point (r : Fin 512) (l : Fin 128) (d : Fin 512) (x : Fin 528 → EReal)
    (b w0 : FVec Ideal S1x128 .f32) (x0 : FVec Ideal S1x512x128 .f32) (w1 : FVec Ideal S1x128 .f32) (x1 : FVec Ideal S1x512x128 .f32)
    (w2 : FVec Ideal S1x128 .f32) (x2 : FVec Ideal S1x512x128 .f32) (w3 : FVec Ideal S1x128 .f32) (x3 : FVec Ideal S1x512x128 .f32)
    (h0 : x0 (ix3 0 r l) = slab (CL t) (CR t) x ⟨6 + r.val, by omega⟩)
    (h1 : x1 (ix3 0 r l) = slab (CL t) (CR t) x ⟨7 + r.val, by omega⟩)
    (h2 : x2 (ix3 0 r l) = slab (CL t) (CR t) x ⟨8 + r.val, by omega⟩)
    (h3 : x3 (ix3 0 r l) = slab (CL t) (CR t) x ⟨9 + r.val, by omega⟩)
    (hb : b (ix2 0 l) = (m ((c.tc : Thread nD τ).loc main_arg5) : FVec Ideal S1x512 .f32) (ix2 0 d))
    (hw0 : w0 (ix2 0 l) = (m ((c.tc : Thread nD τ).loc main_arg4) : FVec Ideal S1x4x512 .f32) (ix3 0 0 d))
    (hw1 : w1 (ix2 0 l) = (m ((c.tc : Thread nD τ).loc main_arg4) : FVec Ideal S1x4x512 .f32) (ix3 0 1 d))
    (hw2 : w2 (ix2 0 l) = (m ((c.tc : Thread nD τ).loc main_arg4) : FVec Ideal S1x4x512 .f32) (ix3 0 2 d))
    (hw3 : w3 (ix2 0 l) = (m ((c.tc : Thread nD τ).loc main_arg4) : FVec Ideal S1x4x512 .f32) (ix3 0 3 d))
    (hx : ∀ (e : Fin 528) (row : Fin 4096), row.val + 8 = t.val / 8 * 512 + e.val →
      x e = PROJ m c (ix3 ⟨t.val % 8, by omega⟩ row ⟨d.val, by omega⟩)) :
    convPay b w0 x0 w1 x1 w2 x2 w3 x3 (ix3 0 r l) =
      REF0 m c (ix3 ⟨t.val % 8, by omega⟩ ⟨t.val / 8 * 512 + r.val, by have := tile_lt t; omega⟩ d) := by
  have ht := tile_lt t
  refine (convPay_at _ _ _ _ _ _ _ _ _ r l).trans (Eq.trans ?_ (refConv_at _ _ _ _ _ d).symm)
  rw [h0, h1, h2, h3, hb, hw0, hw1, hw2, hw3,
    slab_ref m c t x d hx ⟨6 + r.val, by omega⟩ ⟨t.val / 8 * 512 + r.val, by omega⟩ (by show t.val / 8 * 512 + r.val + 6 = t.val / 8 * 512 + (6 + r.val); omega),
    slab_ref m c t x d hx ⟨7 + r.val, by omega⟩ ⟨1 + (t.val / 8 * 512 + r.val), by omega⟩ (by show 1 + _ + 6 = _ + (7 + r.val); omega),
    slab_ref m c t x d hx ⟨8 + r.val, by omega⟩ ⟨2 + (t.val / 8 * 512 + r.val), by omega⟩ (by show 2 + _ + 6 = _ + (8 + r.val); omega),
    slab_ref m c t x d hx ⟨9 + r.val, by omega⟩ ⟨3 + (t.val / 8 * 512 + r.val), by omega⟩ (by show 3 + _ + 6 = _ + (9 + r.val); omega)]

end point

end Cert.Proof.Inproj0

end
-- ==== Proof.Inproj0.Tap.lean ====
module

public import proofs.«01_k».proof.Proof.Inproj0.Point

@[expose] public section

set_option maxRecDepth 16384

noncomputable section

namespace Cert.Proof.Inproj0

open Idealize.ShloMosaic Idealize.ShloMosaic.TcCoe Idealize.SL.Sem
open Idealize.ShloMosaic.Pipeline (Dat)
open Cert.Kernel4Ideal Cert.Kernel4Ideal.Gen
open Cert.Proof.Inproj (nrm dot conv slab slab_congr)

variable (m : (ℓ : Loc nD τ sig) → Buf (Elt Ideal) ℓ)

/-- A chunk of 512 columns of the weights at offset `o`. -/
theorem w_ld (c : Dev nD) (t : Fin cfg0.N) (o : Nat) (inb : ∀ a : Fin S1024x3072.rank, ![0, o] a + ![1024, 512] a ≤ S1024x3072.size a)
    (k : Fin 1024) (l : Fin 512) (d : Fin 3072) (hd : d.val = o + l.val) :
    (View.ld (iblk m c 5 t) (Rect.unit (s := S1024x3072) ![0, o] ![1024, 512] inb) : FVec Ideal S1024x512 .bf16) (ix2 k l) =
      (m ((c.tc : Thread nD τ).loc main_arg3) : FVec Ideal S1x1024x3072 .f32) (ix3 0 k d) := by
  refine Eq.trans (congrArg (iblk m c 5 t) (?_ : _ = ix2 k d)) (rd5 m c t k d)
  refine funext (Fin.forall_fin_succ.mpr ⟨Fin.ext ?_, Fin.forall_fin_succ.mpr ⟨Fin.ext ?_, fun a => a.elim0⟩⟩)
  · show 0 + 1 * k.val = k.val; omega
  · show o + 1 * l.val = d.val; omega

/-- The products of a grid point's 528 rows with the first 512 columns, the convolution's. -/
abbrev XX (c : Dev nD) (t : Fin cfg0.N) (inb : ∀ a : Fin S1024x3072.rank, ![0, 0] a + ![1024, 512] a ≤ S1024x3072.size a) : FVec Ideal S528x512 .f32 :=
  k0_pay5 (F := Ideal) (UU m c t) (k0_pay4 (F := Ideal) (View.ld (iblk m c 5 t) (Rect.unit (s := S1024x3072) ![0, 0] ![1024, 512] inb)))

/-- They are the reference's projection. -/
theorem xx_at (c : Dev nD) (t : Fin cfg0.N) (inb) (l : Fin 512) (e : Fin 528) (row : Fin 4096)
    (h : row.val + 8 = t.val / 8 * 512 + e.val) :
    XX m c t inb (ix2 e l) = PROJ m c (ix3 ⟨t.val % 8, by omega⟩ row ⟨l.val, by omega⟩) := by
  refine (pay5_at _ _ e l).trans (dot_at m c t e row h _ _ fun k => ?_)
  exact w_ld m c t 0 inb k l _ (by show l.val = 0 + l.val; omega)

/-- The convolution's bias as a slab of 128 columns at offset `o` reads it. -/
theorem bias_ld (c : Dev nD) (t : Fin cfg0.N) (o : Nat) (inb : ∀ a : Fin S1x512.rank, ![0, o] a + ![1, 128] a ≤ S1x512.size a) (l : Fin 128) (d : Fin 512) (hd : d.val = o + l.val) :
    (View.ld (iblk m c 7 t) (Rect.unit (s := S1x512) ![0, o] ![1, 128] inb) : FVec Ideal S1x128 .f32) (ix2 0 l) =
      (m ((c.tc : Thread nD τ).loc main_arg5) : FVec Ideal S1x512 .f32) (ix2 0 d) := by
  refine Eq.trans (congrArg (iblk m c 7 t) (?_ : _ = ix2 0 d)) (rd7 m c t d)
  refine funext (Fin.forall_fin_succ.mpr ⟨Fin.ext ?_, Fin.forall_fin_succ.mpr ⟨Fin.ext ?_, fun a => a.elim0⟩⟩)
  · show 0 + 1 * 0 = 0; omega
  · show o + 1 * l.val = d.val; omega

/-- Tap `k`'s weights likewise. -/
theorem tap_ld (c : Dev nD) (t : Fin cfg0.N) (k : Nat) (o : Nat) (inb : ∀ a : Fin S4x512.rank, ![k, o] a + ![1, 128] a ≤ S4x512.size a) (hk : k < 4) (l : Fin 128) (d : Fin 512) (hd : d.val = o + l.val) :
    (View.ld (iblk m c 6 t) (Rect.unit (s := S4x512) ![k, o] ![1, 128] inb) : FVec Ideal S1x128 .f32) (ix2 0 l) =
      (m ((c.tc : Thread nD τ).loc main_arg4) : FVec Ideal S1x4x512 .f32) (ix3 0 ⟨k, hk⟩ d) := by
  refine Eq.trans (congrArg (iblk m c 6 t) (?_ : _ = ix2 ⟨k, hk⟩ d)) (rd6 m c t ⟨k, hk⟩ d)
  refine funext (Fin.forall_fin_succ.mpr ⟨Fin.ext ?_, Fin.forall_fin_succ.mpr ⟨Fin.ext ?_, fun a => a.elim0⟩⟩)
  · show k + 1 * 0 = k; omega
  · show o + 1 * l.val = d.val; omega

/-- One entry of a slab of 128 columns: if its taps read the products' slab, its convolution is the reference's. -/
theorem conv_tile (c : Dev nD) (t : Fin cfg0.N) (C : Nat) (inb) (r : Fin 512) (l : Fin 128) (d : Fin 512)
    (hd : d.val = C + l.val)
    (b w0 : FVec Ideal S1x128 .f32) (x0 : FVec Ideal S1x512x128 .f32) (w1 : FVec Ideal S1x128 .f32) (x1 : FVec Ideal S1x512x128 .f32)
    (w2 : FVec Ideal S1x128 .f32) (x2 : FVec Ideal S1x512x128 .f32) (w3 : FVec Ideal S1x128 .f32) (x3 : FVec Ideal S1x512x128 .f32)
    (i9 : ∀ a : Fin S1x512.rank, ![0, C] a + ![1, 128] a ≤ S1x512.size a)
    (i0 : ∀ a : Fin S4x512.rank, ![0, C] a + ![1, 128] a ≤ S4x512.size a) (i1 : ∀ a : Fin S4x512.rank, ![1, C] a + ![1, 128] a ≤ S4x512.size a)
    (i2 : ∀ a : Fin S4x512.rank, ![2, C] a + ![1, 128] a ≤ S4x512.size a) (i3 : ∀ a : Fin S4x512.rank, ![3, C] a + ![1, 128] a ≤ S4x512.size a)
    (hb : b = View.ld (iblk m c 7 t) (Rect.unit (s := S1x512) ![0, C] ![1, 128] i9))
    (hw0 : w0 = View.ld (iblk m c 6 t) (Rect.unit (s := S4x512) ![0, C] ![1, 128] i0))
    (hw1 : w1 = View.ld (iblk m c 6 t) (Rect.unit (s := S4x512) ![1, C] ![1, 128] i1))
    (hw2 : w2 = View.ld (iblk m c 6 t) (Rect.unit (s := S4x512) ![2, C] ![1, 128] i2))
    (hw3 : w3 = View.ld (iblk m c 6 t) (Rect.unit (s := S4x512) ![3, C] ![1, 128] i3))
    (h0 : x0 (ix3 0 r l) = slab (CL t) (CR t) (fun e => XX m c t inb (ix2 e d)) ⟨6 + r.val, by omega⟩)
    (h1 : x1 (ix3 0 r l) = slab (CL t) (CR t) (fun e => XX m c t inb (ix2 e d)) ⟨7 + r.val, by omega⟩)
    (h2 : x2 (ix3 0 r l) = slab (CL t) (CR t) (fun e => XX m c t inb (ix2 e d)) ⟨8 + r.val, by omega⟩)
    (h3 : x3 (ix3 0 r l) = slab (CL t) (CR t) (fun e => XX m c t inb (ix2 e d)) ⟨9 + r.val, by omega⟩) :
    convPay b w0 x0 w1 x1 w2 x2 w3 x3 (ix3 0 r l) =
      REF0 m c (ix3 ⟨t.val % 8, by omega⟩ ⟨t.val / 8 * 512 + r.val, by have := tile_lt t; omega⟩ d) := by
  refine conv_point m c t r l d _ b w0 x0 w1 x1 w2 x2 w3 x3 h0 h1 h2 h3 ?_ ?_ ?_ ?_ ?_ (fun e row h => xx_at m c t inb d e row h)
  · rw [hb]; exact bias_ld m c t C i9 l d hd
  · rw [hw0]; exact tap_ld m c t 0 C i0 (by omega) l d hd
  · rw [hw1]; exact tap_ld m c t 1 C i1 (by omega) l d hd
  · rw [hw2]; exact tap_ld m c t 2 C i2 (by omega) l d hd
  · rw [hw3]; exact tap_ld m c t 3 C i3 (by omega) l d hd

end Cert.Proof.Inproj0

end
-- ==== Proof.Inproj0.Gate.lean ====
module

public import proofs.«01_k».proof.Proof.Inproj0.Tap

@[expose] public section

set_option maxRecDepth 16384

noncomputable section

namespace Cert.Proof.Inproj0

open Idealize.ShloMosaic Idealize.ShloMosaic.TcCoe Idealize.SL.Sem
open Idealize.ShloMosaic.Pipeline (Dat)
open Cert.Kernel4Ideal Cert.Kernel4Ideal.Gen
open Cert.Proof.Inproj (nrm dot conv slab slab_congr)

variable (m : (ℓ : Loc nD τ sig) → Buf (Elt Ideal) ℓ)

/-- The kernel's rope with the tables it is given is the reference's: the products with the tables' zeros drop out. -/
theorem ropeK_eq (f : Fin 512 → EReal) (c s1 s2 : Fin 128 → EReal) (x y : FVec Ideal S4096x32 .f32) (T : Fin 4096)
    (hc : ∀ (l : Fin 128) (j : Fin 32), j.val = l.val % 64 / 32 * 16 + l.val % 16 → c l = x (ix2 T j))
    (h1 : ∀ (l : Fin 128) (j : Fin 32), j.val = l.val % 64 / 32 * 16 + l.val % 16 → s1 l = sinA y T l j)
    (h2 : ∀ (l : Fin 128) (j : Fin 32), j.val = l.val % 64 / 32 * 16 + l.val % 16 → s2 l = sinB y T l j) (d : Fin 512) :
    ropeK f c s1 s2 d = rope f (fun j => x (ix2 T j)) (fun j => y (ix2 T j)) d := by
  have hd := d.isLt
  have hj : d.val % 64 / 32 * 16 + d.val % 16 = d.val % 128 % 64 / 32 * 16 + d.val % 128 % 16 := by omega
  unfold ropeK rope
  rw [hc ⟨d.val % 128, by omega⟩ ⟨d.val % 64 / 32 * 16 + d.val % 16, by omega⟩ hj, h1 ⟨d.val % 128, by omega⟩ ⟨d.val % 64 / 32 * 16 + d.val % 16, by omega⟩ hj,
    h2 ⟨d.val % 128, by omega⟩ ⟨d.val % 64 / 32 * 16 + d.val % 16, by omega⟩ hj]
  unfold sinA sinB
  by_cases hh : d.val % 32 < 16
  · have h3 : d.val % 128 % 32 < 16 := by omega
    have h4 : (⟨(d.val + 16) % 512, by omega⟩ : Fin 512) = ⟨d.val + 16, by omega⟩ := Fin.ext (by show (d.val + 16) % 512 = d.val + 16; omega)
    rw [if_pos h3, if_pos h3, dif_pos hh, h4, mul_neg, mul_zero, add_zero, sub_eq_add_neg]
  · have h3 : ¬ d.val % 128 % 32 < 16 := by omega
    have h4 : (⟨(d.val + 496) % 512, by omega⟩ : Fin 512) = ⟨d.val - 16, by omega⟩ := Fin.ext (by show (d.val + 496) % 512 = d.val - 16; omega)
    rw [if_neg h3, if_neg h3, dif_neg hh, h4, mul_zero, add_zero, add_comm]

/-- One entry of the recurrence's gate. -/
theorem point1 (c : Dev nD) (t : Fin cfg0.N) (inb : ∀ a : Fin S1024x3072.rank, ![0, 512] a + ![1024, 512] a ≤ S1024x3072.size a) (r l : Fin 512) :
    k0_pay33 (F := Ideal) (UM m c t) (k0_pay32 (F := Ideal) (View.ld (iblk m c 5 t) (Rect.unit (s := S1024x3072) ![0, 512] ![1024, 512] inb))) (ix3 0 r l) = REF1 m c (ix3 ⟨t.val % 8, by omega⟩ ⟨t.val / 8 * 512 + r.val, by have := tile_lt t; omega⟩ l) := by
  refine (pay33_at _ _ r l).trans (Eq.trans ?_ (refC1_at _ _ _ l).symm)
  exact dotm_at m c t r _ rfl _ _ fun k => w_ld m c t 512 inb k l _ rfl

/-- One entry of the values. -/
theorem point4 (c : Dev nD) (t : Fin cfg0.N) (inb : ∀ a : Fin S1024x3072.rank, ![0, 2048] a + ![1024, 512] a ≤ S1024x3072.size a) (r l : Fin 512) :
    k0_pay37 (F := Ideal) (UM m c t) (View.ld (iblk m c 5 t) (Rect.unit (s := S1024x3072) ![0, 2048] ![1024, 512] inb)) (ix3 0 r l) = REF4 m c (ix3 ⟨t.val % 8, by omega⟩ ⟨t.val / 8 * 512 + r.val, by have := tile_lt t; omega⟩ l) := by
  refine (pay37_at _ _ r l).trans (Eq.trans ?_ (refC4_at _ _ _ l).symm)
  exact dotm_at m c t r _ rfl _ _ fun k => w_ld m c t 2048 inb k l _ rfl

/-- One entry of the attention's gate. -/
theorem point5 (c : Dev nD) (t : Fin cfg0.N) (inb : ∀ a : Fin S1024x3072.rank, ![0, 2560] a + ![1024, 512] a ≤ S1024x3072.size a) (r l : Fin 512) :
    k0_pay1 (F := Ideal) (k0_pay38 (F := Ideal) (UM m c t) (View.ld (iblk m c 5 t) (Rect.unit (s := S1024x3072) ![0, 2560] ![1024, 512] inb))) (ix3 0 r l) = REF5 m c (ix3 ⟨t.val % 8, by omega⟩ ⟨t.val / 8 * 512 + r.val, by have := tile_lt t; omega⟩ l) := by
  refine (pay38_at _ _ r l).trans (Eq.trans ?_ (refC5_at _ _ _ l).symm)
  exact dotm_at m c t r _ rfl _ _ fun k => w_ld m c t 2560 inb k l _ rfl

/-- The rope of a row of the queries' products, with the tables of its block. -/
theorem turn2 (c : Dev nD) (t : Fin cfg0.N) (inb : ∀ a : Fin S1024x3072.rank, ![0, 1024] a + ![1024, 512] a ≤ S1024x3072.size a) (r l : Fin 512) (e : Fin 1024) (he : e.val = 0 + l.val) :
    ropeK (fun d => dot (fun k => UM m c t (ix2 r k)) (fun k => (View.ld (iblk m c 5 t) (Rect.unit (s := S1024x3072) ![0, 1024] ![1024, 512] inb) : FVec Ideal S1024x512 .bf16) (ix2 k d)))
      (fun j => (iblk m c 8 t : FVec Ideal S512x128 .f32) (ix2 r j)) (fun j => (iblk m c 9 t : FVec Ideal S512x128 .f32) (ix2 r j))
      (fun j => (iblk m c 10 t : FVec Ideal S512x128 .f32) (ix2 r j)) l =
      refRope (PROJ m c) (m ((c.tc : Thread nD τ).loc main_arg6)) (m ((c.tc : Thread nD τ).loc main_arg7)) (ix3 ⟨t.val % 8, by omega⟩ ⟨t.val / 8 * 512 + r.val, by have := tile_lt t; omega⟩ e) := by
  refine (ropeK_eq _ _ _ _ (m ((c.tc : Thread nD τ).loc main_arg6)) (m ((c.tc : Thread nD τ).loc main_arg7)) ⟨t.val / 8 * 512 + r.val, by have := tile_lt t; omega⟩ (rd8 m c t r) (rd9 m c t r) (rd10 m c t r) l).trans ?_
  refine (refRope_at (PROJ m c) (m ((c.tc : Thread nD τ).loc main_arg6)) (m ((c.tc : Thread nD τ).loc main_arg7)) _ _ _ 0 (by omega) (fun k j hj => ?_) l e he).symm
  exact dotm_at m c t r _ rfl _ _ fun k' => w_ld m c t 1024 inb k' k _ (by rw [hj]; omega)

/-- The rope of a row of the keys' products, with the tables of its block. -/
theorem turn3 (c : Dev nD) (t : Fin cfg0.N) (inb : ∀ a : Fin S1024x3072.rank, ![0, 1536] a + ![1024, 512] a ≤ S1024x3072.size a) (r l : Fin 512) (e : Fin 1024) (he : e.val = 512 + l.val) :
    ropeK (fun d => dot (fun k => UM m c t (ix2 r k)) (fun k => (View.ld (iblk m c 5 t) (Rect.unit (s := S1024x3072) ![0, 1536] ![1024, 512] inb) : FVec Ideal S1024x512 .bf16) (ix2 k d)))
      (fun j => (iblk m c 8 t : FVec Ideal S512x128 .f32) (ix2 r j)) (fun j => (iblk m c 9 t : FVec Ideal S512x128 .f32) (ix2 r j))
      (fun j => (iblk m c 10 t : FVec Ideal S512x128 .f32) (ix2 r j)) l =
      refRope (PROJ m c) (m ((c.tc : Thread nD τ).loc main_arg6)) (m ((c.tc : Thread nD τ).loc main_arg7)) (ix3 ⟨t.val % 8, by omega⟩ ⟨t.val / 8 * 512 + r.val, by have := tile_lt t; omega⟩ e) := by
  refine (ropeK_eq _ _ _ _ (m ((c.tc : Thread nD τ).loc main_arg6)) (m ((c.tc : Thread nD τ).loc main_arg7)) ⟨t.val / 8 * 512 + r.val, by have := tile_lt t; omega⟩ (rd8 m c t r) (rd9 m c t r) (rd10 m c t r) l).trans ?_
  refine (refRope_at (PROJ m c) (m ((c.tc : Thread nD τ).loc main_arg6)) (m ((c.tc : Thread nD τ).loc main_arg7)) _ _ _ 512 (by omega) (fun k j hj => ?_) l e he).symm
  exact dotm_at m c t r _ rfl _ _ fun k' => w_ld m c t 1536 inb k' k _ (by rw [hj]; omega)

/-- One entry of the queries. -/
theorem point2 (c : Dev nD) (t : Fin cfg0.N) (inb : ∀ a : Fin S1024x3072.rank, ![0, 1024] a + ![1024, 512] a ≤ S1024x3072.size a) (r l : Fin 512) :
    k0_pay34 (F := Ideal) (UM m c t) (View.ld (iblk m c 5 t) (Rect.unit (s := S1024x3072) ![0, 1024] ![1024, 512] inb)) (iblk m c 8 t) (iblk m c 9 t) (iblk m c 10 t) (ix3 0 r l) = REF2 m c (ix3 ⟨t.val % 8, by omega⟩ ⟨t.val / 8 * 512 + r.val, by have := tile_lt t; omega⟩ l) := by
  refine (pay34_at _ _ _ _ _ r l).trans (Eq.trans ?_ (refQ_at _ _ _ l).symm)
  exact congrArg (fun z : EReal => z * Ideal.ofBits .f32 0x3E38AA3B#32) (turn2 m c t inb r l _ (by show l.val = 0 + l.val; omega))

/-- One entry of the keys. -/
theorem point3 (c : Dev nD) (t : Fin cfg0.N) (inb : ∀ a : Fin S1024x3072.rank, ![0, 1536] a + ![1024, 512] a ≤ S1024x3072.size a) (r l : Fin 512) :
    k0_pay36 (F := Ideal) (k0_pay35 (F := Ideal) (UM m c t) (View.ld (iblk m c 5 t) (Rect.unit (s := S1024x3072) ![0, 1536] ![1024, 512] inb))) (iblk m c 8 t) (iblk m c 9 t) (iblk m c 10 t) (ix3 0 r l) = REF3 m c (ix3 ⟨t.val % 8, by omega⟩ ⟨t.val / 8 * 512 + r.val, by have := tile_lt t; omega⟩ l) := by
  refine (pay36_at _ _ _ _ r l).trans (Eq.trans ?_ (refK_at _ _ _ l).symm)
  refine Eq.trans ?_ (turn3 m c t inb r l _ rfl)
  exact congrArg (fun f => ropeK f _ _ _ l) (funext fun d => pay35_at _ _ r d)

set_option maxHeartbeats 1600000 in
/-- THE SECOND RESULT ARRAY after the kernel's run is the reference's of the same arguments. -/
theorem final1 (c : Dev nD) : (dats m 0 c).arrAt 12 (cfgs 0).N = REF1 m c := by
  refine (dats m 0 c).arrAt_eq_of_covers 12 _ (by decide +kernel) fun t _ y => ?_
  blk_simp
  rw [after0_12]
  unfold outsAt0
  frame_out
  idx_vars y
  have he : ((View.whole main_v30_1).slice (win0_12.rect t)).emb (ix3 y0 y1 y2) =
      (ix3 ⟨t.val % 8, by omega⟩ ⟨t.val / 8 * 512 + y1.val, by have := tile_lt t; omega⟩ y2 : S8x4096x512.Idx) := by
    blk_ext [idx t]
  refine Eq.trans ?_ (congrArg (REF1 m c) he.symm)
  obtain rfl : y0 = 0 := Subsingleton.elim (α := Fin 1) _ _
  exact point1 m c t _ y1 y2

set_option maxHeartbeats 1600000 in
/-- THE THIRD RESULT ARRAY after the kernel's run is the reference's of the same arguments. -/
theorem final2 (c : Dev nD) : (dats m 0 c).arrAt 13 (cfgs 0).N = REF2 m c := by
  refine (dats m 0 c).arrAt_eq_of_covers 13 _ (by decide +kernel) fun t _ y => ?_
  blk_simp
  rw [after0_13]
  unfold outsAt0
  frame_out
  idx_vars y
  have he : ((View.whole main_v30_2).slice (win0_13.rect t)).emb (ix3 y0 y1 y2) =
      (ix3 ⟨t.val % 8, by omega⟩ ⟨t.val / 8 * 512 + y1.val, by have := tile_lt t; omega⟩ y2 : S8x4096x512.Idx) := by
    blk_ext [idx t]
  refine Eq.trans ?_ (congrArg (REF2 m c) he.symm)
  obtain rfl : y0 = 0 := Subsingleton.elim (α := Fin 1) _ _
  exact point2 m c t _ y1 y2

set_option maxHeartbeats 1600000 in
/-- THE FOURTH RESULT ARRAY after the kernel's run is the reference's of the same arguments. -/
theorem final3 (c : Dev nD) : (dats m 0 c).arrAt 14 (cfgs 0).N = REF3 m c := by
  refine (dats m 0 c).arrAt_eq_of_covers 14 _ (by decide +kernel) fun t _ y => ?_
  blk_simp
  rw [after0_14]
  unfold outsAt0
  frame_out
  idx_vars y
  have he : ((View.whole main_v30_3).slice (win0_14.rect t)).emb (ix3 y0 y1 y2) =
      (ix3 ⟨t.val % 8, by omega⟩ ⟨t.val / 8 * 512 + y1.val, by have := tile_lt t; omega⟩ y2 : S8x4096x512.Idx) := by
    blk_ext [idx t]
  refine Eq.trans ?_ (congrArg (REF3 m c) he.symm)
  obtain rfl : y0 = 0 := Subsingleton.elim (α := Fin 1) _ _
  exact point3 m c t _ y1 y2

set_option maxHeartbeats 1600000 in
/-- THE FIFTH RESULT ARRAY after the kernel's run is the reference's of the same arguments. -/
theorem final4 (c : Dev nD) : (dats m 0 c).arrAt 15 (cfgs 0).N = REF4 m c := by
  refine (dats m 0 c).arrAt_eq_of_covers 15 _ (by decide +kernel) fun t _ y => ?_
  blk_simp
  rw [after0_15]
  unfold outsAt0
  frame_out
  idx_vars y
  have he : ((View.whole main_v30_4).slice (win0_15.rect t)).emb (ix3 y0 y1 y2) =
      (ix3 ⟨t.val % 8, by omega⟩ ⟨t.val / 8 * 512 + y1.val, by have := tile_lt t; omega⟩ y2 : S8x4096x512.Idx) := by
    blk_ext [idx t]
  refine Eq.trans ?_ (congrArg (REF4 m c) he.symm)
  obtain rfl : y0 = 0 := Subsingleton.elim (α := Fin 1) _ _
  exact point4 m c t _ y1 y2

set_option maxHeartbeats 1600000 in
/-- THE SIXTH RESULT ARRAY after the kernel's run is the reference's of the same arguments. -/
theorem final5 (c : Dev nD) : (dats m 0 c).arrAt 16 (cfgs 0).N = REF5 m c := by
  refine (dats m 0 c).arrAt_eq_of_covers 16 _ (by decide +kernel) fun t _ y => ?_
  blk_simp
  rw [after0_16]
  unfold outsAt0
  frame_out
  idx_vars y
  have he : ((View.whole main_v30_5).slice (win0_16.rect t)).emb (ix3 y0 y1 y2) =
      (ix3 ⟨t.val % 8, by omega⟩ ⟨t.val / 8 * 512 + y1.val, by have := tile_lt t; omega⟩ y2 : S8x4096x512.Idx) := by
    blk_ext [idx t]
  refine Eq.trans ?_ (congrArg (REF5 m c) he.symm)
  obtain rfl : y0 = 0 := Subsingleton.elim (α := Fin 1) _ _
  exact point5 m c t _ y1 y2

end Cert.Proof.Inproj0

end
-- ==== Proof.Inproj0.Cuts.lean ====
module

public import proofs.«01_k».proof.Proof.Inproj0.Body

@[expose] public section

set_option maxRecDepth 16384

noncomputable section

namespace Cert.Proof.Inproj0

open Idealize.ShloMosaic Idealize.SL.Sem
open Cert.Kernel4Ideal Cert.Kernel4Ideal.Gen
open Cert.Proof.Inproj (dot conv slab slab_congr)

/-- What a tap reads of slab 0: the products of the step's rows with the slab's columns, with the zeros around the array. -/
theorem slab0 {sig : RefSig} {κ : Kind} {sp : Space} {v : View sig κ sp S4x528x128 .f32} (a : BitVec 32) (u : FVec Ideal S528x1024 .bf16)
    (w : FVec Ideal S1024x512 .bf16) (i1 i2 i3) (o : Nat) (i4 : ∀ a : Fin S4x528x128.rank, ![0, o, 0] a + ![1, 512, 128] a ≤ S4x528x128.size a)
    (L : List (View.Piece (Elt Ideal) S4x528x128 .f32)) (ho : o ≤ 16) (r : Fin 512) (l : Fin 128) :
    v.readCov (Val := Elt Ideal) (⟨Rect.unit (s := S4x528x128) ![0, 520, 0] ![1, 8, 128] i1, (k0_pay10 (F := Ideal) a u (k0_pay4 (F := Ideal) w))⟩ ::
      ⟨Rect.unit (s := S4x528x128) ![0, 8, 0] ![1, 512, 128] i2, (k0_pay9 (F := Ideal) u (k0_pay4 (F := Ideal) w))⟩ ::
      ⟨Rect.unit (s := S4x528x128) ![0, 0, 0] ![1, 8, 128] i3, (k0_pay8 (F := Ideal) a u (k0_pay4 (F := Ideal) w))⟩ :: L)
      (Rect.unit (s := S4x528x128) ![0, o, 0] ![1, 512, 128] i4).toLoadRect (ix3 0 r l) =
        slab (Scalar.cmpi .sge a 1#32) (Scalar.cmpi .sle a 6#32) (fun e => (k0_pay5 (F := Ideal) u (k0_pay4 (F := Ideal) w)) (ix2 e ⟨0 + l.val, by omega⟩)) ⟨o + r.val, by omega⟩ := by
  have h : (⟨0 + l.val, by omega⟩ : Fin 512) = ⟨l.val, by omega⟩ := Fin.ext (Nat.zero_add _)
  rw [h]
  exact readSlab 0 _ _ _ (Scalar.cmpi .sge a 1#32) (Scalar.cmpi .sle a 6#32) (fun e l => (k0_pay5 (F := Ideal) u (k0_pay4 (F := Ideal) w)) (ix2 e ⟨l.val, by omega⟩))
    (left0_at (Scalar.cmpi .sge a 1#32) (Scalar.cmpi .sle a 6#32) (k0_pay5 (F := Ideal) u (k0_pay4 (F := Ideal) w))) (mid0_at (Scalar.cmpi .sge a 1#32) (Scalar.cmpi .sle a 6#32) (k0_pay5 (F := Ideal) u (k0_pay4 (F := Ideal) w))) (right0_at (Scalar.cmpi .sge a 1#32) (Scalar.cmpi .sle a 6#32) (k0_pay5 (F := Ideal) u (k0_pay4 (F := Ideal) w))) i1 i2 i3 o i4 L ho r l

/-- What a tap reads of slab 1: the products of the step's rows with the slab's columns, with the zeros around the array. -/
theorem slab1 {sig : RefSig} {κ : Kind} {sp : Space} {v : View sig κ sp S4x528x128 .f32} (a : BitVec 32) (u : FVec Ideal S528x1024 .bf16)
    (w : FVec Ideal S1024x512 .bf16) (i1 i2 i3) (o : Nat) (i4 : ∀ a : Fin S4x528x128.rank, ![1, o, 0] a + ![1, 512, 128] a ≤ S4x528x128.size a)
    (L : List (View.Piece (Elt Ideal) S4x528x128 .f32)) (ho : o ≤ 16) (r : Fin 512) (l : Fin 128) :
    v.readCov (Val := Elt Ideal) (⟨Rect.unit (s := S4x528x128) ![1, 520, 0] ![1, 8, 128] i1, (k0_pay15 (F := Ideal) (k0_pay14 (F := Ideal) a u (k0_pay4 (F := Ideal) w)))⟩ ::
      ⟨Rect.unit (s := S4x528x128) ![1, 8, 0] ![1, 512, 128] i2, (k0_pay13 (F := Ideal) u (k0_pay4 (F := Ideal) w))⟩ ::
      ⟨Rect.unit (s := S4x528x128) ![1, 0, 0] ![1, 8, 128] i3, (k0_pay12 (F := Ideal) a u (k0_pay4 (F := Ideal) w))⟩ :: L)
      (Rect.unit (s := S4x528x128) ![1, o, 0] ![1, 512, 128] i4).toLoadRect (ix3 0 r l) =
        slab (Scalar.cmpi .sge a 1#32) (Scalar.cmpi .sle a 6#32) (fun e => (k0_pay5 (F := Ideal) u (k0_pay4 (F := Ideal) w)) (ix2 e ⟨128 + l.val, by omega⟩)) ⟨o + r.val, by omega⟩ :=
  readSlab 1 _ _ _ (Scalar.cmpi .sge a 1#32) (Scalar.cmpi .sle a 6#32) (fun e l => (k0_pay5 (F := Ideal) u (k0_pay4 (F := Ideal) w)) (ix2 e ⟨128 + l.val, by omega⟩))
    (left1_at (Scalar.cmpi .sge a 1#32) (Scalar.cmpi .sle a 6#32) (k0_pay5 (F := Ideal) u (k0_pay4 (F := Ideal) w))) (mid1_at (Scalar.cmpi .sge a 1#32) (Scalar.cmpi .sle a 6#32) (k0_pay5 (F := Ideal) u (k0_pay4 (F := Ideal) w))) (right1_at (Scalar.cmpi .sge a 1#32) (Scalar.cmpi .sle a 6#32) (k0_pay5 (F := Ideal) u (k0_pay4 (F := Ideal) w))) i1 i2 i3 o i4 L ho r l

/-- What a tap reads of slab 2: the products of the step's rows with the slab's columns, with the zeros around the array. -/
theorem slab2 {sig : RefSig} {κ : Kind} {sp : Space} {v : View sig κ sp S4x528x128 .f32} (a : BitVec 32) (u : FVec Ideal S528x1024 .bf16)
    (w : FVec Ideal S1024x512 .bf16) (i1 i2 i3) (o : Nat) (i4 : ∀ a : Fin S4x528x128.rank, ![2, o, 0] a + ![1, 512, 128] a ≤ S4x528x128.size a)
    (L : List (View.Piece (Elt Ideal) S4x528x128 .f32)) (ho : o ≤ 16) (r : Fin 512) (l : Fin 128) :
    v.readCov (Val := Elt Ideal) (⟨Rect.unit (s := S4x528x128) ![2, 520, 0] ![1, 8, 128] i1, (k0_pay19 (F := Ideal) (k0_pay5 (F := Ideal) u (k0_pay4 (F := Ideal) w)) (Scalar.cmpi .sle a 6#32) (k0_pay6 (F := Ideal)))⟩ ::
      ⟨Rect.unit (s := S4x528x128) ![2, 8, 0] ![1, 512, 128] i2, (k0_pay18 (F := Ideal) (k0_pay5 (F := Ideal) u (k0_pay4 (F := Ideal) w)))⟩ ::
      ⟨Rect.unit (s := S4x528x128) ![2, 0, 0] ![1, 8, 128] i3, (k0_pay17 (F := Ideal) (k0_pay5 (F := Ideal) u (k0_pay4 (F := Ideal) w)) (Scalar.cmpi .sge a 1#32) (k0_pay6 (F := Ideal)))⟩ :: L)
      (Rect.unit (s := S4x528x128) ![2, o, 0] ![1, 512, 128] i4).toLoadRect (ix3 0 r l) =
        slab (Scalar.cmpi .sge a 1#32) (Scalar.cmpi .sle a 6#32) (fun e => (k0_pay5 (F := Ideal) u (k0_pay4 (F := Ideal) w)) (ix2 e ⟨256 + l.val, by omega⟩)) ⟨o + r.val, by omega⟩ :=
  readSlab 2 _ _ _ (Scalar.cmpi .sge a 1#32) (Scalar.cmpi .sle a 6#32) (fun e l => (k0_pay5 (F := Ideal) u (k0_pay4 (F := Ideal) w)) (ix2 e ⟨256 + l.val, by omega⟩))
    (left2_at (Scalar.cmpi .sge a 1#32) (Scalar.cmpi .sle a 6#32) (k0_pay5 (F := Ideal) u (k0_pay4 (F := Ideal) w))) (mid2_at (Scalar.cmpi .sge a 1#32) (Scalar.cmpi .sle a 6#32) (k0_pay5 (F := Ideal) u (k0_pay4 (F := Ideal) w))) (right2_at (Scalar.cmpi .sge a 1#32) (Scalar.cmpi .sle a 6#32) (k0_pay5 (F := Ideal) u (k0_pay4 (F := Ideal) w))) i1 i2 i3 o i4 L ho r l

/-- What a tap reads of slab 3: the products of the step's rows with the slab's columns, with the zeros around the array. -/
theorem slab3 {sig : RefSig} {κ : Kind} {sp : Space} {v : View sig κ sp S4x528x128 .f32} (a : BitVec 32) (u : FVec Ideal S528x1024 .bf16)
    (w : FVec Ideal S1024x512 .bf16) (i1 i2 i3) (o : Nat) (i4 : ∀ a : Fin S4x528x128.rank, ![3, o, 0] a + ![1, 512, 128] a ≤ S4x528x128.size a)
    (L : List (View.Piece (Elt Ideal) S4x528x128 .f32)) (ho : o ≤ 16) (r : Fin 512) (l : Fin 128) :
    v.readCov (Val := Elt Ideal) (⟨Rect.unit (s := S4x528x128) ![3, 520, 0] ![1, 8, 128] i1, (k0_pay23 (F := Ideal) (k0_pay5 (F := Ideal) u (k0_pay4 (F := Ideal) w)) (Scalar.cmpi .sle a 6#32) (k0_pay6 (F := Ideal)))⟩ ::
      ⟨Rect.unit (s := S4x528x128) ![3, 8, 0] ![1, 512, 128] i2, (k0_pay22 (F := Ideal) (k0_pay5 (F := Ideal) u (k0_pay4 (F := Ideal) w)))⟩ ::
      ⟨Rect.unit (s := S4x528x128) ![3, 0, 0] ![1, 8, 128] i3, (k0_pay21 (F := Ideal) (k0_pay5 (F := Ideal) u (k0_pay4 (F := Ideal) w)) (Scalar.cmpi .sge a 1#32) (k0_pay6 (F := Ideal)))⟩ :: L)
      (Rect.unit (s := S4x528x128) ![3, o, 0] ![1, 512, 128] i4).toLoadRect (ix3 0 r l) =
        slab (Scalar.cmpi .sge a 1#32) (Scalar.cmpi .sle a 6#32) (fun e => (k0_pay5 (F := Ideal) u (k0_pay4 (F := Ideal) w)) (ix2 e ⟨384 + l.val, by omega⟩)) ⟨o + r.val, by omega⟩ :=
  readSlab 3 _ _ _ (Scalar.cmpi .sge a 1#32) (Scalar.cmpi .sle a 6#32) (fun e l => (k0_pay5 (F := Ideal) u (k0_pay4 (F := Ideal) w)) (ix2 e ⟨384 + l.val, by omega⟩))
    (left3_at (Scalar.cmpi .sge a 1#32) (Scalar.cmpi .sle a 6#32) (k0_pay5 (F := Ideal) u (k0_pay4 (F := Ideal) w))) (mid3_at (Scalar.cmpi .sge a 1#32) (Scalar.cmpi .sle a 6#32) (k0_pay5 (F := Ideal) u (k0_pay4 (F := Ideal) w))) (right3_at (Scalar.cmpi .sge a 1#32) (Scalar.cmpi .sle a 6#32) (k0_pay5 (F := Ideal) u (k0_pay4 (F := Ideal) w))) i1 i2 i3 o i4 L ho r l

/-- Slab 0's stored result is the convolution of its taps. -/
theorem out0 (b w0 : FVec Ideal S1x128 .f32) (x0 : FVec Ideal S1x512x128 .f32) (w1 : FVec Ideal S1x128 .f32) (x1 : FVec Ideal S1x512x128 .f32)
    (w2 : FVec Ideal S1x128 .f32) (x2 : FVec Ideal S1x512x128 .f32) (w3 : FVec Ideal S1x128 .f32) (x3 : FVec Ideal S1x512x128 .f32) :
    k0_pay25 (F := Ideal) (shapeCast S1x128 b shapeCasts_S1x128_S1x128) w0 x0 w1 x1 w2 x2 w3 x3 = convPay b w0 x0 w1 x1 w2 x2 w3 x3 := rfl

/-- Slab 1's stored result is the convolution of its taps. -/
theorem out1 (b w0 : FVec Ideal S1x128 .f32) (x0 : FVec Ideal S1x512x128 .f32) (w1 : FVec Ideal S1x128 .f32) (x1 : FVec Ideal S1x512x128 .f32)
    (w2 : FVec Ideal S1x128 .f32) (x2 : FVec Ideal S1x512x128 .f32) (w3 : FVec Ideal S1x128 .f32) (x3 : FVec Ideal S1x512x128 .f32) :
    k0_pay27 (F := Ideal) (k0_pay26 (F := Ideal) b) w0 x0 w1 x1 w2 x2 w3 x3 = convPay b w0 x0 w1 x1 w2 x2 w3 x3 := rfl

/-- Slab 2's stored result is the convolution of its taps. -/
theorem out2 (b w0 : FVec Ideal S1x128 .f32) (x0 : FVec Ideal S1x512x128 .f32) (w1 : FVec Ideal S1x128 .f32) (x1 : FVec Ideal S1x512x128 .f32)
    (w2 : FVec Ideal S1x128 .f32) (x2 : FVec Ideal S1x512x128 .f32) (w3 : FVec Ideal S1x128 .f32) (x3 : FVec Ideal S1x512x128 .f32) :
    k0_pay29 (F := Ideal) (k0_pay28 (F := Ideal) b) w0 x0 w1 x1 w2 x2 w3 x3 = convPay b w0 x0 w1 x1 w2 x2 w3 x3 := rfl

/-- Slab 3's stored result is the convolution of its taps. -/
theorem out3 (b w0 : FVec Ideal S1x128 .f32) (x0 : FVec Ideal S1x512x128 .f32) (w1 : FVec Ideal S1x128 .f32) (x1 : FVec Ideal S1x512x128 .f32)
    (w2 : FVec Ideal S1x128 .f32) (x2 : FVec Ideal S1x512x128 .f32) (w3 : FVec Ideal S1x128 .f32) (x3 : FVec Ideal S1x512x128 .f32) :
    k0_pay31 (F := Ideal) (k0_pay30 (F := Ideal) b) w0 x0 w1 x1 w2 x2 w3 x3 = convPay b w0 x0 w1 x1 w2 x2 w3 x3 := rfl

end Cert.Proof.Inproj0

end
-- ==== Proof.Inproj0.Scan.lean ====
module

public import proofs.«01_k».proof.Proof.Inproj0.Tap
public import proofs.«01_k».proof.Proof.Inproj0.Cuts

@[expose] public section

set_option maxRecDepth 16384

noncomputable section

namespace Cert.Proof.Inproj0

open Idealize.ShloMosaic Idealize.ShloMosaic.TcCoe Idealize.SL.Sem
open Idealize.ShloMosaic.Pipeline (Dat)
open Cert.Kernel4Ideal Cert.Kernel4Ideal.Gen
open Cert.Proof.Inproj (nrm dot conv slab slab_congr)

variable (m : (ℓ : Loc nD τ sig) → Buf (Elt Ideal) ℓ)

set_option maxHeartbeats 6400000 in
/-- THE FIRST RESULT ARRAY after the kernel's run is the reference's convolution of the same arguments. -/
theorem final_conv (c : Dev nD) : (dats m 0 c).arrAt 11 (cfgs 0).N = REF0 m c := by
  refine (dats m 0 c).arrAt_eq_of_covers 11 _ (by decide +kernel) fun t _ y => ?_
  blk_simp
  rw [after0_11]
  unfold outsAt0
  frame_out
  canon_tiles x h
  · idx_vars x
    have he : ((View.whole main_v30_0).slice (win0_11.rect t)).emb y =
        (ix3 ⟨t.val % 8, by omega⟩ ⟨t.val / 8 * 512 + x1.val, by have := tile_lt t; omega⟩ ⟨384 + x2.val, by omega⟩ : S8x4096x512.Idx) := by
      blk_ext [idx t]
    refine Eq.trans ?_ (congrArg (REF0 m c) he.symm)
    obtain rfl : x0 = 0 := Subsingleton.elim (α := Fin 1) _ _
    refine (congrFun (out3 _ _ _ _ _ _ _ _ _) _).trans ?_
    refine conv_tile m c t 384 inb_S1024x3072_S1024x512_0_0 x1 x2 ⟨384 + x2.val, by omega⟩ rfl _ _ _ _ _ _ _ _ _ _ _ _ _ _ rfl rfl rfl rfl rfl ?_ ?_ ?_ ?_
    · exact slab3 (BitVec.ofNat 32 (grid0.coords t 0).val) (UU m c t) _ _ _ _ 6 _ _ (by omega) x1 x2
    · exact slab3 (BitVec.ofNat 32 (grid0.coords t 0).val) (UU m c t) _ _ _ _ 7 _ _ (by omega) x1 x2
    · exact slab3 (BitVec.ofNat 32 (grid0.coords t 0).val) (UU m c t) _ _ _ _ 8 _ _ (by omega) x1 x2
    · exact slab3 (BitVec.ofNat 32 (grid0.coords t 0).val) (UU m c t) _ _ _ _ 9 _ _ (by omega) x1 x2
  · idx_vars x
    have he : ((View.whole main_v30_0).slice (win0_11.rect t)).emb y =
        (ix3 ⟨t.val % 8, by omega⟩ ⟨t.val / 8 * 512 + x1.val, by have := tile_lt t; omega⟩ ⟨256 + x2.val, by omega⟩ : S8x4096x512.Idx) := by
      blk_ext [idx t]
    refine Eq.trans ?_ (congrArg (REF0 m c) he.symm)
    obtain rfl : x0 = 0 := Subsingleton.elim (α := Fin 1) _ _
    refine (congrFun (out2 _ _ _ _ _ _ _ _ _) _).trans ?_
    refine conv_tile m c t 256 inb_S1024x3072_S1024x512_0_0 x1 x2 ⟨256 + x2.val, by omega⟩ rfl _ _ _ _ _ _ _ _ _ _ _ _ _ _ rfl rfl rfl rfl rfl ?_ ?_ ?_ ?_
    · rw [View.readCov_skip _ _ _ _ _ (by rfl), View.readCov_skip _ _ _ _ _ (by rfl), View.readCov_skip _ _ _ _ _ (by rfl)]; exact slab2 (BitVec.ofNat 32 (grid0.coords t 0).val) (UU m c t) _ _ _ _ 6 _ _ (by omega) x1 x2
    · rw [View.readCov_skip _ _ _ _ _ (by rfl), View.readCov_skip _ _ _ _ _ (by rfl), View.readCov_skip _ _ _ _ _ (by rfl)]; exact slab2 (BitVec.ofNat 32 (grid0.coords t 0).val) (UU m c t) _ _ _ _ 7 _ _ (by omega) x1 x2
    · rw [View.readCov_skip _ _ _ _ _ (by rfl), View.readCov_skip _ _ _ _ _ (by rfl), View.readCov_skip _ _ _ _ _ (by rfl)]; exact slab2 (BitVec.ofNat 32 (grid0.coords t 0).val) (UU m c t) _ _ _ _ 8 _ _ (by omega) x1 x2
    · rw [View.readCov_skip _ _ _ _ _ (by rfl), View.readCov_skip _ _ _ _ _ (by rfl), View.readCov_skip _ _ _ _ _ (by rfl)]; exact slab2 (BitVec.ofNat 32 (grid0.coords t 0).val) (UU m c t) _ _ _ _ 9 _ _ (by omega) x1 x2
  · idx_vars x
    have he : ((View.whole main_v30_0).slice (win0_11.rect t)).emb y =
        (ix3 ⟨t.val % 8, by omega⟩ ⟨t.val / 8 * 512 + x1.val, by have := tile_lt t; omega⟩ ⟨128 + x2.val, by omega⟩ : S8x4096x512.Idx) := by
      blk_ext [idx t]
    refine Eq.trans ?_ (congrArg (REF0 m c) he.symm)
    obtain rfl : x0 = 0 := Subsingleton.elim (α := Fin 1) _ _
    refine (congrFun (out1 _ _ _ _ _ _ _ _ _) _).trans ?_
    refine conv_tile m c t 128 inb_S1024x3072_S1024x512_0_0 x1 x2 ⟨128 + x2.val, by omega⟩ rfl _ _ _ _ _ _ _ _ _ _ _ _ _ _ rfl rfl rfl rfl rfl ?_ ?_ ?_ ?_
    · rw [View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl)]; exact slab1 (BitVec.ofNat 32 (grid0.coords t 0).val) (UU m c t) _ _ _ _ 6 _ _ (by omega) x1 x2
    · rw [View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl)]; exact slab1 (BitVec.ofNat 32 (grid0.coords t 0).val) (UU m c t) _ _ _ _ 7 _ _ (by omega) x1 x2
    · rw [View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl)]; exact slab1 (BitVec.ofNat 32 (grid0.coords t 0).val) (UU m c t) _ _ _ _ 8 _ _ (by omega) x1 x2
    · rw [View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl)]; exact slab1 (BitVec.ofNat 32 (grid0.coords t 0).val) (UU m c t) _ _ _ _ 9 _ _ (by omega) x1 x2
  · idx_vars x
    have he : ((View.whole main_v30_0).slice (win0_11.rect t)).emb y =
        (ix3 ⟨t.val % 8, by omega⟩ ⟨t.val / 8 * 512 + x1.val, by have := tile_lt t; omega⟩ ⟨0 + x2.val, by omega⟩ : S8x4096x512.Idx) := by
      blk_ext [idx t]
    refine Eq.trans ?_ (congrArg (REF0 m c) he.symm)
    obtain rfl : x0 = 0 := Subsingleton.elim (α := Fin 1) _ _
    refine (congrFun (out0 _ _ _ _ _ _ _ _ _) _).trans ?_
    refine conv_tile m c t 0 inb_S1024x3072_S1024x512_0_0 x1 x2 ⟨0 + x2.val, by omega⟩ rfl _ _ _ _ _ _ _ _ _ _ _ _ _ _ rfl rfl rfl rfl rfl ?_ ?_ ?_ ?_
    · rw [View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl)]; exact slab0 (BitVec.ofNat 32 (grid0.coords t 0).val) (UU m c t) _ _ _ _ 6 _ _ (by omega) x1 x2
    · rw [View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl)]; exact slab0 (BitVec.ofNat 32 (grid0.coords t 0).val) (UU m c t) _ _ _ _ 7 _ _ (by omega) x1 x2
    · rw [View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl)]; exact slab0 (BitVec.ofNat 32 (grid0.coords t 0).val) (UU m c t) _ _ _ _ 8 _ _ (by omega) x1 x2
    · rw [View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl)]; exact slab0 (BitVec.ofNat 32 (grid0.coords t 0).val) (UU m c t) _ _ _ _ 9 _ _ (by omega) x1 x2

end Cert.Proof.Inproj0

end
-- ==== Proof.Inproj0.Claim.lean ====
module

public import proofs.«01_k».proof.Defs
public import proofs.«01_k».proof.Proof.Gen.Kernel4.Frame
public import proofs.«01_k».proof.Proof.Gen.Reference4Ideal.Run
public import proofs.«01_k».proof.Proof.Inproj0.Gate
public import proofs.«01_k».proof.Proof.Inproj0.Scan

@[expose] public section

set_option maxRecDepth 16384

noncomputable section

namespace Cert.Proof.Inproj0

open Idealize.ShloMosaic Idealize.SL.Sem

/-- The kernel terminates without a fault, leaves its arguments as they are and every semaphore at zero. -/
theorem frame_kernel : Cert.quiescent_Kernel4 (hKernel4 := Cert.Kernel4.Gen.facts) :=
  fun m ρ _ => Cert.Kernel4.Gen.frame m ρ

/-- The same of the kernel over the reals with infinities. -/
theorem frame_ideal : Cert.quiescent_Kernel4Ideal (hKernel4Ideal := Cert.Kernel4Ideal.Gen.facts) :=
  fun m ρ _ => Cert.Kernel4Ideal.Gen.frame m ρ

/-- The reference, a line of host operations without a semaphore, leaves its arguments as they are. -/
theorem frame_reference : Cert.quiescent_Reference4Ideal (hReference4Ideal := Cert.Reference4Ideal.Gen.facts) :=
  fun m ρ _ => (θ_run Cert.Reference4Ideal.defs _ _).mono
    (fun r h => ⟨fun c => (h c).2.2.2.2.2.2, Idealize.ShloMosaic.sem_eq_zero_of_no_sems (by decide) r.2⟩)
    (Cert.Reference4Ideal.Value.run m ρ)

set_option maxHeartbeats 1600000 in
/-- Over the reals with infinities, kernel and reference compute the same six arrays from the same arguments: the convolution, the
recurrence's gate, the queries, the keys, the values and the attention's gate. -/
theorem algebraic : Cert.algebraic_Kernel4Ideal_Reference4Ideal (hKernel4Ideal := Cert.Kernel4Ideal.Gen.facts)
    (hReference4Ideal := Cert.Reference4Ideal.Gen.facts) := by
  pair_intro
  · run_from Cert.Kernel4Ideal.Gen.run_main m g & Cert.Kernel4Ideal.Gen.unchanged m g
    exact hc.1 16
  · run_from Cert.Reference4Ideal.Value.run m' g'
    all_goals obtain ⟨h0, h1, h2, h3, h4, h5, h6, h7⟩ := hagree c
    · refine ((res_eq0 m' c).trans ?_).trans (final_conv m c).symm
      rw [h0, h1, h2, h3, h4, h5]
    · exact (final1 m c).symm
    · refine ((res_eq2 m' c).trans ?_).trans (final2 m c).symm
      rw [h0, h1, h2, h3, h6, h7]
    · refine ((res_eq3 m' c).trans ?_).trans (final3 m c).symm
      rw [h0, h1, h2, h3, h6, h7]
    · exact (final4 m c).symm
    · exact (final5 m c).symm

end Cert.Proof.Inproj0

end
-- ==== Proof.lean ====
/- The proof of everything this certificate claims, assembled from the claims of each program. -/
module

public import proofs.«01_k».proof.Defs
public import proofs.«01_k».proof.Proof.Finish.Claim
public import proofs.«01_k».proof.Proof.Inproj.Claim
public import proofs.«01_k».proof.Proof.Outproj.Claim
public import proofs.«01_k».proof.Proof.Inproj0.Claim
public import proofs.«01_k».proof.Proof.Gen.Kernel2Ideal.Value
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run

@[expose] public section

noncomputable section

namespace Cert.Proof

/-- Every claim: the frames of each call's three programs, that nothing was rewritten on the way to the reals, and the equality of results. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Finish.frame_kernel, Finish.frame_ideal, Finish.frame_reference,
  Inproj.frame_kernel, Inproj.frame_ideal, Inproj.frame_reference,
  Outproj.frame_kernel, Outproj.frame_ideal, Outproj.frame_reference,
  Inproj0.frame_kernel, Inproj0.frame_ideal, Inproj0.frame_reference,
  trivial, Finish.algebraic, trivial, Inproj.algebraic, trivial, Outproj.algebraic, trivial, Inproj0.algebraic⟩

end Cert.Proof

end
